-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_vocabulary_KernelIdeal [hPre_ids_in_vocabulary_KernelIdeal : Cert.Pre_ids_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocabulary_ReferenceIdeal [hPre_ids_in_vocabulary_ReferenceIdeal : Cert.Pre_ids_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_vocabulary_KernelIdeal [hKernelIdeal : Cert.KernelIdeal.Facts] [hPre_ids_in_vocabulary_KernelIdeal : Cert.Pre_ids_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_vocabulary_ReferenceIdeal [hReferenceIdeal : Cert.ReferenceIdeal.Facts] [hPre_ids_in_vocabulary_ReferenceIdeal : Cert.Pre_ids_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_vocabulary_KernelIdeal [hKernelIdeal : Cert.KernelIdeal.Facts] [hReferenceIdeal : Cert.ReferenceIdeal.Facts] [hPre_ids_in_vocabulary_KernelIdeal : Cert.Pre_ids_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![32768, 2048]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_vocabulary_KernelIdeal : Cert.Pre_ids_in_vocabulary_KernelIdeal.Facts) (hPre_ids_in_vocabulary_ReferenceIdeal : Cert.Pre_ids_in_vocabulary_ReferenceIdeal.Facts),
    quiescent_Kernel (hKernel := hKernel)
    ∧ quiescent_KernelIdeal (hKernelIdeal := hKernelIdeal)
    ∧ quiescent_KernelIdeal_pre_ids_in_vocabulary_KernelIdeal (hKernelIdeal := hKernelIdeal) (hPre_ids_in_vocabulary_KernelIdeal := hPre_ids_in_vocabulary_KernelIdeal)
    ∧ quiescent_ReferenceIdeal (hReferenceIdeal := hReferenceIdeal)
    ∧ quiescent_ReferenceIdeal_pre_ids_in_vocabulary_ReferenceIdeal (hReferenceIdeal := hReferenceIdeal) (hPre_ids_in_vocabulary_ReferenceIdeal := hPre_ids_in_vocabulary_ReferenceIdeal)
    ∧ preserves_Kernel_KernelIdeal
    ∧ algebraic_KernelIdeal_ReferenceIdeal_pre_ids_in_vocabulary_KernelIdeal (hKernelIdeal := hKernelIdeal) (hReferenceIdeal := hReferenceIdeal) (hPre_ids_in_vocabulary_KernelIdeal := hPre_ids_in_vocabulary_KernelIdeal)
-- ==== Pre_ids_in_vocabulary_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S8192x2048 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Pre_ids_in_vocabulary_ReferenceIdeal.lean ====
abbrev S4096 : Shape := ⟨1, ![4096]⟩
abbrev S32768x2048 : Shape := ⟨2, ![32768, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S32768x2048 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Kernel.lean ====
abbrev S4096 : Shape := ⟨1, ![4096]⟩
abbrev S8192x2048 : Shape := ⟨2, ![8192, 2048]⟩
abbrev S4096x2048 : Shape := ⟨2, ![4096, 2048]⟩
abbrev S3x1024x512 : Shape := ⟨3, ![3, 1024, 512]⟩
abbrev S_ : Shape := ⟨0, ![]⟩
abbrev S6 : Shape := ⟨1, ![6]⟩
abbrev S3 : Shape := ⟨1, ![3]⟩
abbrev S20 : Shape := ⟨1, ![20]⟩
abbrev S1024x512 : Shape := ⟨2, ![1024, 512]⟩
abbrev S1 : Shape := ⟨1, ![1]⟩
abbrev S1x512 : Shape := ⟨2, ![1, 512]⟩
abbrev S1x1024x512 : Shape := ⟨3, ![1, 1024, 512]⟩
abbrev S1024x128 : Shape := ⟨2, ![1024, 128]⟩
abbrev S1024x256 : Shape := ⟨2, ![1024, 256]⟩

abbrev nBuf : Space → Nat
  | .hbm => 3
  | .vmem => 2
  | .smem => 1
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S4096x2048, .f32⟩
  | .local _ .vmem, ⟨0, _⟩ => ⟨S4096x2048, .f32⟩
  | .local _ .vmem, ⟨1, _⟩ => ⟨S3x1024x512, .f32⟩
  | .local _ .smem, ⟨0, _⟩ => ⟨S4096, .i32⟩
  | _, _ => ⟨S4096, .i32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v30 : BitVec 32 := Scalar.muli v2 c8_i32_18
  let v31 : BitVec 32 := Scalar.addi c0_i32 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v32 : BitVec 32 := Scalar.muli v5 c4_i32_19
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_20 : BitVec 32 := 1#32
  let v34 : BitVec 32 := Scalar.muli v11 c1_i32_20
  let v35 : BitVec 32 := Scalar.addi v33 v34
  v35.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v36 : BitVec 32 := Scalar.muli v2 c8_i32_22
  let v37 : BitVec 32 := Scalar.addi c0_i32_23 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v38 : BitVec 32 := Scalar.muli v5 c4_i32_24
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_25 : BitVec 32 := 1#32
  let v40 : BitVec 32 := Scalar.muli v13 c1_i32_25
  let v41 : BitVec 32 := Scalar.addi v39 v40
  v41.toNat
def k0_dev3 (d0 : Dev nD) : Nat :=
  let c0_i32_28 : BitVec 32 := 0#32
  let c1_i32_15 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_15 v2
  let c8_i32_27 : BitVec 32 := 8#32
  let v42 : BitVec 32 := Scalar.muli v28 c8_i32_27
  let v43 : BitVec 32 := Scalar.addi c0_i32_28 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v44 : BitVec 32 := Scalar.muli v5 c4_i32_29
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v46 : BitVec 32 := Scalar.muli v8 c1_i32_30
  let v47 : BitVec 32 := Scalar.addi v45 v46
  v47.toNat
def k0_dev4 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v48 : BitVec 32 := Scalar.muli v2 c8_i32_32
  let v49 : BitVec 32 := Scalar.addi c0_i32_33 v48
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.subi c1_i32_16 v5
  let c4_i32_34 : BitVec 32 := 4#32
  let v50 : BitVec 32 := Scalar.muli v29 c4_i32_34
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v52 : BitVec 32 := Scalar.muli v8 c1_i32_35
  let v53 : BitVec 32 := Scalar.addi v51 v52
  v53.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v55 : BitVec 32 := Scalar.muli v8 c1024_i32
  let v56 : Index := Scalar.indexCast v55
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  let v57 : Index := Scalar.indexCast v26
  ![v56.toNat, v57.toNat]
@[reducible] def k0_t1_loop : Scf.Loop 32 :=
  let c0_i32_37 : BitVec 32 := 0#32
  let c1024_i32_38 : BitVec 32 := 1024#32
  let v59 : BitVec 32 := Scalar.addi c0_i32_37 c1024_i32_38
  let c1_i32_39 : BitVec 32 := 1#32
  ⟨c0_i32_37, v59, c1_i32_39⟩
def k0_off2 (d0 : Dev nD) (k0_t1 : Fin k0_t1_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_628 : BitVec 32 := 1024#32
  let v980 : BitVec 32 := Scalar.muli v8 c1024_i32_628
  let c0_i32_37 : BitVec 32 := 0#32
  let c1_i32_39 : BitVec 32 := 1#32
  let arg10 : BitVec 32 := Scf.iv c0_i32_37 c1_i32_39 k0_t1
  let v981 : BitVec 32 := Scalar.addi v980 arg10
  let v982 : Index := Scalar.indexCast v981
  ![v982.toNat]
def k0_off3 (d0 : Dev nD) (k0_t1 : Fin k0_t1_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_628 : BitVec 32 := 1024#32
  let v980 : BitVec 32 := Scalar.muli v8 c1024_i32_628
  let c0_i32_37 : BitVec 32 := 0#32
  let c1_i32_39 : BitVec 32 := 1#32
  let arg10 : BitVec 32 := Scf.iv c0_i32_37 c1_i32_39 k0_t1
  let v981 : BitVec 32 := Scalar.addi v980 arg10
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v981.toNat, v26.toNat]
def k0_off4 (d0 : Dev nD) (v983 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v985.toNat, v26.toNat]
def k0_cond1 (d0 : Dev nD) (v983 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let c0_i32_629 : BitVec 32 := 0#32
  let v986 : BitVec 1 := Scalar.cmpi .sge v985 c0_i32_629
  let c8192_i32_630 : BitVec 32 := 8192#32
  let v987 : BitVec 1 := Scalar.cmpi .slt v985 c8192_i32_630
  let v988 : BitVec 1 := Scalar.andi v986 v987
  let v989 : BitVec 32 := Scalar.extui v988
  let c0_i32_631 : BitVec 32 := 0#32
  let v990 : BitVec 1 := Scalar.cmpi .ne v989 c0_i32_631
  v990

def k0_chk1 (d0 : Dev nD) (v983 : BitVec 32) : Prop :=
  (∀ (k0_h1 : k0_cond1 d0 v983 = 1#1), ∀ a, (k0_off4 d0 v983) a + S1x512.size a ≤ S8192x2048.size a)
theorem k0_off4_inb : ∀ (d0 : Dev nD) (v983 : BitVec 32) (k0_hw1 : k0_chk1 d0 v983), ∀ (k0_h1 : k0_cond1 d0 v983 = 1#1), ∀ a, (k0_off4 d0 v983) a + S1x512.size a ≤ S8192x2048.size a := fun d0 v983 k0_hw1 k0_h1 => k0_hw1 k0_h1

@[reducible] def k0_t2_loop (v60 : BitVec 32) : Scf.Loop 32 :=
  let c0_i32_41 : BitVec 32 := 0#32
  let v61 : BitVec 32 := Scalar.subi v60 c0_i32_41
  let c1_i32_43 : BitVec 32 := 1#32
  let v63 : BitVec 32 := Scalar.divsi v61 c1_i32_43
  let v64 : BitVec 32 := Scalar.muli v63 c1_i32_43
  let v65 : BitVec 32 := Scalar.addi c0_i32_41 v64
  let c1_i32_44 : BitVec 32 := 1#32
  ⟨c0_i32_41, v65, c1_i32_44⟩

def k0_off5 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off6 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
@[reducible] def k0_t3_loop (v60 : BitVec 32) : Scf.Loop 32 :=
  let c0_i32_41 : BitVec 32 := 0#32
  let v61 : BitVec 32 := Scalar.subi v60 c0_i32_41
  let c1_i32_43 : BitVec 32 := 1#32
  let v63 : BitVec 32 := Scalar.divsi v61 c1_i32_43
  let v64 : BitVec 32 := Scalar.muli v63 c1_i32_43
  let v65 : BitVec 32 := Scalar.addi c0_i32_41 v64
  let v62 : BitVec 32 := Scalar.addi c0_i32_41 v61
  let c1_i32_45 : BitVec 32 := 1#32
  ⟨v65, v62, c1_i32_45⟩

def k0_chk2 (v60 : BitVec 32) : Prop :=
  ((k0_t2_loop v60).OK) ∧
  ((k0_t3_loop v60).OK)
theorem k0_t2_ok : ∀ (v60 : BitVec 32) (k0_hw2 : k0_chk2 v60), (k0_t2_loop v60).OK := fun v60 k0_hw2 => k0_hw2.1
theorem k0_t3_ok : ∀ (v60 : BitVec 32) (k0_hw2 : k0_chk2 v60), (k0_t3_loop v60).OK := fun v60 k0_hw2 => k0_hw2.2

def k0_off7 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off8 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_47 : BitVec 32 := 4#32
  let v68 : BitVec 32 := Scalar.addi v8 c4_i32_47
  let c0_i32_48 : BitVec 32 := 0#32
  let v69 : BitVec 32 := Scalar.subi v68 c0_i32_48
  let c4_i32_49 : BitVec 32 := 4#32
  let v70 : BitVec 32 := Scalar.remsi v69 c4_i32_49
  let c1024_i32_54 : BitVec 32 := 1024#32
  let v75 : BitVec 32 := Scalar.muli v70 c1024_i32_54
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v75.toNat, v26.toNat]
def k0_dev5 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v76 : BitVec 32 := Scalar.muli v2 c8_i32_58
  let v77 : BitVec 32 := Scalar.addi c0_i32_59 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_60 : BitVec 32 := 4#32
  let v78 : BitVec 32 := Scalar.muli v5 c4_i32_60
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_61 : BitVec 32 := 1#32
  let v80 : BitVec 32 := Scalar.muli v13 c1_i32_61
  let v81 : BitVec 32 := Scalar.addi v79 v80
  v81.toNat
def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_50 : BitVec 32 := 4#32
  let v71 : BitVec 32 := Scalar.addi v8 c4_i32_50
  let c0_i32_51 : BitVec 32 := 0#32
  let v72 : BitVec 32 := Scalar.subi v71 c0_i32_51
  let c1_i32_52 : BitVec 32 := 1#32
  let v73 : BitVec 32 := Scalar.subi v72 c1_i32_52
  let c4_i32_53 : BitVec 32 := 4#32
  let v74 : BitVec 32 := Scalar.remsi v73 c4_i32_53
  let c1024_i32_65 : BitVec 32 := 1024#32
  let v90 : BitVec 32 := Scalar.muli v74 c1024_i32_65
  let v91 : Index := Scalar.indexCast v90
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  let v92 : Index := Scalar.indexCast v26
  ![v91.toNat, v92.toNat]
@[reducible] def k0_t4_loop : Scf.Loop 32 :=
  let c0_i32_67 : BitVec 32 := 0#32
  let c1024_i32_68 : BitVec 32 := 1024#32
  let v94 : BitVec 32 := Scalar.addi c0_i32_67 c1024_i32_68
  let c1_i32_69 : BitVec 32 := 1#32
  ⟨c0_i32_67, v94, c1_i32_69⟩
def k0_off11 (d0 : Dev nD) (k0_t4 : Fin k0_t4_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_50 : BitVec 32 := 4#32
  let v71 : BitVec 32 := Scalar.addi v8 c4_i32_50
  let c0_i32_51 : BitVec 32 := 0#32
  let v72 : BitVec 32 := Scalar.subi v71 c0_i32_51
  let c1_i32_52 : BitVec 32 := 1#32
  let v73 : BitVec 32 := Scalar.subi v72 c1_i32_52
  let c4_i32_53 : BitVec 32 := 4#32
  let v74 : BitVec 32 := Scalar.remsi v73 c4_i32_53
  let c1024_i32_628 : BitVec 32 := 1024#32
  let v980 : BitVec 32 := Scalar.muli v74 c1024_i32_628
  let c0_i32_67 : BitVec 32 := 0#32
  let c1_i32_69 : BitVec 32 := 1#32
  let arg10 : BitVec 32 := Scf.iv c0_i32_67 c1_i32_69 k0_t4
  let v981 : BitVec 32 := Scalar.addi v980 arg10
  let v982 : Index := Scalar.indexCast v981
  ![v982.toNat]
def k0_off12 (d0 : Dev nD) (k0_t4 : Fin k0_t4_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_50 : BitVec 32 := 4#32
  let v71 : BitVec 32 := Scalar.addi v8 c4_i32_50
  let c0_i32_51 : BitVec 32 := 0#32
  let v72 : BitVec 32 := Scalar.subi v71 c0_i32_51
  let c1_i32_52 : BitVec 32 := 1#32
  let v73 : BitVec 32 := Scalar.subi v72 c1_i32_52
  let c4_i32_53 : BitVec 32 := 4#32
  let v74 : BitVec 32 := Scalar.remsi v73 c4_i32_53
  let c1024_i32_628 : BitVec 32 := 1024#32
  let v980 : BitVec 32 := Scalar.muli v74 c1024_i32_628
  let c0_i32_67 : BitVec 32 := 0#32
  let c1_i32_69 : BitVec 32 := 1#32
  let arg10 : BitVec 32 := Scf.iv c0_i32_67 c1_i32_69 k0_t4
  let v981 : BitVec 32 := Scalar.addi v980 arg10
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v981.toNat, v26.toNat]
def k0_off13 (d0 : Dev nD) (v983 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v985.toNat, v26.toNat]
def k0_cond2 (d0 : Dev nD) (v983 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let c0_i32_629 : BitVec 32 := 0#32
  let v986 : BitVec 1 := Scalar.cmpi .sge v985 c0_i32_629
  let c8192_i32_630 : BitVec 32 := 8192#32
  let v987 : BitVec 1 := Scalar.cmpi .slt v985 c8192_i32_630
  let v988 : BitVec 1 := Scalar.andi v986 v987
  let v989 : BitVec 32 := Scalar.extui v988
  let c0_i32_631 : BitVec 32 := 0#32
  let v990 : BitVec 1 := Scalar.cmpi .ne v989 c0_i32_631
  v990

def k0_chk3 (d0 : Dev nD) (v983 : BitVec 32) : Prop :=
  (∀ (k0_h2 : k0_cond2 d0 v983 = 1#1), ∀ a, (k0_off13 d0 v983) a + S1x512.size a ≤ S8192x2048.size a)
theorem k0_off13_inb : ∀ (d0 : Dev nD) (v983 : BitVec 32) (k0_hw3 : k0_chk3 d0 v983), ∀ (k0_h2 : k0_cond2 d0 v983 = 1#1), ∀ a, (k0_off13 d0 v983) a + S1x512.size a ≤ S8192x2048.size a := fun d0 v983 k0_hw3 k0_h2 => k0_hw3 k0_h2

@[reducible] def k0_t5_loop (v95 : BitVec 32) : Scf.Loop 32 :=
  let c0_i32_71 : BitVec 32 := 0#32
  let v96 : BitVec 32 := Scalar.subi v95 c0_i32_71
  let c1_i32_73 : BitVec 32 := 1#32
  let v98 : BitVec 32 := Scalar.divsi v96 c1_i32_73
  let v99 : BitVec 32 := Scalar.muli v98 c1_i32_73
  let v100 : BitVec 32 := Scalar.addi c0_i32_71 v99
  let c1_i32_74 : BitVec 32 := 1#32
  ⟨c0_i32_71, v100, c1_i32_74⟩

def k0_off14 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off15 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
@[reducible] def k0_t6_loop (v95 : BitVec 32) : Scf.Loop 32 :=
  let c0_i32_71 : BitVec 32 := 0#32
  let v96 : BitVec 32 := Scalar.subi v95 c0_i32_71
  let c1_i32_73 : BitVec 32 := 1#32
  let v98 : BitVec 32 := Scalar.divsi v96 c1_i32_73
  let v99 : BitVec 32 := Scalar.muli v98 c1_i32_73
  let v100 : BitVec 32 := Scalar.addi c0_i32_71 v99
  let v97 : BitVec 32 := Scalar.addi c0_i32_71 v96
  let c1_i32_75 : BitVec 32 := 1#32
  ⟨v100, v97, c1_i32_75⟩

def k0_chk4 (v95 : BitVec 32) : Prop :=
  ((k0_t5_loop v95).OK) ∧
  ((k0_t6_loop v95).OK)
theorem k0_t5_ok : ∀ (v95 : BitVec 32) (k0_hw4 : k0_chk4 v95), (k0_t5_loop v95).OK := fun v95 k0_hw4 => k0_hw4.1
theorem k0_t6_ok : ∀ (v95 : BitVec 32) (k0_hw4 : k0_chk4 v95), (k0_t6_loop v95).OK := fun v95 k0_hw4 => k0_hw4.2

def k0_off16 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off17 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off18 (d0 : Dev nD) (c0_i32_48 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_47 : BitVec 32 := 4#32
  let v68 : BitVec 32 := Scalar.addi v8 c4_i32_47
  let v69 : BitVec 32 := Scalar.subi v68 c0_i32_48
  let c4_i32_49 : BitVec 32 := 4#32
  let v70 : BitVec 32 := Scalar.remsi v69 c4_i32_49
  let c1024_i32_54 : BitVec 32 := 1024#32
  let v75 : BitVec 32 := Scalar.muli v70 c1024_i32_54
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v75.toNat, v26.toNat]
def k0_off19 (d0 : Dev nD) (c0_i32_51 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_50 : BitVec 32 := 4#32
  let v71 : BitVec 32 := Scalar.addi v8 c4_i32_50
  let v72 : BitVec 32 := Scalar.subi v71 c0_i32_51
  let c1_i32_52 : BitVec 32 := 1#32
  let v73 : BitVec 32 := Scalar.subi v72 c1_i32_52
  let c4_i32_53 : BitVec 32 := 4#32
  let v74 : BitVec 32 := Scalar.remsi v73 c4_i32_53
  let c1024_i32_91 : BitVec 32 := 1024#32
  let v119 : BitVec 32 := Scalar.muli v74 c1024_i32_91
  let v120 : Index := Scalar.indexCast v119
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  let v121 : Index := Scalar.indexCast v26
  ![v120.toNat, v121.toNat]
def k0_dev6 (d0 : Dev nD) : Nat :=
  let c0_i32_107 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_106 : BitVec 32 := 8#32
  let v139 : BitVec 32 := Scalar.muli v2 c8_i32_106
  let v140 : BitVec 32 := Scalar.addi c0_i32_107 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_108 : BitVec 32 := 4#32
  let v141 : BitVec 32 := Scalar.muli v5 c4_i32_108
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_109 : BitVec 32 := 1#32
  let v143 : BitVec 32 := Scalar.muli v13 c1_i32_109
  let v144 : BitVec 32 := Scalar.addi v142 v143
  v144.toNat
@[reducible] def k0_t7_loop : Scf.Loop 32 :=
  let c0_i32_115 : BitVec 32 := 0#32
  let c1024_i32_116 : BitVec 32 := 1024#32
  let v157 : BitVec 32 := Scalar.addi c0_i32_115 c1024_i32_116
  let c1_i32_117 : BitVec 32 := 1#32
  ⟨c0_i32_115, v157, c1_i32_117⟩
def k0_off20 (d0 : Dev nD) (k0_t7 : Fin k0_t7_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_98 : BitVec 32 := 4#32
  let v134 : BitVec 32 := Scalar.addi v8 c4_i32_98
  let c1_i32_99 : BitVec 32 := 1#32
  let v135 : BitVec 32 := Scalar.subi v134 c1_i32_99
  let c1_i32_100 : BitVec 32 := 1#32
  let v136 : BitVec 32 := Scalar.subi v135 c1_i32_100
  let c4_i32_101 : BitVec 32 := 4#32
  let v137 : BitVec 32 := Scalar.remsi v136 c4_i32_101
  let c1024_i32_628 : BitVec 32 := 1024#32
  let v980 : BitVec 32 := Scalar.muli v137 c1024_i32_628
  let c0_i32_115 : BitVec 32 := 0#32
  let c1_i32_117 : BitVec 32 := 1#32
  let arg10 : BitVec 32 := Scf.iv c0_i32_115 c1_i32_117 k0_t7
  let v981 : BitVec 32 := Scalar.addi v980 arg10
  let v982 : Index := Scalar.indexCast v981
  ![v982.toNat]
def k0_off21 (d0 : Dev nD) (k0_t7 : Fin k0_t7_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_98 : BitVec 32 := 4#32
  let v134 : BitVec 32 := Scalar.addi v8 c4_i32_98
  let c1_i32_99 : BitVec 32 := 1#32
  let v135 : BitVec 32 := Scalar.subi v134 c1_i32_99
  let c1_i32_100 : BitVec 32 := 1#32
  let v136 : BitVec 32 := Scalar.subi v135 c1_i32_100
  let c4_i32_101 : BitVec 32 := 4#32
  let v137 : BitVec 32 := Scalar.remsi v136 c4_i32_101
  let c1024_i32_628 : BitVec 32 := 1024#32
  let v980 : BitVec 32 := Scalar.muli v137 c1024_i32_628
  let c0_i32_115 : BitVec 32 := 0#32
  let c1_i32_117 : BitVec 32 := 1#32
  let arg10 : BitVec 32 := Scf.iv c0_i32_115 c1_i32_117 k0_t7
  let v981 : BitVec 32 := Scalar.addi v980 arg10
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v981.toNat, v26.toNat]
def k0_off22 (d0 : Dev nD) (v983 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v985.toNat, v26.toNat]
def k0_cond3 (d0 : Dev nD) (v983 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let c0_i32_629 : BitVec 32 := 0#32
  let v986 : BitVec 1 := Scalar.cmpi .sge v985 c0_i32_629
  let c8192_i32_630 : BitVec 32 := 8192#32
  let v987 : BitVec 1 := Scalar.cmpi .slt v985 c8192_i32_630
  let v988 : BitVec 1 := Scalar.andi v986 v987
  let v989 : BitVec 32 := Scalar.extui v988
  let c0_i32_631 : BitVec 32 := 0#32
  let v990 : BitVec 1 := Scalar.cmpi .ne v989 c0_i32_631
  v990

def k0_chk5 (d0 : Dev nD) (v983 : BitVec 32) : Prop :=
  (∀ (k0_h3 : k0_cond3 d0 v983 = 1#1), ∀ a, (k0_off22 d0 v983) a + S1x512.size a ≤ S8192x2048.size a)
theorem k0_off22_inb : ∀ (d0 : Dev nD) (v983 : BitVec 32) (k0_hw5 : k0_chk5 d0 v983), ∀ (k0_h3 : k0_cond3 d0 v983 = 1#1), ∀ a, (k0_off22 d0 v983) a + S1x512.size a ≤ S8192x2048.size a := fun d0 v983 k0_hw5 k0_h3 => k0_hw5 k0_h3

@[reducible] def k0_t8_loop (v158 : BitVec 32) : Scf.Loop 32 :=
  let c0_i32_119 : BitVec 32 := 0#32
  let v159 : BitVec 32 := Scalar.subi v158 c0_i32_119
  let c1_i32_121 : BitVec 32 := 1#32
  let v161 : BitVec 32 := Scalar.divsi v159 c1_i32_121
  let v162 : BitVec 32 := Scalar.muli v161 c1_i32_121
  let v163 : BitVec 32 := Scalar.addi c0_i32_119 v162
  let c1_i32_122 : BitVec 32 := 1#32
  ⟨c0_i32_119, v163, c1_i32_122⟩

def k0_off23 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off24 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
@[reducible] def k0_t9_loop (v158 : BitVec 32) : Scf.Loop 32 :=
  let c0_i32_119 : BitVec 32 := 0#32
  let v159 : BitVec 32 := Scalar.subi v158 c0_i32_119
  let c1_i32_121 : BitVec 32 := 1#32
  let v161 : BitVec 32 := Scalar.divsi v159 c1_i32_121
  let v162 : BitVec 32 := Scalar.muli v161 c1_i32_121
  let v163 : BitVec 32 := Scalar.addi c0_i32_119 v162
  let v160 : BitVec 32 := Scalar.addi c0_i32_119 v159
  let c1_i32_123 : BitVec 32 := 1#32
  ⟨v163, v160, c1_i32_123⟩

def k0_chk6 (v158 : BitVec 32) : Prop :=
  ((k0_t8_loop v158).OK) ∧
  ((k0_t9_loop v158).OK)
theorem k0_t8_ok : ∀ (v158 : BitVec 32) (k0_hw6 : k0_chk6 v158), (k0_t8_loop v158).OK := fun v158 k0_hw6 => k0_hw6.1
theorem k0_t9_ok : ∀ (v158 : BitVec 32) (k0_hw6 : k0_chk6 v158), (k0_t9_loop v158).OK := fun v158 k0_hw6 => k0_hw6.2

def k0_off25 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off26 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off27 (d0 : Dev nD) (c1_i32_96 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_95 : BitVec 32 := 4#32
  let v131 : BitVec 32 := Scalar.addi v8 c4_i32_95
  let v132 : BitVec 32 := Scalar.subi v131 c1_i32_96
  let c4_i32_97 : BitVec 32 := 4#32
  let v133 : BitVec 32 := Scalar.remsi v132 c4_i32_97
  let c1024_i32_102 : BitVec 32 := 1024#32
  let v138 : BitVec 32 := Scalar.muli v133 c1024_i32_102
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v138.toNat, v26.toNat]
def k0_off28 (d0 : Dev nD) (c1_i32_99 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_98 : BitVec 32 := 4#32
  let v134 : BitVec 32 := Scalar.addi v8 c4_i32_98
  let v135 : BitVec 32 := Scalar.subi v134 c1_i32_99
  let c1_i32_100 : BitVec 32 := 1#32
  let v136 : BitVec 32 := Scalar.subi v135 c1_i32_100
  let c4_i32_101 : BitVec 32 := 4#32
  let v137 : BitVec 32 := Scalar.remsi v136 c4_i32_101
  let c1024_i32_139 : BitVec 32 := 1024#32
  let v182 : BitVec 32 := Scalar.muli v137 c1024_i32_139
  let v183 : Index := Scalar.indexCast v182
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  let v184 : Index := Scalar.indexCast v26
  ![v183.toNat, v184.toNat]
def k0_dev7 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v202 : BitVec 32 := Scalar.muli v2 c8_i32_154
  let v203 : BitVec 32 := Scalar.addi c0_i32_155 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_156 : BitVec 32 := 4#32
  let v204 : BitVec 32 := Scalar.muli v5 c4_i32_156
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_157 : BitVec 32 := 1#32
  let v206 : BitVec 32 := Scalar.muli v13 c1_i32_157
  let v207 : BitVec 32 := Scalar.addi v205 v206
  v207.toNat
@[reducible] def k0_t10_loop : Scf.Loop 32 :=
  let c0_i32_163 : BitVec 32 := 0#32
  let c1024_i32_164 : BitVec 32 := 1024#32
  let v220 : BitVec 32 := Scalar.addi c0_i32_163 c1024_i32_164
  let c1_i32_165 : BitVec 32 := 1#32
  ⟨c0_i32_163, v220, c1_i32_165⟩
def k0_off29 (d0 : Dev nD) (k0_t10 : Fin k0_t10_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_146 : BitVec 32 := 4#32
  let v197 : BitVec 32 := Scalar.addi v8 c4_i32_146
  let c2_i32_147 : BitVec 32 := 2#32
  let v198 : BitVec 32 := Scalar.subi v197 c2_i32_147
  let c1_i32_148 : BitVec 32 := 1#32
  let v199 : BitVec 32 := Scalar.subi v198 c1_i32_148
  let c4_i32_149 : BitVec 32 := 4#32
  let v200 : BitVec 32 := Scalar.remsi v199 c4_i32_149
  let c1024_i32_628 : BitVec 32 := 1024#32
  let v980 : BitVec 32 := Scalar.muli v200 c1024_i32_628
  let c0_i32_163 : BitVec 32 := 0#32
  let c1_i32_165 : BitVec 32 := 1#32
  let arg10 : BitVec 32 := Scf.iv c0_i32_163 c1_i32_165 k0_t10
  let v981 : BitVec 32 := Scalar.addi v980 arg10
  let v982 : Index := Scalar.indexCast v981
  ![v982.toNat]
def k0_off30 (d0 : Dev nD) (k0_t10 : Fin k0_t10_loop.trips) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_146 : BitVec 32 := 4#32
  let v197 : BitVec 32 := Scalar.addi v8 c4_i32_146
  let c2_i32_147 : BitVec 32 := 2#32
  let v198 : BitVec 32 := Scalar.subi v197 c2_i32_147
  let c1_i32_148 : BitVec 32 := 1#32
  let v199 : BitVec 32 := Scalar.subi v198 c1_i32_148
  let c4_i32_149 : BitVec 32 := 4#32
  let v200 : BitVec 32 := Scalar.remsi v199 c4_i32_149
  let c1024_i32_628 : BitVec 32 := 1024#32
  let v980 : BitVec 32 := Scalar.muli v200 c1024_i32_628
  let c0_i32_163 : BitVec 32 := 0#32
  let c1_i32_165 : BitVec 32 := 1#32
  let arg10 : BitVec 32 := Scf.iv c0_i32_163 c1_i32_165 k0_t10
  let v981 : BitVec 32 := Scalar.addi v980 arg10
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v981.toNat, v26.toNat]
def k0_off31 (d0 : Dev nD) (v983 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v985.toNat, v26.toNat]
def k0_cond4 (d0 : Dev nD) (v983 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v984 : BitVec 32 := Scalar.muli v8 c8192_i32
  let v985 : BitVec 32 := Scalar.subi v983 v984
  let c0_i32_629 : BitVec 32 := 0#32
  let v986 : BitVec 1 := Scalar.cmpi .sge v985 c0_i32_629
  let c8192_i32_630 : BitVec 32 := 8192#32
  let v987 : BitVec 1 := Scalar.cmpi .slt v985 c8192_i32_630
  let v988 : BitVec 1 := Scalar.andi v986 v987
  let v989 : BitVec 32 := Scalar.extui v988
  let c0_i32_631 : BitVec 32 := 0#32
  let v990 : BitVec 1 := Scalar.cmpi .ne v989 c0_i32_631
  v990

def k0_chk7 (d0 : Dev nD) (v983 : BitVec 32) : Prop :=
  (∀ (k0_h4 : k0_cond4 d0 v983 = 1#1), ∀ a, (k0_off31 d0 v983) a + S1x512.size a ≤ S8192x2048.size a)
theorem k0_off31_inb : ∀ (d0 : Dev nD) (v983 : BitVec 32) (k0_hw7 : k0_chk7 d0 v983), ∀ (k0_h4 : k0_cond4 d0 v983 = 1#1), ∀ a, (k0_off31 d0 v983) a + S1x512.size a ≤ S8192x2048.size a := fun d0 v983 k0_hw7 k0_h4 => k0_hw7 k0_h4

@[reducible] def k0_t11_loop (v221 : BitVec 32) : Scf.Loop 32 :=
  let c0_i32_167 : BitVec 32 := 0#32
  let v222 : BitVec 32 := Scalar.subi v221 c0_i32_167
  let c1_i32_169 : BitVec 32 := 1#32
  let v224 : BitVec 32 := Scalar.divsi v222 c1_i32_169
  let v225 : BitVec 32 := Scalar.muli v224 c1_i32_169
  let v226 : BitVec 32 := Scalar.addi c0_i32_167 v225
  let c1_i32_170 : BitVec 32 := 1#32
  ⟨c0_i32_167, v226, c1_i32_170⟩

def k0_off32 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off33 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
@[reducible] def k0_t12_loop (v221 : BitVec 32) : Scf.Loop 32 :=
  let c0_i32_167 : BitVec 32 := 0#32
  let v222 : BitVec 32 := Scalar.subi v221 c0_i32_167
  let c1_i32_169 : BitVec 32 := 1#32
  let v224 : BitVec 32 := Scalar.divsi v222 c1_i32_169
  let v225 : BitVec 32 := Scalar.muli v224 c1_i32_169
  let v226 : BitVec 32 := Scalar.addi c0_i32_167 v225
  let v223 : BitVec 32 := Scalar.addi c0_i32_167 v222
  let c1_i32_171 : BitVec 32 := 1#32
  ⟨v226, v223, c1_i32_171⟩

def k0_chk8 (v221 : BitVec 32) : Prop :=
  ((k0_t11_loop v221).OK) ∧
  ((k0_t12_loop v221).OK)
theorem k0_t11_ok : ∀ (v221 : BitVec 32) (k0_hw8 : k0_chk8 v221), (k0_t11_loop v221).OK := fun v221 k0_hw8 => k0_hw8.1
theorem k0_t12_ok : ∀ (v221 : BitVec 32) (k0_hw8 : k0_chk8 v221), (k0_t12_loop v221).OK := fun v221 k0_hw8 => k0_hw8.2

def k0_off34 (d0 : Dev nD) : Fin 2 → Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off35 (d0 : Dev nD) : Fin 2 → Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![0, v26.toNat]
def k0_off36 (d0 : Dev nD) (c2_i32_144 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_143 : BitVec 32 := 4#32
  let v194 : BitVec 32 := Scalar.addi v8 c4_i32_143
  let v195 : BitVec 32 := Scalar.subi v194 c2_i32_144
  let c4_i32_145 : BitVec 32 := 4#32
  let v196 : BitVec 32 := Scalar.remsi v195 c4_i32_145
  let c1024_i32_150 : BitVec 32 := 1024#32
  let v201 : BitVec 32 := Scalar.muli v196 c1024_i32_150
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v201.toNat, v26.toNat]
def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_146 : BitVec 32 := 4#32
  let v197 : BitVec 32 := Scalar.addi v8 c4_i32_146
  let c2_i32_147 : BitVec 32 := 2#32
  let v198 : BitVec 32 := Scalar.subi v197 c2_i32_147
  let c1_i32_148 : BitVec 32 := 1#32
  let v199 : BitVec 32 := Scalar.subi v198 c1_i32_148
  let c4_i32_149 : BitVec 32 := 4#32
  let v200 : BitVec 32 := Scalar.remsi v199 c4_i32_149
  let c1024_i32_187 : BitVec 32 := 1024#32
  let v245 : BitVec 32 := Scalar.muli v200 c1024_i32_187
  let v246 : Index := Scalar.indexCast v245
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  let v247 : Index := Scalar.indexCast v26
  ![v246.toNat, v247.toNat]
def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v258 : BitVec 32 := Scalar.addi v8 c1_i32_192
  let c4_i32_193 : BitVec 32 := 4#32
  let v259 : BitVec 32 := Scalar.remsi v258 c4_i32_193
  let c1024_i32_194 : BitVec 32 := 1024#32
  let v260 : BitVec 32 := Scalar.muli v259 c1024_i32_194
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v260.toNat, v26.toNat]
def k0_dev8 (d0 : Dev nD) : Nat :=
  let c0_i32_200 : BitVec 32 := 0#32
  let c1_i32_195 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v261 : BitVec 32 := Scalar.subi c1_i32_195 v2
  let c8_i32_199 : BitVec 32 := 8#32
  let v263 : BitVec 32 := Scalar.muli v261 c8_i32_199
  let v264 : BitVec 32 := Scalar.addi c0_i32_200 v263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201 : BitVec 32 := 4#32
  let v265 : BitVec 32 := Scalar.muli v5 c4_i32_201
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v267 : BitVec 32 := Scalar.muli v8 c1_i32_202
  let v268 : BitVec 32 := Scalar.addi v266 v267
  v268.toNat
def k0_dev9 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v275 : BitVec 32 := Scalar.muli v2 c8_i32_205
  let v276 : BitVec 32 := Scalar.addi c0_i32_206 v275
  let c1_i32_196 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v262 : BitVec 32 := Scalar.subi c1_i32_196 v5
  let c4_i32_207 : BitVec 32 := 4#32
  let v277 : BitVec 32 := Scalar.muli v262 c4_i32_207
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v279 : BitVec 32 := Scalar.muli v8 c1_i32_208
  let v280 : BitVec 32 := Scalar.addi v278 v279
  v280.toNat
def k0_off39 (d0 : Dev nD) (c0_i32_211 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v287 : BitVec 32 := Scalar.addi v8 c1_i32_209
  let c4_i32_210 : BitVec 32 := 4#32
  let v288 : BitVec 32 := Scalar.addi v287 c4_i32_210
  let v289 : BitVec 32 := Scalar.subi v288 c0_i32_211
  let c4_i32_212 : BitVec 32 := 4#32
  let v290 : BitVec 32 := Scalar.remsi v289 c4_i32_212
  let c1024_i32_213 : BitVec 32 := 1024#32
  let v291 : BitVec 32 := Scalar.muli v290 c1024_i32_213
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_7 : BitVec 32 := 2#32
  let v14 : BitVec 32 := Scalar.muli v2 c2_i32_7
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.addi v14 v5
  let c512_i32 : BitVec 32 := 512#32
  let v26 : BitVec 32 := Scalar.muli v15 c512_i32
  ![v291.toNat, v26.toNat]
def k0_dev10 (d0 : Dev nD) : Nat :=
  let c0_i32_216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_215 : BitVec 32 := 8#32
  let v292 : BitVec 32 := Scalar.muli v2 c8_i32_215
  let v293 : BitVec 32 := Scalar.addi c0_i32_216 v292
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_217 : BitVec 32 := 4#32
  let v294 : BitVec 32 := Scalar.muli v5 c4_i32_217
  let v295 : BitVec 32 := Scalar.addi v293 v294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_218 : BitVec 32 := 1#32
  let v296 : BitVec 32 := Scalar.muli v13 c1_i32_218
  let v297 : BitVec 32 := Scalar.addi v295 v296
  v297.toNat
def k0_dev11 (d0 : Dev nD) : Nat :=
  let c0_i32_236 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_235 : BitVec 32 := 8#32
  let v323 : BitVec 32 := Scalar.muli v2 c8_i32_235
  let v324 : BitVec 32 := Scalar.addi c0_i32_236 v323
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_237 : BitVec 32 := 4#32
  let v325 : BitVec 32 := Scalar.muli v5 c4_i32_237
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_238 : BitVec 32 := 1#32
  let v327 : BitVec 32 := Scalar.muli v13 c1_i32_238
  let v328 : BitVec 32 := Scalar.addi v326 v327
  v328.toNat
def k0_dev12 (d0 : Dev nD) : Nat :=
  let c0_i32_248 : BitVec 32 := 0#32
  let c1_i32_243 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v339 : BitVec 32 := Scalar.subi c1_i32_243 v2
  let c8_i32_247 : BitVec 32 := 8#32
  let v341 : BitVec 32 := Scalar.muli v339 c8_i32_247
  let v342 : BitVec 32 := Scalar.addi c0_i32_248 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_249 : BitVec 32 := 4#32
  let v343 : BitVec 32 := Scalar.muli v5 c4_i32_249
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v345 : BitVec 32 := Scalar.muli v8 c1_i32_250
  let v346 : BitVec 32 := Scalar.addi v344 v345
  v346.toNat
def k0_dev13 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v353 : BitVec 32 := Scalar.muli v2 c8_i32_252
  let v354 : BitVec 32 := Scalar.addi c0_i32_253 v353
  let c1_i32_244 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v340 : BitVec 32 := Scalar.subi c1_i32_244 v5
  let c4_i32_254 : BitVec 32 := 4#32
  let v355 : BitVec 32 := Scalar.muli v340 c4_i32_254
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v357 : BitVec 32 := Scalar.muli v8 c1_i32_255
  let v358 : BitVec 32 := Scalar.addi v356 v357
  v358.toNat
def k0_off40 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v365 : BitVec 32 := Scalar.addi v8 c1_i32_256
  let c4_i32_257 : BitVec 32 := 4#32
  let v366 : BitVec 32 := Scalar.addi v365 c4_i32_257
  let v367 : BitVec 32 := Scalar.subi v366 c0_i32_258
  let c4_i32_259 : BitVec 32 := 4#32
  let v368 : BitVec 32 := Scalar.remsi v367 c4_i32_259
  let c1024_i32_278 : BitVec 32 := 1024#32
  let v397 : BitVec 32 := Scalar.muli v368 c1024_i32_278
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_10 : BitVec 32 := 2#32
  let v19 : BitVec 32 := Scalar.muli v2 c2_i32_10
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let v21 : BitVec 32 := Scalar.addi v19 v20
  let c512_i32_279 : BitVec 32 := 512#32
  let v398 : BitVec 32 := Scalar.muli v21 c512_i32_279
  let c2_i32_191 : BitVec 32 := 2#32
  let v257 : BitVec 32 := Scalar.remsi v8 c2_i32_191
  let c256_i32 : BitVec 32 := 256#32
  let v399 : BitVec 32 := Scalar.muli v257 c256_i32
  let v400 : BitVec 32 := Scalar.addi v398 v399
  ![v397.toNat, v400.toNat]
def k0_dev14 (d0 : Dev nD) : Nat :=
  let c0_i32_288 : BitVec 32 := 0#32
  let c1_i32_283 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v406 : BitVec 32 := Scalar.subi c1_i32_283 v2
  let c8_i32_287 : BitVec 32 := 8#32
  let v408 : BitVec 32 := Scalar.muli v406 c8_i32_287
  let v409 : BitVec 32 := Scalar.addi c0_i32_288 v408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_289 : BitVec 32 := 4#32
  let v410 : BitVec 32 := Scalar.muli v5 c4_i32_289
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v412 : BitVec 32 := Scalar.muli v8 c1_i32_290
  let v413 : BitVec 32 := Scalar.addi v411 v412
  v413.toNat
def k0_off41 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v365 : BitVec 32 := Scalar.addi v8 c1_i32_256
  let c4_i32_257 : BitVec 32 := 4#32
  let v366 : BitVec 32 := Scalar.addi v365 c4_i32_257
  let v367 : BitVec 32 := Scalar.subi v366 c0_i32_258
  let c4_i32_259 : BitVec 32 := 4#32
  let v368 : BitVec 32 := Scalar.remsi v367 c4_i32_259
  let c1024_i32_280 : BitVec 32 := 1024#32
  let v401 : BitVec 32 := Scalar.muli v368 c1024_i32_280
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_8 v2
  let c2_i32_9 : BitVec 32 := 2#32
  let v17 : BitVec 32 := Scalar.muli v16 c2_i32_9
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.addi v17 v5
  let c512_i32_281 : BitVec 32 := 512#32
  let v402 : BitVec 32 := Scalar.muli v18 c512_i32_281
  let c2_i32_191 : BitVec 32 := 2#32
  let v257 : BitVec 32 := Scalar.remsi v8 c2_i32_191
  let c256_i32_282 : BitVec 32 := 256#32
  let v403 : BitVec 32 := Scalar.muli v257 c256_i32_282
  let v404 : BitVec 32 := Scalar.addi v402 v403
  let c128_i32 : BitVec 32 := 128#32
  let v405 : BitVec 32 := Scalar.addi v404 c128_i32
  ![v401.toNat, v405.toNat]
def k0_dev15 (d0 : Dev nD) : Nat :=
  let c0_i32_293 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_292 : BitVec 32 := 8#32
  let v420 : BitVec 32 := Scalar.muli v2 c8_i32_292
  let v421 : BitVec 32 := Scalar.addi c0_i32_293 v420
  let c1_i32_284 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v407 : BitVec 32 := Scalar.subi c1_i32_284 v5
  let c4_i32_294 : BitVec 32 := 4#32
  let v422 : BitVec 32 := Scalar.muli v407 c4_i32_294
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v424 : BitVec 32 := Scalar.muli v8 c1_i32_295
  let v425 : BitVec 32 := Scalar.addi v423 v424
  v425.toNat
def k0_dev16 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v451 : BitVec 32 := Scalar.muli v2 c8_i32_312
  let v452 : BitVec 32 := Scalar.addi c0_i32_313 v451
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v453 : BitVec 32 := Scalar.muli v5 c4_i32_314
  let v454 : BitVec 32 := Scalar.addi v452 v453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_315 : BitVec 32 := 1#32
  let v455 : BitVec 32 := Scalar.muli v13 c1_i32_315
  let v456 : BitVec 32 := Scalar.addi v454 v455
  v456.toNat
def k0_dev17 (d0 : Dev nD) : Nat :=
  let c0_i32_325 : BitVec 32 := 0#32
  let c1_i32_320 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v467 : BitVec 32 := Scalar.subi c1_i32_320 v2
  let c8_i32_324 : BitVec 32 := 8#32
  let v469 : BitVec 32 := Scalar.muli v467 c8_i32_324
  let v470 : BitVec 32 := Scalar.addi c0_i32_325 v469
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_326 : BitVec 32 := 4#32
  let v471 : BitVec 32 := Scalar.muli v5 c4_i32_326
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v473 : BitVec 32 := Scalar.muli v8 c1_i32_327
  let v474 : BitVec 32 := Scalar.addi v472 v473
  v474.toNat
def k0_dev18 (d0 : Dev nD) : Nat :=
  let c0_i32_330 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_329 : BitVec 32 := 8#32
  let v481 : BitVec 32 := Scalar.muli v2 c8_i32_329
  let v482 : BitVec 32 := Scalar.addi c0_i32_330 v481
  let c1_i32_321 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v468 : BitVec 32 := Scalar.subi c1_i32_321 v5
  let c4_i32_331 : BitVec 32 := 4#32
  let v483 : BitVec 32 := Scalar.muli v468 c4_i32_331
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v485 : BitVec 32 := Scalar.muli v8 c1_i32_332
  let v486 : BitVec 32 := Scalar.addi v484 v485
  v486.toNat
def k0_dev19 (d0 : Dev nD) : Nat :=
  let c0_i32_366 : BitVec 32 := 0#32
  let c1_i32_362 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v534 : BitVec 32 := Scalar.subi c1_i32_362 v2
  let c8_i32_365 : BitVec 32 := 8#32
  let v536 : BitVec 32 := Scalar.muli v534 c8_i32_365
  let v537 : BitVec 32 := Scalar.addi c0_i32_366 v536
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_367 : BitVec 32 := 4#32
  let v538 : BitVec 32 := Scalar.muli v5 c4_i32_367
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v540 : BitVec 32 := Scalar.muli v8 c1_i32_368
  let v541 : BitVec 32 := Scalar.addi v539 v540
  v541.toNat
def k0_dev20 (d0 : Dev nD) : Nat :=
  let c0_i32_371 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_370 : BitVec 32 := 8#32
  let v548 : BitVec 32 := Scalar.muli v2 c8_i32_370
  let v549 : BitVec 32 := Scalar.addi c0_i32_371 v548
  let c1_i32_363 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v535 : BitVec 32 := Scalar.subi c1_i32_363 v5
  let c4_i32_372 : BitVec 32 := 4#32
  let v550 : BitVec 32 := Scalar.muli v535 c4_i32_372
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v552 : BitVec 32 := Scalar.muli v8 c1_i32_373
  let v553 : BitVec 32 := Scalar.addi v551 v552
  v553.toNat
def k0_off42 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v365 : BitVec 32 := Scalar.addi v8 c1_i32_256
  let c4_i32_257 : BitVec 32 := 4#32
  let v366 : BitVec 32 := Scalar.addi v365 c4_i32_257
  let v367 : BitVec 32 := Scalar.subi v366 c0_i32_258
  let c4_i32_259 : BitVec 32 := 4#32
  let v368 : BitVec 32 := Scalar.remsi v367 c4_i32_259
  let c1024_i32_392 : BitVec 32 := 1024#32
  let v588 : BitVec 32 := Scalar.muli v368 c1024_i32_392
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_12 v2
  let c2_i32_13 : BitVec 32 := 2#32
  let v23 : BitVec 32 := Scalar.muli v22 c2_i32_13
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.subi c1_i32_14 v5
  let v25 : BitVec 32 := Scalar.addi v23 v24
  let c512_i32_393 : BitVec 32 := 512#32
  let v589 : BitVec 32 := Scalar.muli v25 c512_i32_393
  let c2_i32_191 : BitVec 32 := 2#32
  let v257 : BitVec 32 := Scalar.remsi v8 c2_i32_191
  let c256_i32_394 : BitVec 32 := 256#32
  let v590 : BitVec 32 := Scalar.muli v257 c256_i32_394
  let v591 : BitVec 32 := Scalar.addi v589 v590
  ![v588.toNat, v591.toNat]
def k0_dev21 (d0 : Dev nD) : Nat :=
  let c0_i32_399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_398 : BitVec 32 := 8#32
  let v595 : BitVec 32 := Scalar.muli v2 c8_i32_398
  let v596 : BitVec 32 := Scalar.addi c0_i32_399 v595
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_400 : BitVec 32 := 4#32
  let v597 : BitVec 32 := Scalar.muli v5 c4_i32_400
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_395 : BitVec 32 := 2#32
  let c2_i32_191 : BitVec 32 := 2#32
  let v257 : BitVec 32 := Scalar.remsi v8 c2_i32_191
  let v592 : BitVec 32 := Scalar.muli c2_i32_395 v257
  let v593 : BitVec 32 := Scalar.subi v8 v592
  let c1_i32_396 : BitVec 32 := 1#32
  let v594 : BitVec 32 := Scalar.addi v593 c1_i32_396
  let c1_i32_401 : BitVec 32 := 1#32
  let v599 : BitVec 32 := Scalar.muli v594 c1_i32_401
  let v600 : BitVec 32 := Scalar.addi v598 v599
  v600.toNat
def k0_dev22 (d0 : Dev nD) : Nat :=
  let c0_i32_420 : BitVec 32 := 0#32
  let c1_i32_415 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v625 : BitVec 32 := Scalar.subi c1_i32_415 v2
  let c8_i32_419 : BitVec 32 := 8#32
  let v627 : BitVec 32 := Scalar.muli v625 c8_i32_419
  let v628 : BitVec 32 := Scalar.addi c0_i32_420 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_421 : BitVec 32 := 4#32
  let v629 : BitVec 32 := Scalar.muli v5 c4_i32_421
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v631 : BitVec 32 := Scalar.muli v8 c1_i32_422
  let v632 : BitVec 32 := Scalar.addi v630 v631
  v632.toNat
def k0_dev23 (d0 : Dev nD) : Nat :=
  let c0_i32_425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_424 : BitVec 32 := 8#32
  let v639 : BitVec 32 := Scalar.muli v2 c8_i32_424
  let v640 : BitVec 32 := Scalar.addi c0_i32_425 v639
  let c1_i32_416 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v626 : BitVec 32 := Scalar.subi c1_i32_416 v5
  let c4_i32_426 : BitVec 32 := 4#32
  let v641 : BitVec 32 := Scalar.muli v626 c4_i32_426
  let v642 : BitVec 32 := Scalar.addi v640 v641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v643 : BitVec 32 := Scalar.muli v8 c1_i32_427
  let v644 : BitVec 32 := Scalar.addi v642 v643
  v644.toNat
def k0_dev24 (d0 : Dev nD) : Nat :=
  let c0_i32_461 : BitVec 32 := 0#32
  let c1_i32_457 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v692 : BitVec 32 := Scalar.subi c1_i32_457 v2
  let c8_i32_460 : BitVec 32 := 8#32
  let v694 : BitVec 32 := Scalar.muli v692 c8_i32_460
  let v695 : BitVec 32 := Scalar.addi c0_i32_461 v694
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_462 : BitVec 32 := 4#32
  let v696 : BitVec 32 := Scalar.muli v5 c4_i32_462
  let v697 : BitVec 32 := Scalar.addi v695 v696
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v698 : BitVec 32 := Scalar.muli v8 c1_i32_463
  let v699 : BitVec 32 := Scalar.addi v697 v698
  v699.toNat
def k0_dev25 (d0 : Dev nD) : Nat :=
  let c0_i32_466 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_465 : BitVec 32 := 8#32
  let v706 : BitVec 32 := Scalar.muli v2 c8_i32_465
  let v707 : BitVec 32 := Scalar.addi c0_i32_466 v706
  let c1_i32_458 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v693 : BitVec 32 := Scalar.subi c1_i32_458 v5
  let c4_i32_467 : BitVec 32 := 4#32
  let v708 : BitVec 32 := Scalar.muli v693 c4_i32_467
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_468 : BitVec 32 := 1#32
  let v710 : BitVec 32 := Scalar.muli v8 c1_i32_468
  let v711 : BitVec 32 := Scalar.addi v709 v710
  v711.toNat
def k0_dev26 (d0 : Dev nD) : Nat :=
  let c0_i32_494 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_493 : BitVec 32 := 8#32
  let v753 : BitVec 32 := Scalar.muli v2 c8_i32_493
  let v754 : BitVec 32 := Scalar.addi c0_i32_494 v753
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_495 : BitVec 32 := 4#32
  let v755 : BitVec 32 := Scalar.muli v5 c4_i32_495
  let v756 : BitVec 32 := Scalar.addi v754 v755
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_490 : BitVec 32 := 2#32
  let c2_i32_191 : BitVec 32 := 2#32
  let v257 : BitVec 32 := Scalar.remsi v8 c2_i32_191
  let v750 : BitVec 32 := Scalar.muli c2_i32_490 v257
  let v751 : BitVec 32 := Scalar.subi v8 v750
  let c1_i32_491 : BitVec 32 := 1#32
  let v752 : BitVec 32 := Scalar.addi v751 c1_i32_491
  let c1_i32_496 : BitVec 32 := 1#32
  let v757 : BitVec 32 := Scalar.muli v752 c1_i32_496
  let v758 : BitVec 32 := Scalar.addi v756 v757
  v758.toNat
def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_515 : BitVec 32 := 2#32
  let v793 : BitVec 32 := Scalar.addi v8 c2_i32_515
  let c4_i32_516 : BitVec 32 := 4#32
  let v794 : BitVec 32 := Scalar.remsi v793 c4_i32_516
  let c1024_i32_517 : BitVec 32 := 1024#32
  let v795 : BitVec 32 := Scalar.muli v794 c1024_i32_517
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_10 : BitVec 32 := 2#32
  let v19 : BitVec 32 := Scalar.muli v2 c2_i32_10
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let v21 : BitVec 32 := Scalar.addi v19 v20
  let c512_i32_518 : BitVec 32 := 512#32
  let v796 : BitVec 32 := Scalar.muli v21 c512_i32_518
  let c2_i32_191 : BitVec 32 := 2#32
  let v257 : BitVec 32 := Scalar.remsi v8 c2_i32_191
  let c256_i32_519 : BitVec 32 := 256#32
  let v797 : BitVec 32 := Scalar.muli v257 c256_i32_519
  let v798 : BitVec 32 := Scalar.addi v796 v797
  ![v795.toNat, v798.toNat]
def k0_dev27 (d0 : Dev nD) : Nat :=
  let c0_i32_528 : BitVec 32 := 0#32
  let c1_i32_524 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v804 : BitVec 32 := Scalar.subi c1_i32_524 v2
  let c8_i32_527 : BitVec 32 := 8#32
  let v806 : BitVec 32 := Scalar.muli v804 c8_i32_527
  let v807 : BitVec 32 := Scalar.addi c0_i32_528 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_529 : BitVec 32 := 4#32
  let v808 : BitVec 32 := Scalar.muli v5 c4_i32_529
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v810 : BitVec 32 := Scalar.muli v8 c1_i32_530
  let v811 : BitVec 32 := Scalar.addi v809 v810
  v811.toNat
def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_515 : BitVec 32 := 2#32
  let v793 : BitVec 32 := Scalar.addi v8 c2_i32_515
  let c4_i32_516 : BitVec 32 := 4#32
  let v794 : BitVec 32 := Scalar.remsi v793 c4_i32_516
  let c1024_i32_520 : BitVec 32 := 1024#32
  let v799 : BitVec 32 := Scalar.muli v794 c1024_i32_520
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_8 v2
  let c2_i32_9 : BitVec 32 := 2#32
  let v17 : BitVec 32 := Scalar.muli v16 c2_i32_9
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.addi v17 v5
  let c512_i32_521 : BitVec 32 := 512#32
  let v800 : BitVec 32 := Scalar.muli v18 c512_i32_521
  let c2_i32_191 : BitVec 32 := 2#32
  let v257 : BitVec 32 := Scalar.remsi v8 c2_i32_191
  let c256_i32_522 : BitVec 32 := 256#32
  let v801 : BitVec 32 := Scalar.muli v257 c256_i32_522
  let v802 : BitVec 32 := Scalar.addi v800 v801
  let c128_i32_523 : BitVec 32 := 128#32
  let v803 : BitVec 32 := Scalar.addi v802 c128_i32_523
  ![v799.toNat, v803.toNat]
def k0_dev28 (d0 : Dev nD) : Nat :=
  let c0_i32_533 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_532 : BitVec 32 := 8#32
  let v818 : BitVec 32 := Scalar.muli v2 c8_i32_532
  let v819 : BitVec 32 := Scalar.addi c0_i32_533 v818
  let c1_i32_525 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v805 : BitVec 32 := Scalar.subi c1_i32_525 v5
  let c4_i32_534 : BitVec 32 := 4#32
  let v820 : BitVec 32 := Scalar.muli v805 c4_i32_534
  let v821 : BitVec 32 := Scalar.addi v819 v820
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v822 : BitVec 32 := Scalar.muli v8 c1_i32_535
  let v823 : BitVec 32 := Scalar.addi v821 v822
  v823.toNat
def k0_dev29 (d0 : Dev nD) : Nat :=
  let c0_i32_561 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_560 : BitVec 32 := 8#32
  let v865 : BitVec 32 := Scalar.muli v2 c8_i32_560
  let v866 : BitVec 32 := Scalar.addi c0_i32_561 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_562 : BitVec 32 := 4#32
  let v867 : BitVec 32 := Scalar.muli v5 c4_i32_562
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_557 : BitVec 32 := 2#32
  let c2_i32_191 : BitVec 32 := 2#32
  let v257 : BitVec 32 := Scalar.remsi v8 c2_i32_191
  let v862 : BitVec 32 := Scalar.muli c2_i32_557 v257
  let v863 : BitVec 32 := Scalar.subi v8 v862
  let c1_i32_558 : BitVec 32 := 1#32
  let v864 : BitVec 32 := Scalar.addi v863 c1_i32_558
  let c1_i32_563 : BitVec 32 := 1#32
  let v869 : BitVec 32 := Scalar.muli v864 c1_i32_563
  let v870 : BitVec 32 := Scalar.addi v868 v869
  v870.toNat
def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_515 : BitVec 32 := 2#32
  let v793 : BitVec 32 := Scalar.addi v8 c2_i32_515
  let c4_i32_516 : BitVec 32 := 4#32
  let v794 : BitVec 32 := Scalar.remsi v793 c4_i32_516
  let c1024_i32_582 : BitVec 32 := 1024#32
  let v905 : BitVec 32 := Scalar.muli v794 c1024_i32_582
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_12 v2
  let c2_i32_13 : BitVec 32 := 2#32
  let v23 : BitVec 32 := Scalar.muli v22 c2_i32_13
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.subi c1_i32_14 v5
  let v25 : BitVec 32 := Scalar.addi v23 v24
  let c512_i32_583 : BitVec 32 := 512#32
  let v906 : BitVec 32 := Scalar.muli v25 c512_i32_583
  let c2_i32_191 : BitVec 32 := 2#32
  let v257 : BitVec 32 := Scalar.remsi v8 c2_i32_191
  let c256_i32_584 : BitVec 32 := 256#32
  let v907 : BitVec 32 := Scalar.muli v257 c256_i32_584
  let v908 : BitVec 32 := Scalar.addi v906 v907
  ![v905.toNat, v908.toNat]
def k0_dev30 (d0 : Dev nD) : Nat :=
  let c0_i32_589 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_588 : BitVec 32 := 8#32
  let v912 : BitVec 32 := Scalar.muli v2 c8_i32_588
  let v913 : BitVec 32 := Scalar.addi c0_i32_589 v912
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_590 : BitVec 32 := 4#32
  let v914 : BitVec 32 := Scalar.muli v5 c4_i32_590
  let v915 : BitVec 32 := Scalar.addi v913 v914
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_585 : BitVec 32 := 2#32
  let c2_i32_191 : BitVec 32 := 2#32
  let v257 : BitVec 32 := Scalar.remsi v8 c2_i32_191
  let v909 : BitVec 32 := Scalar.muli c2_i32_585 v257
  let v910 : BitVec 32 := Scalar.subi v8 v909
  let c1_i32_586 : BitVec 32 := 1#32
  let v911 : BitVec 32 := Scalar.addi v910 c1_i32_586
  let c1_i32_591 : BitVec 32 := 1#32
  let v916 : BitVec 32 := Scalar.muli v911 c1_i32_591
  let v917 : BitVec 32 := Scalar.addi v915 v916
  v917.toNat
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096 : Shape := ⟨1, ![4096]⟩
abbrev S32768x2048 : Shape := ⟨2, ![32768, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32768x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Geom.lean ====
/-
# The mesh, the transfers and the regions of the result

Sixteen devices, device `c` at place `(c / 8, c / 4 % 2, c % 4)`. Every device takes part in twenty-six numbered
transfers, one send and one receive each:

* `0..2`   reduce-scatter along the last axis, into the landing slots `0..2` of the device on the right;
* `3..5`   all-gather along the last axis;
* `6..9`   the gathered column block to the neighbour along the first axis, chunk by chunk;
* `10..13` the same to the neighbour along the second axis;
* `14..17` a quarter of the block got along the second axis, passed on along the first;
* `18..21` a quarter of the block got along the first axis, passed on along the second;
* `22..25` the half block assembled from the two quarters, exchanged inside a pair of the last axis.

The result is cut in four chunks of 1024 rows; `box k lo w` is columns `lo ..< lo + w` of chunk `k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Lookup

open Cert.KernelIdeal Cert.KernelIdeal.Gen
open Idealize.ShloMosaic
open Idealize.ShloMosaic.TcCoe
open Idealize.SL.Sem

variable {F : FTy → Type} [FloatOps F]

/-! ## Devices -/

set_option backward.proofsInPublic true in
/-- The device `i` places further along the last axis. -/
def zs (c : Dev nD) (i : ℕ) : Dev nD := ⟨4 * (c.val / 4) + (c.val % 4 + i) % 4, by have := c.isLt; simp only [nD] at *; omega⟩
set_option backward.proofsInPublic true in
/-- The neighbour along the first axis. -/
def xn (c : Dev nD) : Dev nD := ⟨(c.val + 8) % 16, Nat.mod_lt _ (by decide)⟩
set_option backward.proofsInPublic true in
/-- The neighbour along the second axis. -/
def yn (c : Dev nD) : Dev nD := ⟨8 * (c.val / 8) + (c.val + 4) % 8, by have := c.isLt; simp only [nD] at *; omega⟩
set_option backward.proofsInPublic true in
/-- The other device of the pair along the last axis. -/
def pr (c : Dev nD) : Dev nD := ⟨2 * (c.val / 2) + (c.val + 1) % 2, by have := c.isLt; simp only [nD] at *; omega⟩

/-- The column block a device works on. -/
def bcol (c : Dev nD) : ℕ := 2 * (c.val / 8) + c.val / 4 % 2
/-- The chunk a device passes on in turn `j` after the reduce-scatter. -/
def kk (j : ℕ) (c : Dev nD) : ℕ := (c.val % 4 + 5 - j) % 4

/-- The number of a transfer. -/
abbrev Tr := Fin 26

/-- The device transfer `t` of device `c` goes to. -/
def peer (t : Tr) (c : Dev nD) : Dev nD :=
  if t.val < 6 then zs c 1 else if t.val < 10 then xn c else if t.val < 14 then yn c
  else if t.val < 18 then xn c else if t.val < 22 then yn c else pr c
/-- The device whose transfer `t` reaches device `c`. -/
def back (t : Tr) (c : Dev nD) : Dev nD := if t.val < 6 then zs c 3 else peer t c

theorem peer_back (t : Tr) (c : Dev nD) : peer t (back t c) = c := by revert t c; decide +kernel
theorem back_peer (t : Tr) (c : Dev nD) : back t (peer t c) = c := by revert t c; decide +kernel

/-- The chunk, the first column and the width transfer `t` of device `c` moves. -/
def chunk (t : Tr) (c : Dev nD) : ℕ :=
  if t.val < 3 then (c.val % 4 + 4 - t.val) % 4 else if t.val < 6 then kk (t.val - 3) c else kk ((t.val - 6) % 4) c
def lo (t : Tr) (c : Dev nD) : ℕ :=
  if t.val < 14 then 512 * bcol c else if t.val < 18 then 512 * bcol (yn c) + 256 * (c.val % 2)
  else if t.val < 22 then 512 * bcol (xn c) + 256 * (c.val % 2) + 128 else 512 * bcol (xn (yn c)) + 256 * (c.val % 2)
def wd (t : Tr) : ℕ := if t.val < 14 then 512 else if t.val < 22 then 128 else 256

/-! ## The order of the sends and of the waits -/

/-- Transfer `t` is the `ord t`-th a device starts. -/
def ord : Tr → ℕ := ![0, 1, 2, 5, 6, 11, 3, 7, 12, 17, 4, 8, 13, 18, 9, 14, 19, 22, 10, 15, 20, 23, 16, 21, 24, 25]
/-- Transfer `t` is the `wq t`-th a device waits for (its send, then its receive). -/
def wq : Tr → ℕ := ![0, 1, 2, 3, 6, 11, 4, 7, 12, 16, 5, 8, 13, 17, 9, 14, 18, 20, 10, 15, 19, 21, 22, 23, 24, 25]

/-! ## The semaphores -/

set_option backward.proofsInPublic true in
/-- The semaphore that counts transfer `t` as sent, and the one that counts it as arrived. -/
def sendSem (t : Tr) : DmaSem sig := ⟨if t.val < 6 then 3 + t.val else 9 + t.val, by have := t.isLt; show _ < 55; split <;> omega⟩
set_option backward.proofsInPublic true in
def recvSem (t : Tr) : DmaSem sig := ⟨if t.val < 6 then 9 + t.val else 29 + t.val, by have := t.isLt; show _ < 55; split <;> omega⟩
/-- The semaphore of the row copies. -/
def gatherSem : DmaSem sig := cc0_scratch1.sem
/-- The barrier semaphore. -/
abbrev barS : Sem sig := (SemArray.scalar (sig.barrier 0 rfl) : Sems sig S_).sem

/-- What a semaphore is for. -/
inductive Role | bar | send (t : Tr) | recv (t : Tr) | other
  deriving DecidableEq

def roleDma (n : ℕ) : Role :=
  if n < 3 then .other else if n < 9 then .send (Fin.ofNat 26 (n - 3)) else if n < 15 then .recv (Fin.ofNat 26 (n - 9))
  else if n < 35 then .send (Fin.ofNat 26 (n - 9)) else .recv (Fin.ofNat 26 (n - 29))
def role : SemLoc sig → Role
  | .reg q => if q = barS then .bar else .other
  | .dma q => roleDma q.val

theorem role_bar : role (.reg barS) = .bar := by show (if barS = barS then Role.bar else Role.other) = .bar; exact if_pos rfl
theorem role_send (t : Tr) : role (.dma (sendSem t)) = .send t := by revert t; decide +kernel
theorem role_recv (t : Tr) : role (.dma (recvSem t)) = .recv t := by revert t; decide +kernel

/-! ## The memrefs -/

abbrev oM : Memref sig .tc .vmem S4096x2048 .f32 := Memref.whole cc0_stg1_0
abbrev rM : Memref sig .tc .vmem S3x1024x512 .f32 := Memref.whole cc0_scratch0
abbrev idM : Memref sig .tc .smem S4096 .i32 := Memref.whole cc0_stg0_0
abbrev eM : Memref sig .tc .hbm S8192x2048 .f32 := Memref.whole main_arg1

abbrev oSl (off size : Fin 2 → ℕ) (inb : ∀ a, off a + size a ≤ S4096x2048.size a) : Memref sig .tc .vmem ⟨2, size⟩ .f32 :=
  oM.slice (Rect.unit (s := S4096x2048) off size inb) (fun _ => rfl)

set_option backward.proofsInPublic true in
/-- Landing slot `s`. -/
abbrev rSl (off : Fin 3 → ℕ) (inb : ∀ a, off a + S1x1024x512.size a ≤ S3x1024x512.size a) : Memref sig .tc .vmem S1024x512 .f32 :=
  (rM.slice (Rect.unit (s := S3x1024x512) off S1x1024x512.size inb) (fun _ => rfl)).squeeze S1024x512 squeezes_S1x1024x512_S1024x512

theorem slot_inb (s : Fin 3) : ∀ a, (![s.val, 0, 0] : Fin 3 → ℕ) a + S1x1024x512.size a ≤ S3x1024x512.size a := by revert s; decide
def slotM (s : Fin 3) : Memref sig .tc .vmem S1024x512 .f32 := rSl ![s.val, 0, 0] (slot_inb s)

/-- Columns `lo ..< lo + w` of chunk `k`. -/
def box (k lo w : ℕ) : Finset S4096x2048.Idx :=
  Finset.univ.filter fun i => (1024 * k ≤ (i 0).val ∧ (i 0).val < 1024 * (k + 1)) ∧ lo ≤ (i 1).val ∧ (i 1).val < lo + w

theorem mem_box {k lo w : ℕ} {i : S4096x2048.Idx} :
    i ∈ box k lo w ↔ (1024 * k ≤ (i 0).val ∧ (i 0).val < 1024 * (k + 1)) ∧ lo ≤ (i 1).val ∧ (i 1).val < lo + w := by
  simp only [box, Finset.mem_filter, Finset.mem_univ, true_and]

theorem mem_unit {off size : Fin 2 → ℕ} {inb : ∀ a, off a + size a ≤ S4096x2048.size a} {k l w : ℕ} (h : off = ![1024 * k, l])
    (hs : size = ![1024, w]) (i : S4096x2048.Idx) : i ∈ (Rect.unit (s := S4096x2048) off size inb).set ↔ i ∈ box k l w := by
  subst h hs
  rw [Rect.mem_set_unit, mem_box]
  constructor
  · intro h; have h0 := h 0; have h1 := h 1; simp at h0 h1; omega
  · intro h a; match a with
    | 0 => simp; omega
    | 1 => simp; omega

theorem oSl_set {off size : Fin 2 → ℕ} {inb : ∀ a, off a + size a ≤ S4096x2048.size a} {k l w : ℕ} (h : off = ![1024 * k, l])
    (hs : size = ![1024, w]) : (oSl off size inb).view.set = box k l w := by
  ext i
  rw [← mem_unit (inb := inb) h hs i]
  show i ∈ ((View.whole cc0_stg1_0).slice (Rect.unit (s := S4096x2048) off size inb)).set ↔ _
  rw [View.set_slice_whole]

theorem access_set {off size : Fin 2 → ℕ} {inb : ∀ a, off a + size a ≤ S4096x2048.size a} {k l w : ℕ} (h : off = ![1024 * k, l])
    (hs : size = ![1024, w]) : (oM.access (Rect.unit (s := S4096x2048) off size inb)).set = box k l w :=
  oSl_set h hs

/-! ## The amounts -/

/-- What transfer `t` counts for on its semaphores. -/
def amt (t : Tr) : ℕ :=
  if t.val < 14 then (oM.view.slice (Rect.unit (s := S4096x2048) ![0, 0] S1024x512.size (by decide))).dmaCredit
  else if t.val < 22 then (oM.view.slice (Rect.unit (s := S4096x2048) ![0, 0] S1024x128.size (by decide))).dmaCredit
  else (oM.view.slice (Rect.unit (s := S4096x2048) ![0, 0] S1024x256.size (by decide))).dmaCredit

theorem amt_pos (t : Tr) : 0 < amt t := by
  unfold amt; split
  · exact View.dmaCredit_pos _ (by decide)
  · split <;> exact View.dmaCredit_pos _ (by decide)

theorem credit_512 {off : Fin 2 → ℕ} {inb} {t : Tr} (h : t.val < 14) : (oSl off S1024x512.size inb).view.dmaCredit = amt t := by
  unfold amt; rw [if_pos h]; rfl
theorem credit_slot (s : Fin 3) {t : Tr} (h : t.val < 14) : (slotM s).view.dmaCredit = amt t := by
  unfold amt; rw [if_pos h]; decide +revert
theorem credit_128 {off : Fin 2 → ℕ} {inb} {t : Tr} (h : 14 ≤ t.val) (h' : t.val < 22) : (oSl off S1024x128.size inb).view.dmaCredit = amt t := by
  unfold amt; rw [if_neg (by omega), if_pos h']; rfl
theorem credit_256 {off : Fin 2 → ℕ} {inb} {t : Tr} (h : 22 ≤ t.val) : (oSl off S1024x256.size inb).view.dmaCredit = amt t := by
  unfold amt; rw [if_neg (by omega), if_neg (by omega)]; rfl

end Cert.Lookup

end
-- ==== Proof.Schedule.lean ====
/-
# The contents and the protocol

`part m c` is what device `c` gathers: the rows of its slice that the row numbers name, zero elsewhere. The running
sum of a chunk goes around the last axis (`acc`), so after three steps every chunk holds `full m`, the same on every
device. The protocol: at the barrier every device hands its neighbours the regions they are going to fill; afterwards
each transfer has one semaphore of the sender and one of the receiver, each used for one round.
-/
module

public import proofs.«01_k».proof.Proof.Geom

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, the transfers' rounds (four duties), and the counters of the row copies. -/
abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

variable (m : (ℓ : Loc nD τ sig) → Buf (Elt F) ℓ)

/-! ## Contents -/

/-- The contents of a result buffer. -/
abbrev OutB (F : FTy → Type) : Type := S4096x2048.Idx → Elt F .f32

/-- The row numbers and the table slice of device `c`. -/
def idsOf (c : Dev nD) : S4096.Idx → Elt F .i32 := m ((c : Thread nD τ).loc main_arg0)
def tabOf (c : Dev nD) : S8192x2048.Idx → Elt F .f32 := m ((c : Thread nD τ).loc main_arg1)

/-- The row number `v` as a row of device `c`'s slice. -/
def rowOf (c : Dev nD) (v : BitVec 32) : ℕ := (v - BitVec.ofNat 32 (8192 * (c.val % 4))).toNat

def zeroE : Elt F .f32 := (Scalar.ofBits .f32 0x00000000#32 : F .f32)

/-- What device `c` gathers at an element of the result. -/
def part (c : Dev nD) : OutB F := fun i =>
  if h : rowOf c (idsOf m c fun | 0 => i 0) < 8192 then tabOf m c (fun | 0 => ⟨_, h⟩ | 1 => i 1) else zeroE

/-- The device that works on column block `b`, `k` places along the last axis. -/
def dv (b k : ℕ) : Dev nD := ⟨(4 * b + k % 4) % 16, Nat.mod_lt _ (by decide)⟩

/-- The sum of a chunk after `s` steps around the last axis. -/
def acc : ℕ → OutB F
  | 0 => fun i => part m (dv ((i 1).val / 512) ((i 0).val / 1024)) i
  | s + 1 => fun i => (FloatOps.addf (part m (dv ((i 1).val / 512) ((i 0).val / 1024 + (s + 1))) i : F .f32) (acc s i : F .f32) : F .f32)

/-- The result. -/
def full : OutB F := acc m 3

/-! ## Regions -/

/-- Elements `S` of device `c`'s result buffer at contents `f`. -/
def reg (c : Dev nD) (S : Finset S4096x2048.Idx) (q : PosShare TreeShare) (f : OutB F) : sProp 𝕄 :=
  ((c : Thread nD τ).loc cc0_stg1_0) ↦[S]{q} (show Buf (Elt F) ((c : Thread nD τ).loc cc0_stg1_0) from f)
/-- The right to fill elements `S` of device `c`'s result buffer. -/
def perm (c : Dev nD) (S : Finset S4096x2048.Idx) : sProp 𝕄 := iprop(∃ f, reg (F := F) c S fullShare f)
/-- A landing slot of device `c`. -/
def slotPts (c : Dev nD) (s : Fin 3) (f : Buf (Elt F) ((slotM s).view.loc (c : Thread nD τ))) : sProp 𝕄 :=
  (slotM s).view.loc (c : Thread nD τ) ↦[(slotM s).view.set]{fullShare} f

/-- A tile holds columns `512 b ..` of chunk `k` after `s` steps. -/
def Holds (s k b : ℕ) (w : S1024x512.Idx → Elt F .f32) : Prop :=
  ∀ (j : S1024x512.Idx) (i : S4096x2048.Idx), (i 0).val = 1024 * k + (j 0).val → (i 1).val = 512 * b + (j 1).val → w j = acc m s i

/-- The right to fill device `c`'s own columns of chunk `k`; -/
def permZ (c : Dev nD) (k : ℕ) : sProp 𝕄 := perm (F := F) c (box k (512 * bcol c) 512)
/-- that of the `n` devices before `c` along the last axis, and of the `n` after it. -/
def permsDn : ℕ → Dev nD → ℕ → sProp 𝕄
  | 0, _, _ => iprop(emp)
  | n + 1, c, k => iprop(permZ (F := F) (zs c 3) k ∗ permsDn n (zs c 3) k)
def permsUp : ℕ → Dev nD → ℕ → sProp 𝕄
  | 0, _, _ => iprop(emp)
  | n + 1, c, k => iprop(permZ (F := F) (zs c 1) k ∗ permsUp n (zs c 1) k)

/-- The region transfer `t` of device `c` moves, the share of it the copy reads. -/
abbrev tbox (t : Tr) (c : Dev nD) : Finset S4096x2048.Idx := box (chunk t c) (lo t c) (wd t)
def shr (t : Tr) : PosShare TreeShare :=
  if t.val < 6 then fullShare.left else if t.val < 10 then fullShare.right.left else if t.val < 14 then fullShare.right.right else fullShare

/-! ## Payloads -/

/-- What a device gets back when its send `t` is done. -/
def sendPay (t : Tr) (c : Dev nD) : sProp 𝕄 := if t.val < 3 then iprop(emp) else reg c (tbox t c) (shr t) (full m)

set_option backward.proofsInPublic true in
def slotPay (s : ℕ) (c : Dev nD) : sProp 𝕄 :=
  iprop(∃ f, ⌜Holds m s (chunk (Fin.ofNat 26 s) (zs c 3)) (bcol c) ((slotM (Fin.ofNat 3 s)).view.read (Elt F) f)⌝ ∗ slotPts c (Fin.ofNat 3 s) f)

/-- What arrives at a device with transfer `t`. -/
def recvPay (t : Tr) (c : Dev nD) : sProp 𝕄 :=
  if t.val < 3 then iprop(slotPay m t.val c ∗ permsDn (F := F) (t.val + 1) c (chunk t (back t c)))
  else if t.val < 6 then iprop(reg c (tbox t (back t c)) fullShare (full m) ∗ permsUp (F := F) (5 - t.val) c (chunk t (back t c)))
  else reg c (tbox t (back t c)) fullShare (full m)

/-- What transfer `t` of device `c` fills, as it is handed over at the barrier. -/
def dest (t : Tr) (c : Dev nD) : sProp 𝕄 :=
  if h : t.val < 3 then iprop(∃ f, slotPts (F := F) (zs c 1) ⟨t.val, h⟩ f) else if t.val < 6 then iprop(emp)
  else perm (F := F) (peer t c) (tbox t c)

/-- Whether transfer `t` of device `c` is enabled by signal `j` of the barrier. -/
def byBar (j : Fin 4) (c : Dev nD) (t : Tr) : Bool :=
  match j with
  | 0 => t.val < 3 || (22 ≤ t.val && c.val % 2 = 0)
  | 1 => 22 ≤ t.val && c.val % 2 = 1
  | 2 => (6 ≤ t.val && t.val < 10) || (14 ≤ t.val && t.val < 18)
  | 3 => (10 ≤ t.val && t.val < 14) || (18 ≤ t.val && t.val < 22)
def barPay (j : Fin 4) (c : Dev nD) : sProp 𝕄 := bigSep (Finset.univ.filter fun t => byBar j c t = true) fun t => dest (F := F) t c

omit [FloatOps F] in
instance reg_storable (c : Dev nD) (S q f) : BI.Storable (upEmb : UEmb _ 𝕄) (reg (F := F) c S q f) := by unfold reg; infer_instance
omit [FloatOps F] in
instance perm_storable (c : Dev nD) (S) : BI.Storable (upEmb : UEmb _ 𝕄) (perm (F := F) c S) := by unfold perm; infer_instance
omit [FloatOps F] in
instance permZ_storable (c : Dev nD) (k) : BI.Storable (upEmb : UEmb _ 𝕄) (permZ (F := F) c k) := by unfold permZ; infer_instance
omit [FloatOps F] in
instance slotPts_storable (c : Dev nD) (s f) : BI.Storable (upEmb : UEmb _ 𝕄) (slotPts (F := F) c s f) := by unfold slotPts; infer_instance
omit [FloatOps F] in
instance permsDn_storable (n : ℕ) (c : Dev nD) (k) : BI.Storable (upEmb : UEmb _ 𝕄) (permsDn (F := F) n c k) := by
  induction n generalizing c with
  | zero => unfold permsDn; infer_instance
  | succ n ih => unfold permsDn; have := ih (zs c 3); infer_instance
omit [FloatOps F] in
instance permsUp_storable (n : ℕ) (c : Dev nD) (k) : BI.Storable (upEmb : UEmb _ 𝕄) (permsUp (F := F) n c k) := by
  induction n generalizing c with
  | zero => unfold permsUp; infer_instance
  | succ n ih => unfold permsUp; have := ih (zs c 1); infer_instance
instance slotPay_storable (s : ℕ) (c : Dev nD) : BI.Storable (upEmb : UEmb _ 𝕄) (slotPay m s c) := by unfold slotPay; infer_instance
instance sendPay_storable (t : Tr) (c : Dev nD) : BI.Storable (upEmb : UEmb _ 𝕄) (sendPay m t c) := by
  unfold sendPay; split <;> infer_instance
instance recvPay_storable (t : Tr) (c : Dev nD) : BI.Storable (upEmb : UEmb _ 𝕄) (recvPay m t c) := by
  unfold recvPay; (repeat' split) <;> infer_instance
omit [FloatOps F] in
instance dest_storable (t : Tr) (c : Dev nD) : BI.Storable (upEmb : UEmb _ 𝕄) (dest (F := F) t c) := by
  unfold dest; (repeat' split) <;> infer_instance
omit [FloatOps F] in
instance barPay_storable (j : Fin 4) (c : Dev nD) : BI.Storable (upEmb : UEmb _ 𝕄) (barPay (F := F) j c) := by
  unfold barPay; infer_instance

/-! ## The schedule -/

abbrev barCell (c : Dev nD) : GSem nD τ sig := ((c : Thread nD τ), .reg barS)
abbrev sendCell (t : Tr) (c : Dev nD) : GSem nD τ sig := ((c : Thread nD τ), .dma (sendSem t))
abbrev recvCell (t : Tr) (c : Dev nD) : GSem nD τ sig := ((c : Thread nD τ), .dma (recvSem t))

def dutiesOf : Role → Finset (Fin 4)
  | .bar => Finset.univ | .send _ => {0} | .recv _ => {0} | .other => ∅
def amountOf' : Role → ℕ
  | .bar => 1 | .send t => amt t | .recv t => amt t | .other => 1
def payOf : Role → Fin 4 → Dev nD → sProp 𝕄
  | .bar, j, c => barPay (F := F) j c
  | .send t, _, c => sendPay m t c
  | .recv t, _, c => recvPay m t c
  | .other, _, _ => iprop(emp)

def sched : Rounds.Schedule (GSem nD τ sig) (Fin 4) 𝕄 where
  duties g r := if r = 0 ∧ g.1.2 = .tc then dutiesOf (role g.2) else ∅
  unitless _ := False
  amount g _ _ := amountOf' (role g.2)
  payload g _ d := payOf m (role g.2) d g.1.1
  amount_pos g _ _ _ := by
    cases role g.2 with
    | bar => exact Nat.one_pos
    | send t => exact amt_pos t
    | recv t => exact amt_pos t
    | other => exact Nat.one_pos

instance sched_payload_storable (g : GSem nD τ sig) (r : ℕ) (d : Fin 4) :
    BI.Storable (upEmb : UEmb _ 𝕄) ((sched (F := F) m).payload g r d) := by
  show BI.Storable upEmb (payOf m (role g.2) d g.1.1)
  cases role g.2 <;> unfold payOf <;> infer_instance

section Facts
variable (c : Dev nD) (t : Tr)

theorem duties_bar : (sched (F := F) m).duties (barCell c) 0 = Finset.univ := by
  show (if (0 : ℕ) = 0 ∧ (c : Thread nD τ).2 = .tc then dutiesOf (role (.reg barS)) else ∅) = _
  rw [if_pos ⟨rfl, rfl⟩, role_bar]; rfl
theorem duties_send : (sched (F := F) m).duties (sendCell t c) 0 = {0} := by
  show (if (0 : ℕ) = 0 ∧ (c : Thread nD τ).2 = .tc then dutiesOf (role (.dma (sendSem t))) else ∅) = _
  rw [if_pos ⟨rfl, rfl⟩, role_send]; rfl
theorem duties_recv : (sched (F := F) m).duties (recvCell t c) 0 = {0} := by
  show (if (0 : ℕ) = 0 ∧ (c : Thread nD τ).2 = .tc then dutiesOf (role (.dma (recvSem t))) else ∅) = _
  rw [if_pos ⟨rfl, rfl⟩, role_recv]; rfl
theorem duties_later (g : GSem nD τ sig) : ∀ r, 1 ≤ r → (sched (F := F) m).duties g r = ∅ :=
  fun r hr => if_neg fun h => by have := h.1; omega

theorem amount_bar (d : Fin 4) : (sched (F := F) m).amount (barCell c) 0 d = 1 := by
  show amountOf' (role (.reg barS)) = 1; rw [role_bar]; rfl
theorem amount_send (d : Fin 4) : (sched (F := F) m).amount (sendCell t c) 0 d = amt t := by
  show amountOf' (role (.dma (sendSem t))) = _; rw [role_send]; rfl
theorem amount_recv (d : Fin 4) : (sched (F := F) m).amount (recvCell t c) 0 d = amt t := by
  show amountOf' (role (.dma (recvSem t))) = _; rw [role_recv]; rfl

theorem expect_bar : (sched (F := F) m).expect (barCell c) 0 = 4 := by
  unfold Schedule.expect Schedule.amountOf
  rw [duties_bar, Finset.sum_congr rfl fun d _ => amount_bar m c d]; rfl
theorem expect_send : (sched (F := F) m).expect (sendCell t c) 0 = amt t := by
  unfold Schedule.expect Schedule.amountOf; rw [duties_send, Finset.sum_singleton, amount_send]
theorem expect_recv : (sched (F := F) m).expect (recvCell t c) 0 = amt t := by
  unfold Schedule.expect Schedule.amountOf; rw [duties_recv, Finset.sum_singleton, amount_recv]

theorem payload_bar (d : Fin 4) : (sched (F := F) m).payload (barCell c) 0 d = barPay d c := by
  show payOf m (role (.reg barS)) d c = _; rw [role_bar]; rfl
theorem payload_send (d : Fin 4) : (sched (F := F) m).payload (sendCell t c) 0 d = sendPay m t c := by
  show payOf m (role (.dma (sendSem t))) d c = _; rw [role_send]; rfl
theorem payload_recv (d : Fin 4) : (sched (F := F) m).payload (recvCell t c) 0 d = recvPay m t c := by
  show payOf m (role (.dma (recvSem t))) d c = _; rw [role_recv]; rfl

theorem rest_bar : bigSep ((sched (F := F) m).duties (barCell c) 0 \ ∅) (fun d => (sched (F := F) m).payload (barCell c) 0 d)
    = bigSep Finset.univ fun d => barPay (F := F) d c := by
  rw [Finset.sdiff_empty, duties_bar]; exact bigSep_congr fun d _ => payload_bar m c d
theorem rest_send : bigSep ((sched (F := F) m).duties (sendCell t c) 0 \ ∅) (fun d => (sched (F := F) m).payload (sendCell t c) 0 d) = sendPay m t c := by
  rw [Finset.sdiff_empty, duties_send, bigSep_singleton, payload_send]
theorem rest_recv : bigSep ((sched (F := F) m).duties (recvCell t c) 0 \ ∅) (fun d => (sched (F := F) m).payload (recvCell t c) 0 d) = recvPay m t c := by
  rw [Finset.sdiff_empty, duties_recv, bigSep_singleton, payload_recv]

end Facts

/-! ## What is owed, and the levels -/

/-- What device `c` owes when it has started `a` transfers: the arrivals of the others. -/
def owe (c : Dev nD) (a : ℕ) : CellTallies nD τ sig Unit :=
  ∑ t ∈ Finset.univ.filter (fun t : Tr => a ≤ ord t), tallyAt (recvCell t (peer t c)) () (amt t)

theorem ord_inj (t t' : Tr) (h : ord t = ord t') : t = t' := by revert t t'; decide +kernel

theorem owe_step (c : Dev nD) (t : Tr) : owe c (ord t) = owe c (ord t + 1) + tallyAt (recvCell t (peer t c)) () (amt t) := by
  unfold owe
  rw [show (Finset.univ.filter fun t' : Tr => ord t ≤ ord t') = insert t (Finset.univ.filter fun t' : Tr => ord t + 1 ≤ ord t') from ?_,
    Finset.sum_insert (by simp), add_comm]
  ext t'
  simp only [Finset.mem_filter, Finset.mem_univ, true_and, Finset.mem_insert]
  constructor
  · intro h
    rcases Nat.lt_or_ge (ord t) (ord t') with h' | h'
    · exact .inr h'
    · exact .inl (ord_inj _ _ (Nat.le_antisymm h' h))
  · rintro (rfl | h)
    · exact le_rfl
    · omega

theorem owe_end (c : Dev nD) : owe c 26 = 0 := by
  unfold owe
  rw [show (Finset.univ.filter fun t : Tr => 26 ≤ ord t) = ∅ by decide +kernel]; rfl

def L (g : GSem nD τ sig) : Finset Unit := if g.1.2 = .tc then {()} else ∅
/-- Barrier cells at 1, arrivals above in the order of their starts, everything else at 0. -/
def lvR : Role → ℕ
  | .bar => 1 | .recv t => ord t + 2 | _ => 0
def lv (g : GSem nD τ sig) (_ : Unit) : ℕ := lvR (role g.2)

theorem L_tc (c : Dev nD) (sm : SemLoc sig) : L ((c : Thread nD τ), sm) = {()} := if_pos rfl
theorem L_of_ne (g : GSem nD τ sig) (h : g.1.2 ≠ .tc) : L g = ∅ := if_neg h

theorem tally_pos {g g' : GSem nD τ sig} {u : Unit} {n : ℕ} (h : 0 < tallyAt g () n g' u) : g' = g := by
  rw [tallyAt_apply] at h
  by_contra hn
  rw [if_neg (fun h' => hn h'.1)] at h
  exact absurd h (Nat.lt_irrefl 0)

theorem owe_pos {c : Dev nD} {a : ℕ} {g : GSem nD τ sig} {u : Unit} (h : 0 < owe c a g u) :
    ∃ t : Tr, a ≤ ord t ∧ g = recvCell t (peer t c) := by
  unfold owe at h
  rw [Finset.sum_apply, Finsupp.finsetSum_apply] at h
  obtain ⟨t, ht, hp⟩ := Finset.exists_ne_zero_of_sum_ne_zero (Nat.pos_iff_ne_zero.mp h)
  exact ⟨t, (Finset.mem_filter.mp ht).2, tally_pos (Nat.pos_of_ne_zero hp)⟩

omit [FloatOps F] in
/-- A device may wait where everything it owes lies higher. -/
theorem mayWait_of (c : Dev nD) (sm : SemLoc sig) (O : CellTallies nD τ sig Unit)
    (h : ∀ g u, 0 < O g u → g.1.2 = .tc ∧ lvR (role sm) < lv g u) : (levAts L lv : sProp 𝕄) ⊢ MayWait (c : Thread nD τ) sm () O :=
  MayOwe.of_cut (L := L) (lev := lv) (lvR (role sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

omit [FloatOps F] in
theorem mayWait_owe (c : Dev nD) (sm : SemLoc sig) (a : ℕ) (h : lvR (role sm) < a + 2) : (levAts L lv : sProp 𝕄) ⊢ MayWait (c : Thread nD τ) sm () (owe c a) :=
  mayWait_of c sm _ fun g u hg => by
    obtain ⟨t, ht, rfl⟩ := owe_pos hg
    refine ⟨rfl, ?_⟩
    show _ < lvR (role (.dma (recvSem t)))
    rw [role_recv]; show _ < ord t + 2; omega

end Cert.Lookup

end
-- ==== Proof.Steps.lean ====
/-
# The steps of a transfer

A device's state `St` counts the transfers it has started (`a`) and the waits it has done (`b`): for each transfer,
the tokens and the destination while it is not started, the positions and credits of its two semaphores while they
are not waited for, afterwards the counters at zero and what of the transferred regions is not needed any more.
`send_step`, `sendR_step`, `waitS_step` and `waitR_step` take the state along one operation.
-/
module

public import proofs.«01_k».proof.Proof.Schedule

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells and their records -/

/-- The cells of a device: its barrier, its sends, its arrivals. -/
abbrev CI := Unit ⊕ (Tr ⊕ Tr)
def csem : CI → SemLoc sig
  | .inl _ => .reg barS | .inr (.inl t) => .dma (sendSem t) | .inr (.inr t) => .dma (recvSem t)
abbrev cell (c : Dev nD) (i : CI) : GSem nD τ sig := ((c : Thread nD τ), csem i)

variable (K : Dev nD × CI → ℕ)

/-- Every cell's invariant, and that it has reached its round. -/
def recs : sProp 𝕄 := bigSep Finset.univ fun d : Dev nD => bigSep Finset.univ fun i : CI =>
  iprop(cellInv ER (sched m) (K (d, i)) (cell d i) ∗ reached ER (cell d i) 0)

instance recs_persistent : BI.Persistent (recs m K) := by unfold recs; infer_instance

theorem recs_at (d : Dev nD) (i : CI) : recs m K ⊢ iprop(cellInv ER (sched m) (K (d, i)) (cell d i) ∗ reached ER (cell d i) 0) :=
  (bigSep_elim (Finset.mem_univ d)).trans (bigSep_elim (Finset.mem_univ i))
theorem recs_send (t : Tr) (d : Dev nD) : recs m K ⊢ iprop(cellInv ER (sched m) (K (d, .inr (.inl t))) (sendCell t d) ∗ reached ER (sendCell t d) 0) :=
  recs_at m K d (.inr (.inl t))
theorem recs_recv (t : Tr) (d : Dev nD) : recs m K ⊢ iprop(cellInv ER (sched m) (K (d, .inr (.inr t))) (recvCell t d) ∗ reached ER (recvCell t d) 0) :=
  recs_at m K d (.inr (.inr t))
theorem recs_bar (d : Dev nD) : recs m K ⊢ iprop(cellInv ER (sched m) (K (d, .inl ())) (barCell d) ∗ reached ER (barCell d) 0) :=
  recs_at m K d (.inl ())

/-! ## The state -/

def owesAny (c : Dev nD) (O : CellTallies nD τ sig Unit) : sProp 𝕄 := iprop(∃ W, owes (c : Thread nD τ) O W)

/-- What device `c` needs to start transfer `t`, beyond its source. -/
def sendRes (t : Tr) (c : Dev nD) : sProp 𝕄 :=
  iprop(dutyTok ER (sendCell t c) 0 0 ∗ dutyTok ER (recvCell t (peer t c)) 0 0 ∗ dest (F := F) t c)

/-- The later transfer that passes on a part of what arrived with transfer `t`. -/
def fwd (t : Tr) : Tr := Fin.ofNat 26 (if t.val < 10 then t.val + 12 else t.val + 4)

/-- Of what arrives with transfer `t`: what is used further, and what is kept to the end. -/
def hand (t : Tr) (c : Dev nD) : sProp 𝕄 :=
  if t.val < 6 then recvPay m t c else if t.val < 14 then reg c (tbox (fwd t) c) fullShare (full m)
  else if t.val < 22 then recvPay m t c else iprop(emp)
def keep (t : Tr) (c : Dev nD) : sProp 𝕄 :=
  if t.val < 6 then iprop(emp) else if t.val < 14 then reg c (tbox t (back t c) \ tbox (fwd t) c) fullShare (full m)
  else if t.val < 22 then iprop(emp) else recvPay m t c

theorem fwd_box (t : Tr) (c : Dev nD) (h : 6 ≤ t.val) (h' : t.val < 14) :
    chunk (fwd t) c = chunk t (back t c) ∧ lo t (back t c) ≤ lo (fwd t) c ∧ lo (fwd t) c + wd (fwd t) ≤ lo t (back t c) + wd t := by
  revert t c; decide +kernel

theorem fwd_subset (t : Tr) (c : Dev nD) (h : 6 ≤ t.val) (h' : t.val < 14) : tbox (fwd t) c ⊆ tbox t (back t c) := by
  obtain ⟨h1, h2, h3⟩ := fwd_box t c h h'
  intro i hi
  rw [mem_box] at hi ⊢
  rw [h1] at hi; omega

theorem recvPay_split (t : Tr) (c : Dev nD) : recvPay m t c ⊢ iprop(hand m t c ∗ keep m t c) := by
  unfold hand keep
  by_cases h6 : t.val < 6
  · rw [if_pos h6, if_pos h6]; exact BI.Laws.sep_emp.2
  by_cases h14 : t.val < 14
  · rw [if_neg h6, if_neg h6, if_pos h14, if_pos h14]
    unfold recvPay reg
    rw [if_neg (by omega), if_neg h6]
    exact (pointsTo_split_subset (fwd_subset t c (by omega) h14)).1
  by_cases h22 : t.val < 22
  · rw [if_neg h6, if_neg h6, if_neg h14, if_neg h14, if_pos h22, if_pos h22]; exact BI.Laws.sep_emp.2
  · rw [if_neg h6, if_neg h6, if_neg h14, if_neg h14, if_neg h22, if_neg h22]; exact BIClass.emp_sep.2

def StS (c : Dev nD) (a : ℕ) (t : Tr) : sProp 𝕄 :=
  iprop(atPos ER (sendCell t c) 0 ∅ 0 ∗ if ord t < a then cred (tallyAt (sendCell t c) () (amt t)) else iprop(emp))
def StT (c : Dev nD) (a b : ℕ) (t : Tr) : sProp 𝕄 :=
  iprop((if ord t < a then iprop(emp) else sendRes (F := F) t c)
    ∗ (if b ≤ 2 * wq t then StS (F := F) c a t else iprop(semVal (sendCell t c) 0 ∗ sendPay m t c))
    ∗ (if b ≤ 2 * wq t + 1 then iprop(atPos ER (recvCell t c) 0 ∅ 0 ∗ cred (tallyAt (recvCell t c) () (amt t)))
        else iprop(semVal (recvCell t c) 0 ∗ keep m t c)))

def St (c : Dev nD) (a b : ℕ) : sProp 𝕄 := iprop(owesAny (F := F) c (owe c a) ∗ bigSep Finset.univ (StT m c a b))

theorem wq_inj (t t' : Tr) (h : wq t = wq t') : t = t' := by revert t t'; decide +kernel

/-- Starting transfer `t`: its resources out, its credit in. -/
theorem St_send (c : Dev nD) (t : Tr) (b : ℕ) (hb : b ≤ 2 * wq t) :
    St m c (ord t) b ⊢ iprop(owesAny (F := F) c (owe c (ord t)) ∗ sendRes (F := F) t c
      ∗ (owesAny (F := F) c (owe c (ord t + 1)) ∗ cred (tallyAt (sendCell t c) () (amt t)) -∗ St m c (ord t + 1) b)) := by
  unfold St
  iintro ⟨HO, HB⟩
  ihave HB' := (bigSep_univ_update (Φ := StT m c (ord t) b) (Ψ := StT m c (ord t + 1) b) t fun j hj => by
    have hne : ord j ≠ ord t := fun h => hj (ord_inj _ _ h)
    unfold StT StS
    rcases Nat.lt_or_ge (ord j) (ord t) with h | h
    · rw [if_pos (show ord j < ord t + 1 by omega), if_pos h, if_pos (show ord j < ord t + 1 by omega), if_pos h]
    · rw [if_neg (show ¬ ord j < ord t + 1 by omega), if_neg (show ¬ ord j < ord t by omega),
        if_neg (show ¬ ord j < ord t + 1 by omega), if_neg (show ¬ ord j < ord t by omega)]) $$ HB
  icases HB' with ⟨HT, Hback⟩
  unfold StT StS
  rw [if_neg (show ¬ ord t < ord t by omega), if_neg (show ¬ ord t < ord t by omega), if_pos (show ord t < ord t + 1 by omega),
    if_pos (show ord t < ord t + 1 by omega), if_pos hb, if_pos hb]
  icases HT with ⟨Hres, ⟨Hat, -⟩, Hr⟩
  isplitl [HO]; · iexact HO
  isplitl [Hres]; · iexact Hres
  iintro ⟨HO, Hc⟩
  isplitl [HO]; · iexact HO
  iapply Hback
  isplitr; · iempintro
  isplitl [Hat Hc]
  · isplitl [Hat]; · iexact Hat
    iexact Hc
  iexact Hr

/-- Waiting for the send of transfer `t`. -/
theorem St_waitS (c : Dev nD) (t : Tr) (a : ℕ) (ha : ord t < a) :
    St m c a (2 * wq t) ⊢ iprop(owesAny (F := F) c (owe c a) ∗ atPos ER (sendCell t c) 0 ∅ 0 ∗ cred (tallyAt (sendCell t c) () (amt t))
      ∗ (owesAny (F := F) c (owe c a) ∗ semVal (sendCell t c) 0 ∗ sendPay m t c -∗ St m c a (2 * wq t + 1))) := by
  unfold St
  iintro ⟨HO, HB⟩
  ihave HB' := (bigSep_univ_update (Φ := StT m c a (2 * wq t)) (Ψ := StT m c a (2 * wq t + 1)) t fun j hj => by
    have hne : wq j ≠ wq t := fun h => hj (wq_inj _ _ h)
    unfold StT
    simp only [show (2 * wq t + 1 ≤ 2 * wq j ↔ 2 * wq t ≤ 2 * wq j) by omega, show (2 * wq t + 1 ≤ 2 * wq j + 1 ↔ 2 * wq t ≤ 2 * wq j + 1) by omega]) $$ HB
  icases HB' with ⟨HT, Hback⟩
  unfold StT StS
  rw [if_pos ha, if_pos ha, if_pos le_rfl, if_neg (show ¬ 2 * wq t + 1 ≤ 2 * wq t by omega), if_pos (Nat.le_succ _), if_pos le_rfl]
  icases HT with ⟨-, ⟨Hat, Hc⟩, Hr⟩
  isplitl [HO]; · iexact HO
  isplitl [Hat]; · iexact Hat
  isplitl [Hc]; · iexact Hc
  iintro ⟨HO, Hv, Hp⟩
  isplitl [HO]; · iexact HO
  iapply Hback
  isplitr; · iempintro
  isplitl [Hv Hp]
  · isplitl [Hv]; · iexact Hv
    iexact Hp
  iexact Hr

/-- Waiting for the arrival of transfer `t`. -/
theorem St_waitR (c : Dev nD) (t : Tr) (a : ℕ) :
    St m c a (2 * wq t + 1) ⊢ iprop(owesAny (F := F) c (owe c a) ∗ atPos ER (recvCell t c) 0 ∅ 0 ∗ cred (tallyAt (recvCell t c) () (amt t))
      ∗ (owesAny (F := F) c (owe c a) ∗ semVal (recvCell t c) 0 ∗ keep m t c -∗ St m c a (2 * wq t + 2))) := by
  unfold St
  iintro ⟨HO, HB⟩
  ihave HB' := (bigSep_univ_update (Φ := StT m c a (2 * wq t + 1)) (Ψ := StT m c a (2 * wq t + 2)) t fun j hj => by
    have hne : wq j ≠ wq t := fun h => hj (wq_inj _ _ h)
    unfold StT
    simp only [show (2 * wq t + 2 ≤ 2 * wq j ↔ 2 * wq t + 1 ≤ 2 * wq j) by omega, show (2 * wq t + 2 ≤ 2 * wq j + 1 ↔ 2 * wq t + 1 ≤ 2 * wq j + 1) by omega]) $$ HB
  icases HB' with ⟨HT, Hback⟩
  unfold StT StS
  rw [if_neg (show ¬ 2 * wq t + 1 ≤ 2 * wq t by omega), if_neg (show ¬ 2 * wq t + 2 ≤ 2 * wq t by omega), if_pos le_rfl,
    if_neg (show ¬ 2 * wq t + 2 ≤ 2 * wq t + 1 by omega)]
  icases HT with ⟨Hs, Hv', ⟨Hat, Hc⟩⟩
  isplitl [HO]; · iexact HO
  isplitl [Hat]; · iexact Hat
  isplitl [Hc]; · iexact Hc
  iintro ⟨HO, Hv, Hp⟩
  isplitl [HO]; · iexact HO
  iapply Hback
  isplitl [Hs]; · iexact Hs
  isplitl [Hv']; · iexact Hv'
  isplitl [Hv]; · iexact Hv
  iexact Hp

/-! ## The operations -/

section Ops

abbrev wpB {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A wait for the send of transfer `t`: afterwards the semaphore is at zero for good. -/
theorem waitS_step {α : Type} {Φ : α → sProp 𝕄} {k : PUnit → Prog (TpuEff nD τ sig (Elt F) Λ₀ .tc) α} (c : Dev nD) (t : Tr) (a b : ℕ) (hb : b = 2 * wq t) (ha : ord t < a) {w : TpuEff nD τ sig (Elt F) Λ₀ .tc PUnit} {sm : SemLoc sig} {k' : ℕ}
    (hw : ∀ X : PUnit → sProp 𝕄, wpE (defs₀ (F := F)) 𝒱₀ (c : Thread nD τ) none Set.univ w X = waitSpec (c : Thread nD τ) Set.univ sm k' X)
    (hsm : sm = .dma (sendSem t)) (hk : k' = amt t) :
    iprop(recs m K ∗ levAts L lv ∗ St m c a b) ⊢ iprop((St m c a (b + 1) -∗ wpB c (k ⟨⟩) Φ) -∗ wpB c (.op w k) Φ) := by
  subst hb hsm hk
  iintro ⟨#Hrec, #Hlev, HS⟩ Hk
  ihave HI := (recs_send m K t c) $$ Hrec
  icases HI with ⟨#HI, #Hr⟩
  ihave HS' := (St_waitS m c t a ha) $$ HS
  unfold owesAny
  icases HS' with ⟨⟨%W, HO⟩, Hat, Hc, Hback⟩
  iapply (Rounds.wp_wait_rest_token 𝒱₀ ER (sched m) (c : Thread nD τ) none (κ := K (c, .inr (.inl t)))
      hw (Set.mem_univ _) () (O := owe c a) (W := W) (R := 0) (m := 0) (T := ∅)
      (by rw [Nat.zero_add, expect_send])) $$ [Hc HO Hat]
  · isplitr; · iexact HI
    isplitl [Hc]; · iexact Hc
    isplitl [HO]; · iexact HO
    isplitr
    · iapply (mayWait_owe c (.dma (sendSem t)) a (by rw [role_send]; show 0 < a + 2; omega)); iexact Hlev
    iexact Hat
  iintro ⟨HO, Hat, -, Hpay⟩
  ihave Hp := (Entails.of_eq (rest_send m c t)) $$ Hpay
  imod (Rounds.cell_close ER (sched m) (Set.mem_univ (K (c, .inr (.inl t)))) (fun h => h) (R := 0 + 1) (duties_later m (sendCell t c))) $$ [Hat] with Hz
  · isplitr; · iexact HI
    iexact Hat
  iapply Hk
  iapply Hback
  isplitl [HO]; · iexists _; iexact HO
  isplitl [Hz]; · iexact Hz
  iexact Hp

/-- A wait for the arrival of transfer `t`: what arrived is handed over. -/
theorem waitR_step {α : Type} {Φ : α → sProp 𝕄} {k : PUnit → Prog (TpuEff nD τ sig (Elt F) Λ₀ .tc) α} (c : Dev nD) (t : Tr) (a b : ℕ) (hb : b = 2 * wq t + 1) (ha : ord t < a) {w : TpuEff nD τ sig (Elt F) Λ₀ .tc PUnit} {sm : SemLoc sig} {k' : ℕ}
    (hw : ∀ X : PUnit → sProp 𝕄, wpE (defs₀ (F := F)) 𝒱₀ (c : Thread nD τ) none Set.univ w X = waitSpec (c : Thread nD τ) Set.univ sm k' X)
    (hsm : sm = .dma (recvSem t)) (hk : k' = amt t) :
    iprop(recs m K ∗ levAts L lv ∗ St m c a b) ⊢ iprop((St m c a (b + 1) ∗ hand m t c -∗ wpB c (k ⟨⟩) Φ) -∗ wpB c (.op w k) Φ) := by
  subst hb hsm hk
  iintro ⟨#Hrec, #Hlev, HS⟩ Hk
  ihave HI := (recs_recv m K t c) $$ Hrec
  icases HI with ⟨#HI, #Hr⟩
  ihave HS' := (St_waitR m c t a) $$ HS
  unfold owesAny
  icases HS' with ⟨⟨%W, HO⟩, Hat, Hc, Hback⟩
  iapply (Rounds.wp_wait_rest_token 𝒱₀ ER (sched m) (c : Thread nD τ) none (κ := K (c, .inr (.inr t)))
      hw (Set.mem_univ _) () (O := owe c a) (W := W) (R := 0) (m := 0) (T := ∅)
      (by rw [Nat.zero_add, expect_recv])) $$ [Hc HO Hat]
  · isplitr; · iexact HI
    isplitl [Hc]; · iexact Hc
    isplitl [HO]; · iexact HO
    isplitr
    · iapply (mayWait_owe c (.dma (recvSem t)) a (by rw [role_recv]; show ord t + 2 < a + 2; omega)); iexact Hlev
    iexact Hat
  iintro ⟨HO, Hat, -, Hpay⟩
  ihave Hp := ((Entails.of_eq (rest_recv m c t)).trans (recvPay_split m t c)) $$ Hpay
  icases Hp with ⟨Hh, Hp⟩
  imod (Rounds.cell_close ER (sched m) (Set.mem_univ (K (c, .inr (.inr t)))) (fun h => h) (R := 0 + 1) (duties_later m (recvCell t c))) $$ [Hat] with Hz
  · isplitr; · iexact HI
    iexact Hat
  iapply Hk
  isplitr [Hh]
  · iapply Hback
    isplitl [HO]; · iexists _; iexact HO
    isplitl [Hz]; · iexact Hz
    iexact Hp
  iexact Hh

/-- The extra a start of transfer `t` consumes: in the all-gather, the destinations still to be filled. -/
def extra (t : Tr) (c : Dev nD) : sProp 𝕄 := if t.val < 6 then permsUp (F := F) (6 - t.val) c (chunk t c) else iprop(emp)
def extraF (t : Tr) (c : Dev nD) : sProp 𝕄 := if t.val < 6 then permsUp (F := F) (5 - t.val) (peer t c) (chunk t c) else iprop(emp)

theorem bcol_peer (t : Tr) (c : Dev nD) (h : t.val < 6) : lo t c = 512 * bcol (zs c 1) := by revert t c; decide +kernel

omit [FloatOps F] in
theorem permsUp_succ (n : ℕ) (c : Dev nD) (k : ℕ) :
    permsUp (F := F) (n + 1) c k = iprop(permZ (F := F) (zs c 1) k ∗ permsUp (F := F) n (zs c 1) k) := rfl
omit [FloatOps F] in
theorem permsDn_succ (n : ℕ) (c : Dev nD) (k : ℕ) :
    permsDn (F := F) (n + 1) c k = iprop(permZ (F := F) (zs c 3) k ∗ permsDn (F := F) n (zs c 3) k) := rfl

omit [FloatOps F] in
theorem extra_split (t : Tr) (c : Dev nD) (h3 : 3 ≤ t.val) :
    iprop(dest (F := F) t c ∗ extra (F := F) t c) ⊢ iprop((∃ f, reg (F := F) (peer t c) (tbox t c) fullShare f) ∗ extraF (F := F) t c) := by
  unfold dest extra extraF
  rw [dif_neg (by omega)]
  by_cases h6 : t.val < 6
  · rw [if_pos h6, if_pos h6, if_pos h6, show 6 - t.val = (5 - t.val) + 1 by omega]
    unfold peer
    rw [if_pos h6]
    rw [permsUp_succ]
    unfold permZ perm
    rw [← bcol_peer t c h6]
    unfold tbox wd
    rw [if_pos (by omega)]
    exact BIClass.emp_sep.1
  · rw [if_neg h6, if_neg h6, if_neg h6]; unfold perm; exact BI.Entails.refl _

/-- A tile of the result copied to the same place of another device's result, written back. -/
theorem write_read_same (v : View sig .tc .vmem s .f32) (fd fs : v.ty.Contents (Elt F)) :
    ∀ i ∈ v.set, v.write (Elt F) fd (v.read (Elt F) fs) Finset.univ i = fs i := by
  intro i hi
  rw [View.write_read_eq_piecewise]
  simp only [View.setOn_univ]
  exact Finset.piecewise_eq_of_mem _ _ _ hi

/-- A start of transfer `t` outside the reduce-scatter. -/
theorem send_step {α : Type} {Φ : α → sProp 𝕄} {k : PUnit → Prog (TpuEff nD τ sig (Elt F) Λ₀ .tc) α} (c : Dev nD) (t : Tr) (h3 : 3 ≤ t.val) (a b : ℕ) (ha : a = ord t) (hb : b ≤ 2 * wq t)
    {off size : Fin 2 → ℕ} {inb : ∀ a, off a + size a ≤ S4096x2048.size a} {dev : Dev nD} {sS sR : DmaSem sig}
    (hdev : dev = peer t c) (hoff : off = ![1024 * chunk t c, lo t c]) (hsz : size = ![1024, wd t])
    (hN : (oSl off size inb).view.dmaCredit = amt t) (hS : sS = sendSem t) (hR : sR = recvSem t)
    {hsc : (oSl off size inb : Memref sig (Dev.tc dev : Thread nD τ).2.kind .vmem ⟨2, size⟩ .f32).view.ref.isScScratch = false}
    {hsrc hdst} {hsem : DmaTarget.Typed .vmem (.dma sR) (.remote (Dev.tc dev : Thread nD τ) (oSl off size inb) (.dma sS) hsc)} :
    iprop(recs m K ∗ St m c a b ∗ reg c (tbox t c) (shr t) (full m) ∗ extra (F := F) t c)
      ⊢ iprop((St m c (a + 1) b -∗ wpB c (k ⟨⟩) Φ)
        -∗ wpB c (.op (.enqueueDma (oSl off size inb) (.remote (Dev.tc dev : Thread nD τ) (oSl off size inb) (.dma sS) hsc) (.dma sR) hsrc hdst hsem) k) Φ) := by
  subst ha hdev hS hR
  have hset : (oSl off size inb).view.set = tbox t c := oSl_set hoff hsz
  iintro ⟨#Hrec, HS, Hsrc, Hex⟩ Hk
  ihave HI := (recs_send m K t c) $$ Hrec
  icases HI with ⟨#HI, #Hr⟩
  ihave HI' := (recs_recv m K t (peer t c)) $$ Hrec
  icases HI' with ⟨#HI', #Hr'⟩
  ihave HS' := (St_send m c t b hb) $$ HS
  unfold owesAny sendRes
  icases HS' with ⟨⟨%W, HO⟩, ⟨Ht, Ht', Hd⟩, Hback⟩
  ihave Hx := (extra_split t c h3) $$ [Hd Hex]
  · isplitl [Hd]; · iexact Hd
    iexact Hex
  icases Hx with ⟨⟨%fd, Hdst⟩, HF⟩
  unfold reg
  rw [← hset]
  iapply (Rounds.wp_send_pointsTo_with 𝒱₀ ER (sched m) (c : Thread nD τ) none
      (c' := (Dev.tc (peer t c) : Thread nD τ)) (src := oSl off size inb) (dst := oSl off size inb) (sS := .dma (sendSem t)) (sem := .dma (recvSem t)) (κ₁ := K (c, .inr (.inl t))) (κ₂ := K (peer t c, .inr (.inr t)))
      (r₁ := 0) (r₂ := 0) (d₁ := 0) (d₂ := 0) (fd := fd) (fs := full m) (q := shr t) (F := extraF (F := F) t c)
      (by rw [duties_send]; exact Finset.mem_singleton_self _) (by rw [duties_recv]; exact Finset.mem_singleton_self _)
      () () (amt t) hN (amount_send m c t 0) (amount_recv m (peer t c) t 0) (owe c (ord t + 1)) (owe_step c t) (W := W)
      (by
        rw [payload_send]; unfold sendPay reg; rw [if_neg (by omega), ← hset])
      (by
        rw [payload_recv]
        have hw : ((oSl off size inb).view.loc (peer t c : Thread nD τ) ↦[(oSl off size inb).view.set]{fullShare}
            ((oSl off size inb).view.write (Elt F) fd ((oSl off size inb).view.read (Elt F) (full m)) Finset.univ) : sProp 𝕄)
            = reg (peer t c) (tbox t c) fullShare (full m) := by
          unfold reg; rw [← hset]
          exact pointsTo_congr (write_read_same _ _ _)
        unfold recvPay extraF
        rw [if_neg (show ¬ t.val < 3 by omega), back_peer]
        by_cases h6 : t.val < 6
        · rw [if_pos h6, if_pos h6]; exact sep_mono_left (Entails.of_eq hw)
        · rw [if_neg h6, if_neg h6]; exact BI.Laws.sep_emp.1.trans (Entails.of_eq hw)))
    $$ [Hsrc Hdst HF HO Ht Ht']
  · isplitr; · iexact HI
    isplitr; · iexact HI'
    isplitl [Hsrc]; · iexact Hsrc
    isplitl [Hdst HF]
    · isplitl [Hdst]; · iexact Hdst
      iexact HF
    isplitl [HO]; · iexact HO
    isplitl [Ht]; · iexact Ht
    isplitr; · iexact Hr
    isplitl [Ht']; · iexact Ht'
    iexact Hr'
  iintro ⟨Hc, HO⟩
  iapply Hk
  iapply Hback
  isplitl [HO]; · iexists _; iexact HO
  iexact Hc

/-- An element of a tile of the result, placed. -/
theorem oSl_emb {off size : Fin 2 → ℕ} {inb : ∀ a, off a + size a ≤ S4096x2048.size a} (j : (⟨2, size⟩ : Shape).Idx) (a : Fin 2) :
    (((oSl off size inb).view.emb j : S4096x2048.Idx) a).val = off a + (j a).val := by
  show ((Rect.unit (s := S4096x2048) off size inb).emb j a).val = _
  rw [Rect.emb_apply]; show off a + 1 * (j a).val = _; omega

/-- Reading a chunk of the running sum gives a tile that holds it. -/
theorem holds_read {off : Fin 2 → ℕ} {inb : ∀ a, off a + S1024x512.size a ≤ S4096x2048.size a} {s k b : ℕ} (h : off = ![1024 * k, 512 * b])
    {f : OutB F} (hf : ∀ i ∈ box k (512 * b) 512, f i = acc m s i) : Holds m s k b ((oSl off S1024x512.size inb).view.read (Elt F) f) := by
  intro j i h0 h1
  have e : ((oSl off S1024x512.size inb).view.emb j : S4096x2048.Idx) = i := by
    funext a; apply Fin.ext
    rw [oSl_emb]
    match a with
    | 0 => exact (congrArg (· + (j 0).val) (congrFun h 0)).trans h0.symm
    | 1 => exact (congrArg (· + (j 1).val) (congrFun h 1)).trans h1.symm
  have hi : i ∈ box k (512 * b) 512 := by
    have := (j 0).isLt; have := (j 1).isLt
    rw [mem_box]; simp at *; omega
  rw [← hf i hi, ← e]
  rfl

theorem lo_own (t : Tr) (c : Dev nD) (h : t.val < 14) : lo t c = 512 * bcol c := by unfold lo; rw [if_pos h]
theorem wd_own (t : Tr) (h : t.val < 14) : wd t = 512 := by unfold wd; rw [if_pos h]
theorem zs_back (c : Dev nD) : zs (zs c 1) 3 = c := by revert c; decide +kernel
theorem zs_forth (c : Dev nD) : zs (zs c 3) 1 = c := by revert c; decide +kernel
theorem bcol_zs (c : Dev nD) : bcol (zs c 1) = bcol c := by revert c; decide +kernel

/-- A start of transfer `t` of the reduce-scatter: the source becomes a destination of the all-gather. -/
theorem sendR_step {α : Type} {Φ : α → sProp 𝕄} {k : PUnit → Prog (TpuEff nD τ sig (Elt F) Λ₀ .tc) α} (c : Dev nD)
    (t : Tr) (h3 : t.val < 3) (a b : ℕ) (ha : a = ord t) (hb : b ≤ 2 * wq t)
    {off : Fin 2 → ℕ} {inb : ∀ a, off a + S1024x512.size a ≤ S4096x2048.size a} {off' : Fin 3 → ℕ} {inb'} {dev : Dev nD} {sS sR : DmaSem sig}
    (hdev : dev = peer t c) (hoff : off = ![1024 * chunk t c, 512 * bcol c]) (hoff' : off' = ![t.val, 0, 0])
    (hS : sS = sendSem t) (hR : sR = recvSem t)
    {hsc : (rSl off' inb' : Memref sig (Dev.tc dev : Thread nD τ).2.kind .vmem S1024x512 .f32).view.ref.isScScratch = false}
    {hsrc hdst} {hsem : DmaTarget.Typed .vmem (.dma sR) (.remote (Dev.tc dev : Thread nD τ) (rSl off' inb') (.dma sS) hsc)} :
    iprop(recs m K ∗ St m c a b ∗ reg c (box (chunk t c) (512 * bcol c) 512) fullShare (acc m t.val) ∗ permsDn (F := F) t.val c (chunk t c))
      ⊢ iprop((St m c (a + 1) b -∗ wpB c (k ⟨⟩) Φ)
        -∗ wpB c (.op (.enqueueDma (oSl off S1024x512.size inb) (.remote (Dev.tc dev : Thread nD τ) (rSl off' inb') (.dma sS) hsc) (.dma sR) hsrc hdst hsem) k) Φ) := by
  subst ha hdev hS hR hoff'
  have hp : peer t c = zs c 1 := by unfold peer; rw [if_pos (by omega)]
  have hset : (oSl off S1024x512.size inb).view.set = box (chunk t c) (512 * bcol c) 512 := oSl_set hoff rfl
  have hs3 : (⟨t.val, h3⟩ : Fin 3) = Fin.ofNat 3 t.val := Fin.ext (Nat.mod_eq_of_lt h3).symm
  have ht26 : (Fin.ofNat 26 t.val : Tr) = t := Fin.ext (Nat.mod_eq_of_lt t.isLt)
  iintro ⟨#Hrec, HS, Hsrc, HF⟩ Hk
  ihave HI := (recs_send m K t c) $$ Hrec
  icases HI with ⟨#HI, #Hr⟩
  ihave HI' := (recs_recv m K t (peer t c)) $$ Hrec
  icases HI' with ⟨#HI', #Hr'⟩
  ihave HS' := (St_send m c t b hb) $$ HS
  unfold owesAny sendRes dest
  rw [dif_pos h3]
  icases HS' with ⟨⟨%W, HO⟩, ⟨Ht, Ht', ⟨%fd, Hdst⟩⟩, Hback⟩
  unfold reg
  rw [← hset]
  ihave Hdst' := (show slotPts (F := F) (zs c 1) ⟨t.val, h3⟩ fd ⊢ ((rSl ![t.val, 0, 0] inb').view.loc (peer t c : Thread nD τ) ↦[(rSl ![t.val, 0, 0] inb').view.set]{fullShare} fd : sProp 𝕄)
    from by rw [hp]; exact BI.Entails.refl _) $$ Hdst
  iapply (Rounds.wp_send_landing_pointsTo_with 𝒱₀ ER (sched m) (c : Thread nD τ) none
      (c' := (Dev.tc (peer t c) : Thread nD τ)) (src := oSl off S1024x512.size inb) (dst := rSl ![t.val, 0, 0] inb')
      (sS := .dma (sendSem t)) (sem := .dma (recvSem t)) (κ₁ := K (c, .inr (.inl t))) (κ₂ := K (peer t c, .inr (.inr t)))
      (r₁ := 0) (r₂ := 0) (d₁ := 0) (d₂ := 0) (fd := fd) (fs := acc m t.val) (q := fullShare) (F := permsDn (F := F) t.val c (chunk t c))
      (by rw [duties_send]; exact Finset.mem_singleton_self _) (by rw [duties_recv]; exact Finset.mem_singleton_self _)
      () () (amt t) (credit_slot ⟨t.val, h3⟩ (t := t) (by omega)) (amount_send m c t 0) (amount_recv m (peer t c) t 0) (owe c (ord t + 1)) (owe_step c t) (W := W)
      (by
        rw [payload_send]; unfold sendPay; rw [if_pos h3])
      (by
        rw [payload_recv]
        unfold recvPay
        rw [if_pos h3, back_peer, hp, permsDn_succ, zs_back]
        unfold slotPay permZ perm
        rw [ht26, zs_back, bcol_zs, ← hs3]
        iintro ⟨⟨Hd, HF⟩, Hs⟩
        isplitl [Hd]
        · iexists _
          isplitr
          · ipureintro
            show Holds m t.val (chunk t c) (bcol c) ((rSl ![t.val, 0, 0] inb').view.read (Elt F) ((rSl ![t.val, 0, 0] inb').view.write (Elt F) fd ((oSl off S1024x512.size inb).view.read (Elt F) (acc m t.val)) Finset.univ))
            exact Eq.mpr (congrArg (Holds m t.val (chunk t c) (bcol c)) (View.read_write_univ (Val := Elt F) (v := (rSl ![t.val, 0, 0] inb').view) _ _))
              (holds_read m hoff fun _ _ => rfl)
          · unfold slotPts; iexact Hd
        isplitl [Hs]
        · iexists _; unfold reg; rw [hset]; iexact Hs
        iexact HF))
    $$ [Hsrc Hdst' HF HO Ht Ht']
  · isplitr; · iexact HI
    isplitr; · iexact HI'
    isplitl [Hsrc]; · iexact Hsrc
    isplitl [Hdst' HF]
    · isplitl [Hdst']; · iexact Hdst'
      iexact HF
    isplitl [HO]; · iexact HO
    isplitl [Ht]; · iexact Ht
    isplitr; · iexact Hr
    isplitl [Ht']; · iexact Ht'
    iexact Hr'
  iintro ⟨Hc, HO⟩
  iapply Hk
  iapply Hback
  isplitl [HO]; · iexists _; iexact HO
  iexact Hc

end Ops

end Cert.Lookup

end
-- ==== Proof.Rows.lean ====
/-
# Rows

What the gather of a chunk reads and writes, row by row: the row number as a row of the device's slice, the words
the kernel computes from it, the region of a row, the list of the rows that are copied.
-/
module

public import proofs.«01_k».proof.Proof.Steps
public import Idealize.ShloMosaic.Lib.Batch

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Words -/

theorem word_z (c : Dev nD) : Scalar.remsi (Scalar.divsi (Dev.word c) 1#32) 4#32 = BitVec.ofNat 32 (c.val % 4) := by
  revert c; decide +kernel
theorem word_base (c : Dev nD) : Scalar.muli (BitVec.ofNat 32 (c.val % 4)) 8192#32 = BitVec.ofNat 32 (8192 * (c.val % 4)) := by
  revert c; decide +kernel

/-- The two comparisons of the kernel test whether the word is below 8192. -/
theorem in_range (w : BitVec 32) : Scalar.andi (Scalar.cmpi .sge w 0#32) (Scalar.cmpi .slt w 8192#32) = if w.toNat < 8192 then 1#1 else 0#1 := by
  have h0 : Scalar.cmpi .sge w 0#32 = BitVec.ofBool (decide (0 ≤ w.toInt)) := by
    show BitVec.ofBool ((0#32).sle w) = _; rw [BitVec.sle_eq_decide]; rfl
  have h1 : Scalar.cmpi .slt w 8192#32 = BitVec.ofBool (decide (w.toInt < 8192)) := by
    show BitVec.ofBool (w.slt 8192#32) = _; rw [BitVec.slt_eq_decide]; rfl
  rw [h0, h1]
  have ht := BitVec.toInt_eq_toNat_cond w
  have hl := w.isLt
  by_cases h : w.toNat < 8192
  · rw [if_pos h, decide_eq_true (by split at ht <;> omega), decide_eq_true (by split at ht <;> omega)]; rfl
  · rw [if_neg h]
    by_cases h' : 0 ≤ w.toInt
    · rw [decide_eq_true h', decide_eq_false (by split at ht <;> omega)]; rfl
    · rw [decide_eq_false h']
      cases decide (w.toInt < 8192) <;> rfl

theorem rel_word (c : Dev nD) (v : BitVec 32) :
    (Scalar.subi v (Scalar.muli (Scalar.remsi (Scalar.divsi (Dev.word c) 1#32) 4#32) 8192#32)).toNat = rowOf c v := by
  rw [word_z, word_base]; rfl

theorem cond_iff (c : Dev nD) (v : BitVec 32) : k0_cond1 c v = 1#1 ↔ rowOf c v < 8192 := by
  rw [← rel_word]
  show Scalar.cmpi .ne (Scalar.extui (Scalar.andi (Scalar.cmpi .sge _ 0#32) (Scalar.cmpi .slt _ 8192#32))) 0#32 = 1#1 ↔ _
  rw [in_range]
  split
  · rename_i h; exact ⟨fun _ => h, fun _ => rfl⟩
  · rename_i h; exact ⟨fun h' => absurd h' (by decide), fun h' => absurd h' h⟩

theorem off4_eq (c : Dev nD) (v : BitVec 32) : k0_off4 c v = ![rowOf c v, 512 * bcol c] := by
  rw [← rel_word]
  have h : ∀ c : Dev nD, (Scalar.muli (Scalar.addi (Scalar.muli (Scalar.remsi (Scalar.divsi (Dev.word c) 8#32) 2#32) 2#32)
      (Scalar.remsi (Scalar.divsi (Dev.word c) 4#32) 2#32)) 512#32).toNat = 512 * bcol c := by decide +kernel
  rw [← h c]; rfl

theorem bcol_lt (c : Dev nD) : bcol c < 4 := by revert c; decide +kernel

theorem chk1_all (c : Dev nD) (v : BitVec 32) : k0_chk1 c v := by
  intro h a
  rw [off4_eq]
  have := (cond_iff c v).mp h
  have := bcol_lt c
  match a with
  | 0 => show rowOf c v + 1 ≤ 8192; omega
  | 1 => show 512 * bcol c + 512 ≤ 2048; omega

/-! ## Regions -/

/-- Columns `l ..< l + 512` of row `r` of the result, and of the table. -/
def lbox (r l : ℕ) : Finset S4096x2048.Idx := Finset.univ.filter fun i => (i 0).val = r ∧ l ≤ (i 1).val ∧ (i 1).val < l + 512
def ebox (r l : ℕ) : Finset S8192x2048.Idx := Finset.univ.filter fun i => (i 0).val = r ∧ l ≤ (i 1).val ∧ (i 1).val < l + 512

theorem mem_lbox {r l : ℕ} {i : S4096x2048.Idx} : i ∈ lbox r l ↔ (i 0).val = r ∧ l ≤ (i 1).val ∧ (i 1).val < l + 512 := by
  simp only [lbox, Finset.mem_filter, Finset.mem_univ, true_and]

abbrev eSl (off : Fin 2 → ℕ) (inb : ∀ a, off a + S1x512.size a ≤ S8192x2048.size a) : Memref sig .tc .hbm S1x512 .f32 :=
  eM.slice (Rect.unit (s := S8192x2048) off S1x512.size inb) (fun _ => rfl)
abbrev lSl (off : Fin 2 → ℕ) (inb : ∀ a, off a + S1x512.size a ≤ S4096x2048.size a) : Memref sig .tc .vmem S1x512 .f32 :=
  oSl off S1x512.size inb

theorem lSl_set {off : Fin 2 → ℕ} {inb} {r l : ℕ} (h : off = ![r, l]) : (lSl off inb).view.set = lbox r l := by
  subst h; ext i
  show i ∈ ((View.whole cc0_stg1_0).slice (Rect.unit (s := S4096x2048) ![r, l] S1x512.size inb)).set ↔ _
  rw [View.set_slice_whole, Rect.mem_set_unit, mem_lbox]
  constructor
  · intro h; have h0 := h 0; have h1 := h 1; simp at h0 h1; omega
  · intro h a; match a with
    | 0 => simp; omega
    | 1 => simp; omega

theorem eSl_set {off : Fin 2 → ℕ} {inb} {r l : ℕ} (h : off = ![r, l]) : (eSl off inb).view.set = ebox r l := by
  subst h; ext i
  show i ∈ ((View.whole main_arg1).slice (Rect.unit (s := S8192x2048) ![r, l] S1x512.size inb)).set ↔ _
  rw [View.set_slice_whole, Rect.mem_set_unit, ebox]
  simp only [Finset.mem_filter, Finset.mem_univ, true_and]
  constructor
  · intro h; have h0 := h 0; have h1 := h 1; simp at h0 h1; omega
  · intro h a; match a with
    | 0 => simp; omega
    | 1 => simp; omega

theorem eSl_emb {off : Fin 2 → ℕ} {inb : ∀ a, off a + S1x512.size a ≤ S8192x2048.size a} (j : S1x512.Idx) (a : Fin 2) :
    (((eSl off inb).view.emb j : S8192x2048.Idx) a).val = off a + (j a).val := by
  show ((Rect.unit (s := S8192x2048) off S1x512.size inb).emb j a).val = _
  rw [Rect.emb_apply]; show off a + 1 * (j a).val = _; omega

/-! ## The row numbers -/

/-- Row number `n` of the argument. -/
def idAt (c : Dev nD) (n : ℕ) : BitVec 32 := if h : n < 4096 then idsOf m c (fun | 0 => ⟨n, h⟩) else 0#32
/-- Whether row `n` of the result is copied from device `c`'s slice. -/
def hit (c : Dev nD) (n : ℕ) : Prop := rowOf c (idAt m c n) < 8192
instance (c : Dev nD) (n : ℕ) : Decidable (hit m c n) := by unfold hit; infer_instance

theorem part_hit (c : Dev nD) (i : S4096x2048.Idx) (h : hit m c (i 0).val) : part m c i = tabOf m c (fun | 0 => ⟨_, h⟩ | 1 => i 1) := by
  have e : idAt m c (i 0).val = idsOf m c (fun | 0 => i 0) := dif_pos (i 0).isLt
  have h' : rowOf c (idsOf m c fun | 0 => i 0) < 8192 := by rw [← e]; exact h
  refine (dif_pos h').trans (congrArg (tabOf m c) ?_)
  funext a; match a with
    | 0 => exact Fin.ext (congrArg (rowOf c) e.symm)
    | 1 => rfl
theorem part_miss (c : Dev nD) (i : S4096x2048.Idx) (h : ¬ hit m c (i 0).val) : part m c i = zeroE := by
  have e : idAt m c (i 0).val = idsOf m c (fun | 0 => i 0) := dif_pos (i 0).isLt
  have h' : ¬ rowOf c (idsOf m c fun | 0 => i 0) < 8192 := by rw [← e]; exact h
  exact dif_neg h'

/-- What the copy of a row leaves. -/
theorem landed_row (c : Dev nD) {r : ℕ} {off off' : Fin 2 → ℕ} {inb inb'} (h : off = ![r, 512 * bcol c]) (hh : hit m c r)
    (h' : off' = ![rowOf c (idAt m c r), 512 * bcol c]) (f : OutB F) (i : S4096x2048.Idx) (hi : i ∈ lbox r (512 * bcol c)) :
    ((lSl off inb).view.write (Elt F) f (ReadAs.same.apply ((eSl off' inb').view.read (Elt F) (tabOf m c))) Finset.univ : OutB F) i = part m c i := by
  have hi' := hi
  rw [← lSl_set (inb := inb) h] at hi'
  obtain ⟨j, -, rfl⟩ := Finset.mem_map.mp hi'
  refine (View.write_emb_of_mem (Val := Elt F) (v := (lSl off inb).view) f _ (Finset.mem_univ j)).trans ?_
  obtain ⟨h0, -⟩ := mem_lbox.mp hi
  subst h0
  rw [part_hit m c _ hh]
  show tabOf m c ((eSl off' inb').view.emb j) = _
  congr 1
  funext a; apply Fin.ext; rw [eSl_emb]
  match a with
  | 0 =>
    have : (j 0).val = 0 := by have := (j 0).isLt; simp at this; omega
    rw [this]; exact congrFun h' 0
  | 1 =>
    show off' 1 + _ = (((lSl off inb).view.emb j : S4096x2048.Idx) 1).val
    rw [oSl_emb]; exact congrArg (· + (j 1).val) ((congrFun h' 1).trans (congrFun h 1).symm)

/-! ## The rows copied, in order -/

def rowsTo (c : Dev nD) (k : ℕ) : ℕ → List ℕ
  | 0 => []
  | i + 1 => if hit m c (1024 * k + i) then rowsTo c k i ++ [i] else rowsTo c k i

theorem mem_rowsTo (c : Dev nD) (k n i : ℕ) : i ∈ rowsTo m c k n ↔ i < n ∧ hit m c (1024 * k + i) := by
  induction n with
  | zero => simp [rowsTo]
  | succ n ih =>
    unfold rowsTo
    split
    · rename_i h
      rw [List.mem_append, ih, List.mem_singleton]
      constructor
      · rintro (⟨h1, h2⟩ | rfl)
        · exact ⟨by omega, h2⟩
        · exact ⟨by omega, h⟩
      · rintro ⟨h1, h2⟩
        rcases Nat.lt_succ_iff_lt_or_eq.mp h1 with h3 | rfl
        · exact .inl ⟨h3, h2⟩
        · exact .inr rfl
    · rename_i h
      rw [ih]
      constructor
      · rintro ⟨h1, h2⟩; exact ⟨by omega, h2⟩
      · rintro ⟨h1, h2⟩
        refine ⟨?_, h2⟩
        rcases Nat.lt_succ_iff_lt_or_eq.mp h1 with h3 | rfl
        · exact h3
        · exact absurd h2 h

theorem rowsTo_nodup (c : Dev nD) (k n : ℕ) : (rowsTo m c k n).Nodup := by
  induction n with
  | zero => exact List.nodup_nil
  | succ n ih =>
    unfold rowsTo
    split
    · refine List.Nodup.append ih (List.nodup_singleton _) fun a ha hb => ?_
      have := (mem_rowsTo m c k n a).mp ha
      have := List.mem_singleton.mp hb
      omega
    · exact ih

theorem rowsTo_length_le (c : Dev nD) (k n : ℕ) : (rowsTo m c k n).length ≤ n := by
  induction n with
  | zero => exact le_rfl
  | succ n ih =>
    unfold rowsTo
    split
    · rw [List.length_append]; exact Nat.succ_le_succ ih
    · exact ih.trans (Nat.le_succ n)

theorem rowsTo_length_mono (c : Dev nD) (k : ℕ) {n n' : ℕ} (h : n ≤ n') : (rowsTo m c k n).length ≤ (rowsTo m c k n').length := by
  induction n', h using Nat.le_induction with
  | base => exact le_rfl
  | succ n' _ ih =>
    refine ih.trans ?_
    conv_rhs => unfold rowsTo
    split
    · rw [List.length_append]; exact Nat.le_add_right _ _
    · exact le_rfl

theorem rowsTo_hit (c : Dev nD) (k i : ℕ) (h : hit m c (1024 * k + i)) : rowsTo m c k (i + 1) = rowsTo m c k i ++ [i] := by
  conv_lhs => unfold rowsTo
  rw [if_pos h]
theorem rowsTo_miss (c : Dev nD) (k i : ℕ) (h : ¬ hit m c (1024 * k + i)) : rowsTo m c k (i + 1) = rowsTo m c k i := by
  conv_lhs => unfold rowsTo
  rw [if_neg h]

/-- The deliveries of a list of rows, as a sum over the rows. -/
theorem deliv_rows (D : ℕ → sProp 𝕄) (l : List ℕ) (hl : l.Nodup) (S : Finset ℕ) (hS : ∀ i, i ∈ S ↔ i ∈ l) {n : ℕ} (hn : (l.map D).length = n) :
    bigSep (Finset.univ : Finset (Fin n)) (Transfers.deliv (m := n) (l.map D)) = bigSep S D := by
  have hn' : n = l.length := by rw [← hn, List.length_map]
  subst hn'
  have e : S = (Finset.univ : Finset (Fin l.length)).map ⟨fun t => l.get t, List.nodup_iff_injective_get.mp hl⟩ := by
    ext i
    rw [hS, Finset.mem_map, List.mem_iff_get]
    constructor
    · rintro ⟨t, rfl⟩; exact ⟨t, Finset.mem_univ _, rfl⟩
    · rintro ⟨t, -, rfl⟩; exact ⟨t, rfl⟩
  rw [e, BI.bigSep_map]
  refine bigSep_congr fun t _ => ?_
  show (l.map D).getD t.val iprop(emp) = D (l.get t)
  rw [List.getD, List.getElem?_map, List.getElem?_eq_getElem t.isLt]; rfl

/-- Replacing one summand. -/
theorem bigSep_swap {S : Finset ℕ} {Φ Ψ : ℕ → sProp 𝕄} {i : ℕ} (hi : i ∈ S) (h : ∀ j, j ≠ i → Ψ j = Φ j) :
    bigSep S Φ ⊢ iprop(Φ i ∗ (Ψ i -∗ bigSep S Ψ)) := by
  have eΦ : bigSep S Φ = iprop(Φ i ∗ bigSep (S.erase i) Φ) := BI.bigSep_erase hi
  have eΨ : bigSep S Ψ = iprop(Ψ i ∗ bigSep (S.erase i) Φ) :=
    (BI.bigSep_erase hi).trans (congrArg (BI.sep (Ψ i)) (bigSep_congr fun j hj => h j (Finset.ne_of_mem_erase hj)))
  rw [eΦ, eΨ]
  iintro ⟨H1, H2⟩
  isplitl [H1]; · iexact H1
  iintro H1
  isplitl [H1]; · iexact H1
  iexact H2

end Cert.Lookup

end
-- ==== Proof.Gather.lean ====
/-
# The gather of a chunk

The kernel goes through the 1024 row numbers of a chunk and starts a copy for each row that its slice of the table
has, counting them; then it waits that many times. The copies form one batch on one semaphore; each reads its own
share of the table and fills its own row of the result.
-/
module

public import proofs.«01_k».proof.Proof.Rows

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Resources -/

/-- The row numbers in scalar memory, and the device's slice of the table. -/
def idsPts (c : Dev nD) : sProp 𝕄 :=
  ((c : Thread nD τ).loc cc0_stg0_0) ↦{fullShare} (show Buf (Elt F) ((c : Thread nD τ).loc cc0_stg0_0) from idsOf m c)
def tabPts (c : Dev nD) (S : Finset S8192x2048.Idx) (q : PosShare TreeShare) : sProp 𝕄 :=
  ((c : Thread nD τ).loc main_arg1) ↦[S]{q} (show Buf (Elt F) ((c : Thread nD τ).loc main_arg1) from tabOf m c)

abbrev share (r : ℕ) : PosShare TreeShare := Transfers.shareTokN fullShare r
/-- The part of the table that row `r` of chunk `k` is copied from, and the row itself. -/
abbrev eRow (c : Dev nD) (k r : ℕ) : Finset S8192x2048.Idx := ebox (rowOf c (idAt m c (1024 * k + r))) (512 * bcol c)
abbrev lRow (c : Dev nD) (k r : ℕ) : Finset S4096x2048.Idx := lbox (1024 * k + r) (512 * bcol c)

def zeroB : OutB F := fun _ => zeroE

/-- A row before its copy, what its copy delivers, and what is left besides. -/
def before (c : Dev nD) (k r : ℕ) : sProp 𝕄 := iprop(reg c (lRow c k r) fullShare zeroB ∗ tabPts m c Finset.univ (share r))
def landed (c : Dev nD) (k r : ℕ) : sProp 𝕄 := iprop(reg c (lRow c k r) fullShare (part m c) ∗ tabPts m c (eRow m c k r) (share r))
def remain (c : Dev nD) (k r : ℕ) : sProp 𝕄 := tabPts m c (Finset.univ \ eRow m c k r) (share r)
def after (c : Dev nD) (k r : ℕ) : sProp 𝕄 := iprop(reg c (lRow c k r) fullShare (part m c) ∗ tabPts m c Finset.univ (share r))

/-- Row `r` when the first `i` row numbers have been looked at. -/
def rowSt (c : Dev nD) (k i r : ℕ) : sProp 𝕄 := if r < i ∧ hit m c (1024 * k + r) then remain m c k r else before m c k r

theorem lRow_disjoint (c : Dev nD) (k : ℕ) : ∀ r ∈ Finset.range 1024, ∀ r' ∈ Finset.range 1024, r ≠ r' → Disjoint (lRow c k r) (lRow c k r') := by
  intro r _ r' _ h
  rw [Finset.disjoint_left]
  intro i hi hi'
  rw [mem_lbox] at hi hi'; omega

theorem lRow_union (c : Dev nD) (k : ℕ) : (Finset.range 1024).biUnion (lRow c k) = box k (512 * bcol c) 512 := by
  ext i
  rw [Finset.mem_biUnion, mem_box]
  constructor
  · rintro ⟨r, hr, hi⟩; rw [mem_lbox] at hi; rw [Finset.mem_range] at hr; omega
  · intro h
    exact ⟨(i 0).val - 1024 * k, Finset.mem_range.mpr (by omega), mem_lbox.mpr (by omega)⟩

/-- A chunk is its rows. -/
theorem reg_rows (c : Dev nD) (k : ℕ) (f : OutB F) :
    reg c (box k (512 * bcol c) 512) fullShare f = bigSep (Finset.range 1024) fun r => reg c (lRow c k r) fullShare f := by
  unfold reg
  rw [← lRow_union]
  exact pointsTo_biUnion _ _ (lRow_disjoint c k)

def tabRest (c : Dev nD) : sProp 𝕄 := tabPts m c Finset.univ (Transfers.shareDrop fullShare 1024)

theorem tab_shares (c : Dev nD) : tabPts m c Finset.univ fullShare ⊣⊢ iprop(tabRest m c ∗ bigSep (Finset.range 1024) fun r => tabPts m c Finset.univ (share r)) := by
  exact Transfers.pointsTo_toks_range (ℓ := (c : Thread nD τ).loc main_arg1) (S := Finset.univ) (f := tabOf m c) fullShare 1024

theorem rows_start (c : Dev nD) (k : ℕ) :
    iprop(reg c (box k (512 * bcol c) 512) fullShare zeroB ∗ tabPts m c Finset.univ fullShare) ⊢ iprop(tabRest m c ∗ bigSep (Finset.range 1024) (rowSt m c k 0)) := by
  have e : bigSep (Finset.range 1024) (rowSt m c k 0)
      = iprop((bigSep (Finset.range 1024) fun r => reg c (lRow c k r) fullShare zeroB) ∗ bigSep (Finset.range 1024) fun r => tabPts m c Finset.univ (share r)) := by
    refine (bigSep_congr fun r _ => ?_).trans (BI.bigSep_sep _ _ _)
    unfold rowSt; rw [if_neg (by omega)]; rfl
  rw [e, reg_rows]
  iintro ⟨H1, H2⟩
  ihave H2' := (tab_shares m c).1 $$ H2
  icases H2' with ⟨H3, H4⟩
  isplitl [H3]; · iexact H3
  isplitl [H1] <;> iassumption

theorem row_end (c : Dev nD) (k r : ℕ) (hr : r < 1024) :
    iprop(rowSt m c k 1024 r ∗ if hit m c (1024 * k + r) then landed m c k r else iprop(emp)) ⊢ after m c k r := by
  unfold rowSt after
  by_cases h : hit m c (1024 * k + r)
  · rw [if_pos ⟨hr, h⟩, if_pos h]
    unfold remain landed tabPts
    iintro ⟨H1, H2, H3⟩
    isplitl [H2]; · iexact H2
    iapply (pointsTo_split_subset (Finset.subset_univ (eRow m c k r))).2
    isplitl [H3] <;> iassumption
  · rw [if_neg (fun h' => h h'.2), if_neg h]
    unfold before
    iintro ⟨⟨H1, H2⟩, -⟩
    isplitl [H1]
    · iapply (Entails.of_eq (show reg c (lRow c k r) fullShare zeroB = reg c (lRow c k r) fullShare (part m c) from ?_)) $$ H1
      unfold reg
      refine pointsTo_congr fun i hi => ?_
      refine (part_miss m c i ?_).symm
      rw [(mem_lbox.mp hi).1]; exact h
    · iexact H2

theorem rows_end (c : Dev nD) (k : ℕ) :
    iprop(tabRest m c ∗ bigSep (Finset.range 1024) (rowSt m c k 1024)
        ∗ bigSep ((Finset.range 1024).filter fun r => hit m c (1024 * k + r)) (landed m c k))
      ⊢ iprop(reg c (box k (512 * bcol c) 512) fullShare (part m c) ∗ tabPts m c Finset.univ fullShare) := by
  have e : iprop(bigSep (Finset.range 1024) (rowSt m c k 1024)
        ∗ bigSep ((Finset.range 1024).filter fun r => hit m c (1024 * k + r)) (landed m c k))
      ⊢ bigSep (Finset.range 1024) (after m c k) := by
    rw [BI.bigSep_filter]
    refine (Entails.of_eq (BI.bigSep_sep _ _ _).symm).trans (bigSep_mono fun r hr => ?_)
    exact row_end m c k r (Finset.mem_range.mp hr)
  have e' : bigSep (Finset.range 1024) (after m c k)
      = iprop((bigSep (Finset.range 1024) fun r => reg c (lRow c k r) fullShare (part m c)) ∗ bigSep (Finset.range 1024) fun r => tabPts m c Finset.univ (share r)) :=
    BI.bigSep_sep _ _ _
  iintro ⟨H1, H2, H3⟩
  ihave H := e $$ [H2 H3]
  · isplitl [H2] <;> iassumption
  ihave H' := (Entails.of_eq e') $$ H
  icases H' with ⟨H4, H5⟩
  rw [reg_rows]
  isplitl [H4]; · iexact H4
  iapply (tab_shares m c).2
  isplitl [H1] <;> iassumption

/-! ## The loop that starts the copies -/

/-- One trip of it: the rectangles of the row number and of the row are parameters. -/
def tripBody (c : Dev nD) (v8 : BitVec 32) (o2 : Fin k0_t1_loop.trips → Fin 1 → ℕ) (h2 : ∀ i a, o2 i a + S1.size a ≤ S4096.size a)
    (o3 : Fin k0_t1_loop.trips → Fin 2 → ℕ) (h3 : ∀ i a, o3 i a + S1x512.size a ≤ S4096x2048.size a) :
    Fin k0_t1_loop.trips → BitVec 32 → Prog (TpuEff nD τ sig (Elt F) Λ₀ .tc) (BitVec 32) := fun i n => do
  let v : Elt F .i32 ← smemLoad idM (Rect.unit (s := S4096) (o2 i) S1.size (h2 i)) numel1_S1 rfl
  have hw : k0_chk1 c v := (← Prog.lift (TpuEff.assume (k0_chk1 c v) (k0_chk1.dec c v))).down
  if h : k0_cond1 c v = 1#1 then do
    Prog.lift (.enqueueDma (eSl (k0_off4 c v) (k0_off4_inb c v hw h)) (.here (lSl (o3 i) (h3 i))) (.dma gatherSem)
      (View.wordExact_bits rfl) (View.wordExact_bits rfl) ⟨Or.inl rfl, trivial⟩)
    pure ⟨⟩
  else do
    pure ⟨⟩
  pure (Scalar.addi n (Scalar.extui (Scalar.andi (Scalar.cmpi .sge (Scalar.subi v (Scalar.muli v8 8192#32)) 0#32)
    (Scalar.cmpi .slt (Scalar.subi v (Scalar.muli v8 8192#32)) 8192#32))))

/-- The units of one copy, the number of copies, the batch. -/
def unitN : ℕ := (lSl ![0, 0] (by decide)).view.dmaCredit
theorem unitN_pos : 0 < unitN := View.dmaCredit_pos _ (by decide)
abbrev copies (c : Dev nD) (k : ℕ) : ℕ := (rowsTo m c k 1024).length
def batch (c : Dev nD) (k i u : ℕ) : sProp 𝕄 :=
  Transfers.Batched (EC (F := F)) (c : Thread nD τ) (.dma gatherSem) () unitN (copies m c k) ((rowsTo m c k i).map (landed m c k)) u

def gatherInv (c : Dev nD) (k i : ℕ) (n : BitVec 32) : sProp 𝕄 :=
  iprop(⌜n = BitVec.ofNat 32 (rowsTo m c k i).length⌝ ∗ idsPts m c ∗ batch m c k i 0 ∗ bigSep (Finset.range 1024) (rowSt m c k i))

theorem trip_lt (i : Fin k0_t1_loop.trips) : i.val < 1024 := Nat.lt_of_lt_of_le i.isLt k0_t1_abs.2.1

theorem word_read (c : Dev nD) {n : ℕ} {off : Fin 1 → ℕ} {inb} (h : off = ![n]) (x : S1.Idx) :
    (idM.access (Rect.unit (s := S4096) off S1.size inb)).read (Elt F) (idsOf m c) x = idAt m c n := by
  subst h
  have hn : n < 4096 := by have := inb 0; simp at this; omega
  unfold idAt; rw [dif_pos hn]
  show idsOf m c ((Rect.unit (s := S4096) ![n] S1.size inb).emb x) = _
  congr 1
  funext a; apply Fin.ext
  rw [Rect.emb_apply]
  match a with
  | 0 =>
    have : (x 0).val = 0 := by have := (x 0).isLt; simp at this; omega
    show n + 1 * (x 0).val = n; omega

/-- Starting the copy of a row. -/
theorem copy_row {α : Type} {Φ : α → sProp 𝕄} {kc : PUnit → Prog (TpuEff nD τ sig (Elt F) Λ₀ .tc) α} (c : Dev nD) (k r : ℕ)
    (hh : hit m c (1024 * k + r)) (M : ℕ) (Ds : List (sProp 𝕄)) (hM : Ds.length < M) {off off' : Fin 2 → ℕ} {inb inb'}
    (h : off = ![1024 * k + r, 512 * bcol c]) (h' : off' = ![rowOf c (idAt m c (1024 * k + r)), 512 * bcol c])
    {hs hd}
    {ht : DmaTarget.Typed (nD := nD) (τ := τ) (p := Proc.tc) Space.hbm (.dma gatherSem) (.here (lSl off inb))} :
    iprop(before m c k r ∗ Transfers.Batched (EC (F := F)) (c : Thread nD τ) (.dma gatherSem) () unitN M Ds 0)
      ⊢ iprop((iprop(Transfers.Batched (EC (F := F)) (c : Thread nD τ) (.dma gatherSem) () unitN M (Ds ++ [landed m c k r]) 0 ∗ remain m c k r)
          -∗ wpB c (kc ⟨⟩) Φ)
        -∗ wpB c (.op (.enqueueDma (eSl off' inb') (.here (lSl off inb)) (.dma gatherSem) hs hd ht) kc) Φ) := by
  have hset := eSl_set (inb := inb') h'
  have hlset := lSl_set (inb := inb) h
  have hland : landed m c k r = iprop(((lSl off inb).view.loc (c : Thread nD τ) ↦[lRow c k r]{fullShare}
        ((lSl off inb).view.write (Elt F) zeroB (ReadAs.same.apply ((eSl off' inb').view.read (Elt F) (tabOf m c))) Finset.univ))
      ∗ ((eSl off' inb').view.loc (c : Thread nD τ) ↦[(eSl off' inb').view.set]{share r} (tabOf m c))) := by
    rw [hset]
    exact congrArg (fun P : sProp 𝕄 => iprop(P ∗ tabPts m c (eRow m c k r) (share r)))
      (pointsTo_congr fun i hi => (landed_row m c h hh h' zeroB i hi).symm)
  rw [hland]
  unfold before remain tabPts reg
  iintro ⟨⟨Hl, He⟩, HB⟩ Hk
  ihave He' := (pointsTo_split_subset (Finset.subset_univ (eRow m c k r))).1 $$ He
  icases He' with ⟨He, Hrest⟩
  iapply (Transfers.wp_dmaBatched (EC (F := F)) 𝒱₀ (c : Thread nD τ) none (m := M) (q := share r)
    (src := eSl off' inb') (dst := lSl off inb) (fs := tabOf m c) (Sd := lRow c k r) (fd := zeroB) (Ds := Ds) (u := 0)
    () unitN rfl hlset.le hM (Nat.zero_le _)) $$ [He Hl HB]
  · isplitl [He]
    · rw [hset]; iexact He
    isplitl [Hl]; · iexact Hl
    iexact HB
  iintro HB
  iapply Hk
  isplitl [HB]; · iexact HB
  iexact Hrest

theorem trip (c : Dev nD) (k : ℕ) (v8 : BitVec 32) (hv8 : v8 = Scalar.remsi (Scalar.divsi (Dev.word c) 1#32) 4#32) (o2 h2 o3 h3)
    (ho2 : ∀ i : Fin k0_t1_loop.trips, o2 i = ![1024 * k + i.val]) (ho3 : ∀ i : Fin k0_t1_loop.trips, o3 i = ![1024 * k + i.val, 512 * bcol c])
    (i : Fin k0_t1_loop.trips) (n : BitVec 32) :
    gatherInv m c k i.val n ⊢ wpB c (tripBody (F := F) c v8 o2 h2 o3 h3 i n) (gatherInv m c k (i.val + 1)) := by
  have hi := trip_lt i
  unfold tripBody gatherInv smemLoad smemLoadElt
  simp only [Prog.lift, Prog.bind_op, Prog.bind_ret, Prog.pure_eq_ret]
  iintro ⟨%hn, Hid, HB, HR⟩
  unfold idsPts
  iapply (wp_load_rect 𝒱₀ (c : Thread nD τ) none Set.univ (m := idM) (r := Rect.unit (s := S4096) (o2 i) S1.size (h2 i)) (S := Finset.univ)
    (q := fullShare) (f := idsOf m c) (Finset.subset_univ _)) $$ Hid
  iintro Hid
  generalize hv' : (idM.access (Rect.unit (s := S4096) (o2 i) S1.size (h2 i))).read (Elt F) (idsOf m c) (Shape.Idx.first (numel1_S1.symm ▸ Nat.one_pos)) = v
  have hv : v = idAt m c (1024 * k + i.val) := hv'.symm.trans (word_read m c (ho2 i) _)
  subst hv
  clear hv'
  iapply (wp_assume 𝒱₀ (c : Thread nD τ) none Set.univ (chk1_all c _))
  have hword : Scalar.andi (Scalar.cmpi .sge (Scalar.subi (idAt m c (1024 * k + i.val)) (Scalar.muli v8 8192#32)) 0#32)
      (Scalar.cmpi .slt (Scalar.subi (idAt m c (1024 * k + i.val)) (Scalar.muli v8 8192#32)) 8192#32) = if hit m c (1024 * k + i.val) then 1#1 else 0#1 := by
    rw [in_range, hv8, rel_word]; rfl
  rw [hword]
  have hmem : i.val ∈ Finset.range 1024 := Finset.mem_range.mpr hi
  by_cases hh : hit m c (1024 * k + i.val)
  · rw [dif_pos ((cond_iff c _).mpr hh), if_pos hh]
    ihave HR' := (bigSep_swap (Φ := rowSt m c k i.val) (Ψ := rowSt m c k (i.val + 1)) hmem fun j hj => by
      unfold rowSt; congr 1; rw [show (j < i.val + 1) = (j < i.val) from propext ⟨fun _ => by omega, fun _ => by omega⟩]) $$ HR
    icases HR' with ⟨Hrow, Hback⟩
    ihave Hrow' := (Entails.of_eq (show rowSt m c k i.val i.val = before m c k i.val from if_neg (by omega))) $$ Hrow
    unfold batch
    iapply (copy_row m c k i.val hh (copies m c k) ((rowsTo m c k i.val).map (landed m c k)) (by
        rw [List.length_map]
        have := rowsTo_length_mono m c k (show i.val + 1 ≤ 1024 by omega)
        rw [rowsTo_hit m c k i.val hh, List.length_append] at this
        exact Nat.lt_of_succ_le this) (ho3 i) (off4_eq c _)) $$ [Hrow' HB]
    · isplitl [Hrow'] <;> iassumption
    iintro ⟨HB, Hrem⟩
    try unfold wpB
    rw [wp_ret]
    imodintro
    rw [rowsTo_hit m c k i.val hh, List.map_append]
    isplitr
    · ipureintro
      rw [hn, List.length_append]
      show BitVec.ofNat 32 _ + BitVec.setWidth 32 1#1 = _
      rw [BitVec.ofNat_add]; rfl
    isplitl [Hid]; · iexact Hid
    isplitl [HB]; · iexact HB
    iapply Hback
    iapply (Entails.of_eq (show remain m c k i.val = rowSt m c k (i.val + 1) i.val from (if_pos ⟨Nat.lt_succ_self _, hh⟩).symm))
    iexact Hrem
  · rw [dif_neg (fun h => hh ((cond_iff c _).mp h)), if_neg hh]
    try unfold wpB
    rw [wp_ret]
    imodintro
    unfold batch
    rw [rowsTo_miss m c k i.val hh]
    isplitr
    · ipureintro
      rw [hn]
      show BitVec.ofNat 32 _ + BitVec.setWidth 32 0#1 = _
      exact BitVec.add_zero _
    isplitl [Hid]; · iexact Hid
    isplitl [HB]; · iexact HB
    iapply (Entails.of_eq (bigSep_congr (s := Finset.range 1024) (Φ := rowSt m c k i.val) (Ψ := rowSt m c k (i.val + 1)) fun j _ => ?_)) $$ HR
    unfold rowSt; congr 1
    refine propext ⟨fun h => ⟨by omega, h.2⟩, fun h => ⟨?_, h.2⟩⟩
    rcases Nat.lt_succ_iff_lt_or_eq.mp h.1 with h' | rfl
    · exact h'
    · exact absurd h.2 hh

/-! ## The loops -/

/-- A chunk whose copies are all started. -/
def gathering (c : Dev nD) (k : ℕ) : sProp 𝕄 :=
  iprop(tabRest m c ∗ batch m c k 1024 0 ∗ bigSep (Finset.range 1024) (rowSt m c k 1024))

theorem trips_t1 : k0_t1_loop.trips = 1024 := by decide +kernel
theorem trips_t2 (n : ℕ) (h : n ≤ 1024) : (k0_t2_loop (BitVec.ofNat 32 n)).trips = n := by
  have : ∀ n : Fin 1025, (k0_t2_loop (BitVec.ofNat 32 n.val)).trips = n.val := by decide +kernel
  exact this ⟨n, Nat.lt_succ_of_le h⟩

/-- The first loop: every row that the slice has is on its way, and their number comes out. -/
theorem gather_start {β : Type} {Φ : β → sProp 𝕄} {kk : BitVec 32 → Prog (TpuEff nD τ sig (Elt F) Λ₀ .tc) β} (c : Dev nD) (k : ℕ) (v8 : BitVec 32)
    (hv8 : v8 = Scalar.remsi (Scalar.divsi (Dev.word c) 1#32) 4#32) (o2 h2 o3 h3)
    (ho2 : ∀ i : Fin k0_t1_loop.trips, o2 i = ![1024 * k + i.val]) (ho3 : ∀ i : Fin k0_t1_loop.trips, o3 i = ![1024 * k + i.val, 512 * bcol c])
    {body} (hbody : body = tripBody (F := F) c v8 o2 h2 o3 h3) {hok : k0_t1_loop.OK} :
    iprop(idsPts m c ∗ tabPts m c Finset.univ fullShare ∗ reg c (box k (512 * bcol c) 512) fullShare zeroB ∗ semVal ((c : Thread nD τ), .dma gatherSem) 0)
      ⊢ iprop((iprop(idsPts m c ∗ gathering m c k) -∗ wpB c (kk (BitVec.ofNat 32 (copies m c k))) Φ)
        -∗ wpB c (Scf.Loop.for k0_t1_loop hok 0#32 body >>= kk) Φ) := by
  subst hbody
  iintro ⟨Hid, Ht, Hr, Hs⟩ Hk
  imod (Transfers.batched_alloc (EC (F := F)) (c : Thread nD τ) (sm := .dma gatherSem) () unitN (copies m c k) (E := Set.univ)) $$ Hs with HB
  ihave H := (rows_start m c k) $$ [Hr Ht]
  · isplitl [Hr] <;> iassumption
  icases H with ⟨Hrest, HR⟩
  iapply (Scf.wp_for_bind frame (wpE defs₀ 𝒱₀ (c : Thread nD τ) none) Set.univ k0_t1_loop.lb k0_t1_loop.ub k0_t1_loop.st hok 0#32
    (tripBody (F := F) c v8 o2 h2 o3 h3) (gatherInv m c k) (trip m c k v8 hv8 o2 h2 o3 h3 ho2 ho3)) $$ [Hid HB HR]
  · unfold gatherInv
    isplitr; · ipureintro; rfl
    isplitl [Hid]; · iexact Hid
    isplitl [HB]; · unfold batch; iexact HB
    iexact HR
  iintro %n HI
  rw [show Scf.trips k0_t1_loop.lb k0_t1_loop.ub k0_t1_loop.st = 1024 from trips_t1]
  unfold gatherInv
  icases HI with ⟨%hn, Hid, HB, HR⟩
  rw [hn]
  iapply Hk
  isplitl [Hid]; · iexact Hid
  unfold gathering
  isplitl [Hrest]; · iexact Hrest
  isplitl [HB] <;> iassumption

/-- One trip of the second loop: a wait of the size of a row. -/
def waitBody {n : ℕ} (oe : Fin 2 → ℕ) (ie : ∀ a, oe a + S1x512.size a ≤ S8192x2048.size a)
    (ol : Fin 2 → ℕ) (il : ∀ a, ol a + S1x512.size a ≤ S4096x2048.size a) : Fin n → BitVec 32 → Prog (TpuEff nD τ sig (Elt F) Λ₀ .tc) (BitVec 32) := fun _ _ => do
  Prog.lift (.waitDma2 gatherSem (eSl oe ie) (lSl ol il) (View.wordExact_bits rfl) (View.wordExact_bits rfl))
  pure 0#32

/-- The second loop: the chunk holds what the device gathers. -/
theorem gather_wait {β : Type} {Φ : β → sProp 𝕄} {kk : BitVec 32 → Prog (TpuEff nD τ sig (Elt F) Λ₀ .tc) β} (c : Dev nD) (k : ℕ) (v : BitVec 32)
    (hv : v = BitVec.ofNat 32 (copies m c k)) (O : CellTallies nD τ sig Unit)
    (hO : (levAts L lv : sProp 𝕄) ⊢ MayWait (c : Thread nD τ) (.dma gatherSem) () O) {body} {init : BitVec 32} (oe ie ol il)
    (hbody : body = waitBody (F := F) oe ie ol il) {hok : (k0_t2_loop v).OK} :
    iprop(gathering m c k ∗ owesAny (F := F) c O ∗ levAts L lv)
      ⊢ iprop((∀ n, iprop(reg c (box k (512 * bcol c) 512) fullShare (part m c) ∗ tabPts m c Finset.univ fullShare
            ∗ semVal ((c : Thread nD τ), .dma gatherSem) 0 ∗ owesAny (F := F) c O) -∗ wpB c (kk n) Φ)
        -∗ wpB c (Scf.Loop.for (k0_t2_loop v) hok init body >>= kk) Φ) := by
  subst hbody
  have hn : (k0_t2_loop v).trips = copies m c k := by rw [hv]; exact trips_t2 _ (rowsTo_length_le m c k 1024)
  have hlen : ((rowsTo m c k 1024).map (landed m c k)).length = copies m c k := List.length_map _
  iintro ⟨HG, HO, #Hlev⟩ Hk
  unfold gathering
  icases HG with ⟨Hrest, HB, HR⟩
  iapply (Scf.wp_for_bind frame (wpE defs₀ 𝒱₀ (c : Thread nD τ) none) Set.univ (k0_t2_loop v).lb (k0_t2_loop v).ub (k0_t2_loop v).st hok init
    (waitBody (F := F) oe ie ol il) (fun i _ => iprop(batch m c k 1024 (i * unitN) ∗ owesAny (F := F) c O ∗ levAts L lv)) (fun i _ => by
      have hi : i.val < copies m c k := hn ▸ i.isLt
      unfold waitBody batch
      simp only [Prog.lift, Prog.bind_op, Prog.bind_ret, Prog.pure_eq_ret]
      iintro ⟨HB, HO, #Hlev⟩
      unfold owesAny
      icases HO with ⟨%W, HO⟩
      iapply (Transfers.wp_waitBatchedMulO (EC (F := F)) 𝒱₀ (c : Thread nD τ) none (sem := gatherSem) (srcw := eSl oe ie) (dstw := lSl ol il) () (N := unitN) 1
        (Nat.one_mul _).symm (m := copies m c k) (Ds := (rowsTo m c k 1024).map (landed m c k)) (u := i.val * unitN) (by
          rw [hlen, Nat.mul_comm unitN, ← Nat.add_mul]; exact Nat.mul_le_mul_right _ hi) (O := O) (W := W)) $$ [HB HO]
      · isplitl [HB]; · iexact HB
        isplitl [HO]; · iexact HO
        iapply hO; iexact Hlev
      iintro ⟨HB, HO⟩
      rw [wp_ret]; imodintro
      rw [← Nat.add_mul]
      isplitl [HB]; · iexact HB
      isplitl [HO]; · iexists _; iexact HO
      iexact Hlev)) $$ [HB HO]
  · rw [Nat.zero_mul]
    isplitl [HB]; · iexact HB
    isplitl [HO]; · iexact HO
    iexact Hlev
  iintro %n ⟨HB, HO, -⟩
  rw [show Scf.trips (k0_t2_loop v).lb (k0_t2_loop v).ub (k0_t2_loop v).st = copies m c k from hn]
  unfold batch
  rw [Nat.mul_comm (copies m c k)]
  imod (Transfers.batched_collect (EC (F := F)) (c : Thread nD τ) (sm := .dma gatherSem) (ι := ()) unitN_pos hlen) $$ HB with ⟨HD, Hs⟩
  ihave HD' := (Entails.of_eq (deliv_rows (landed m c k) (rowsTo m c k 1024) (rowsTo_nodup m c k 1024)
    ((Finset.range 1024).filter fun r => hit m c (1024 * k + r)) (fun i => by
      rw [mem_rowsTo, Finset.mem_filter, Finset.mem_range]) hlen)) $$ HD
  ihave H := (rows_end m c k) $$ [Hrest HR HD']
  · isplitl [Hrest]; · iexact Hrest
    isplitl [HR] <;> iassumption
  icases H with ⟨Hreg, Ht⟩
  iapply Hk
  isplitl [Hreg]; · iexact Hreg
  isplitl [Ht]; · iexact Ht
  isplitl [Hs] <;> iassumption

/-- The third loop has no trip. -/
theorem no_trip {β : Type} {Φ : β → sProp 𝕄} {kk : BitVec 32 → Prog (TpuEff nD τ sig (Elt F) Λ₀ .tc) β} (c : Dev nD) (v : BitVec 32)
    {hok : (k0_t3_loop v).OK} {init : BitVec 32} {body} :
    wpB c (kk init) Φ ⊢ wpB (F := F) c (Scf.Loop.for (k0_t3_loop v) hok init body >>= kk) Φ := by
  have hn : (k0_t3_loop v).trips = 0 := Nat.le_zero.mp (k0_t3_abs v).2.1
  iintro Hk
  iapply (Scf.wp_for_bind frame (wpE defs₀ 𝒱₀ (c : Thread nD τ) none) Set.univ (k0_t3_loop v).lb (k0_t3_loop v).ub (k0_t3_loop v).st hok init
    body (fun i n => (iprop(⌜n = init⌝) : sProp 𝕄)) (fun i _ => absurd (hn ▸ i.isLt : i.val < 0) (Nat.not_lt_zero _))) $$ []
  · ipureintro; rfl
  iintro %n %h
  rw [h]; iexact Hk

end Cert.Lookup

end
-- ==== Proof.Pieces.lean ====
/-
# The pieces of the buffers

The result buffer is cut into the device's own four chunks and the twenty regions its neighbours fill; the landing
buffer into its three slots. At the start the pieces are dealt out to those who fill them, at the end they are put
together again.
-/
module

public import proofs.«01_k».proof.Proof.Gather

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result buffer -/

/-- The pieces: numbers 0 to 3 are the own chunks, number `t ≥ 6` is what transfer `t` brings. -/
def pk (c : Dev nD) (t : Tr) : ℕ := if t.val < 4 then kk t.val c else if t.val < 6 then 0 else chunk t (back t c)
def pl (c : Dev nD) (t : Tr) : ℕ := if t.val < 4 then 512 * bcol c else if t.val < 6 then 0 else lo t (back t c)
def pw (t : Tr) : ℕ := if t.val < 4 then 512 else if t.val < 6 then 0 else wd t

theorem pieces_disj : ∀ (c : Dev nD) (t t' : Tr), t ≠ t' → pk c t ≠ pk c t' ∨ pl c t + pw t ≤ pl c t' ∨ pl c t' + pw t' ≤ pl c t := by decide +kernel
theorem pieces_cover : ∀ (c : Dev nD) (a : Fin 4) (b : Fin 16), ∃ t : Tr, pk c t = a.val ∧ pl c t ≤ 128 * b.val ∧ 128 * b.val + 128 ≤ pl c t + pw t := by
  decide +kernel

theorem pieces_union (c : Dev nD) : (Finset.univ : Finset Tr).biUnion (fun t => box (pk c t) (pl c t) (pw t)) = Finset.univ := by
  rw [Finset.eq_univ_iff_forall]
  intro i
  have h0 : (i 0).val < 4096 := (i 0).isLt
  have h1 : (i 1).val < 2048 := (i 1).isLt
  obtain ⟨t, ht, hl, hu⟩ := pieces_cover c ⟨(i 0).val / 1024, by omega⟩ ⟨(i 1).val / 128, by omega⟩
  refine Finset.mem_biUnion.mpr ⟨t, Finset.mem_univ _, ?_⟩
  dsimp only at ht hl hu
  rw [mem_box, ht]; omega

theorem pieces_disjoint (c : Dev nD) (t t' : Tr) (h : t ≠ t') : Disjoint (box (pk c t) (pl c t) (pw t)) (box (pk c t') (pl c t') (pw t')) := by
  rw [Finset.disjoint_left]
  intro i hi hi'
  rw [mem_box] at hi hi'
  rcases pieces_disj c t t' h with h' | h' | h'
  · exact h' (by omega)
  · omega
  · omega

theorem reg_biUnion {T : Type} (c : Dev nD) (S : Finset T) (K : T → Finset S4096x2048.Idx) (h : ∀ t ∈ S, ∀ t' ∈ S, t ≠ t' → Disjoint (K t) (K t')) (q) (f : OutB F) :
    reg c (S.biUnion K) q f = bigSep S fun t => reg c (K t) q f := by
  unfold reg; exact pointsTo_biUnion _ _ h

theorem reg_pieces (c : Dev nD) (q) (f : OutB F) :
    reg c Finset.univ q f = bigSep Finset.univ fun t => reg c (box (pk c t) (pl c t) (pw t)) q f := by
  rw [← pieces_union c]
  exact reg_biUnion c _ _ (fun t _ t' _ h => pieces_disjoint c t t' h) q f

theorem sep_emp_eq (P : sProp 𝕄) : iprop(P ∗ emp) = P := BI.equiv_iff.mp Idealize.SL.BI.sep_emp

/-- An own chunk. -/
abbrev obox (c : Dev nD) (j : ℕ) : Finset S4096x2048.Idx := box (kk j c) (512 * bcol c) 512

theorem tr_quint (Φ : Tr → sProp 𝕄) : bigSep (Finset.univ.filter fun t : Tr => 6 ≤ t.val) Φ
    = bigSep Finset.univ fun j : Fin 4 => iprop(Φ (Fin.ofNat 26 (6 + j.val)) ∗ Φ (Fin.ofNat 26 (10 + j.val)) ∗ Φ (Fin.ofNat 26 (14 + j.val))
        ∗ Φ (Fin.ofNat 26 (18 + j.val)) ∗ Φ (Fin.ofNat 26 (22 + j.val))) := by
  rw [show (Finset.univ.filter fun t : Tr => 6 ≤ t.val) = (Finset.univ : Finset (Fin 4)).biUnion fun j =>
      {Fin.ofNat 26 (6 + j.val), Fin.ofNat 26 (10 + j.val), Fin.ofNat 26 (14 + j.val), Fin.ofNat 26 (18 + j.val), Fin.ofNat 26 (22 + j.val)} from by decide +kernel,
    BI.bigSep_biUnion_eq _ _ _ (by decide +kernel)]
  refine bigSep_congr fun j _ => ?_
  exact BI.bigSep_eq_bigSepL_of_eq [Fin.ofNat 26 (6 + j.val), Fin.ofNat 26 (10 + j.val), Fin.ofNat 26 (14 + j.val), Fin.ofNat 26 (18 + j.val), Fin.ofNat 26 (22 + j.val)]
    (by revert j; decide +kernel) (by revert j; decide +kernel) Φ

theorem tr_split (Φ : Tr → sProp 𝕄) : bigSep Finset.univ Φ
    = iprop((Φ 0 ∗ Φ 1 ∗ Φ 2 ∗ Φ 3 ∗ Φ 4 ∗ Φ 5) ∗ bigSep (Finset.univ.filter fun t : Tr => 6 ≤ t.val) Φ) := by
  rw [show (Finset.univ : Finset Tr) = (Finset.univ.filter fun t : Tr => ¬ 6 ≤ t.val) ∪ (Finset.univ.filter fun t : Tr => 6 ≤ t.val) from by decide +kernel,
    BI.bigSep_union (by decide +kernel)]
  congr 1
  exact BI.bigSep_eq_bigSepL_of_eq [0, 1, 2, 3, 4, 5] (by decide +kernel) (by decide +kernel) Φ

/-- The whole buffer: the own chunks and what the transfers bring. -/
theorem reg_whole (c : Dev nD) (q) (f : OutB F) : reg c Finset.univ q f
    = iprop((reg c (obox c 0) q f ∗ reg c (obox c 1) q f ∗ reg c (obox c 2) q f ∗ reg c (obox c 3) q f)
      ∗ bigSep (Finset.univ.filter fun t : Tr => 6 ≤ t.val) fun t => reg c (tbox t (back t c)) q f) := by
  have he : ∀ k l, (reg c (box k l 0) q f : sProp 𝕄) = iprop(emp) := fun k l => by
    unfold reg
    rw [show box k l 0 = ∅ from Finset.eq_empty_of_forall_notMem fun i hi => by rw [mem_box] at hi; omega]
    exact pointsTo_empty
  have e4 : (reg c (box (pk c 4) (pl c 4) (pw 4)) q f : sProp 𝕄) = iprop(emp) := he _ _
  have e5 : (reg c (box (pk c 5) (pl c 5) (pw 5)) q f : sProp 𝕄) = iprop(emp) := he _ _
  rw [reg_pieces, tr_split, e4, e5]
  have e6 : (bigSep (Finset.univ.filter fun t : Tr => 6 ≤ t.val) fun t => reg c (box (pk c t) (pl c t) (pw t)) q f : sProp 𝕄)
      = bigSep (Finset.univ.filter fun t : Tr => 6 ≤ t.val) fun t => reg c (tbox t (back t c)) q f :=
    bigSep_congr fun t ht => by
      have h6 : 6 ≤ t.val := (Finset.mem_filter.mp ht).2
      unfold pk pl pw
      rw [if_neg (by omega), if_neg (by omega), if_neg (by omega), if_neg (by omega), if_neg (by omega), if_neg (by omega)]
  rw [e6]
  have e0 : ∀ j : Fin 4, (reg c (box (pk c (Fin.ofNat 26 j.val)) (pl c (Fin.ofNat 26 j.val)) (pw (Fin.ofNat 26 j.val))) q f : sProp 𝕄) = reg c (obox c j.val) q f := fun j => by
    unfold pk pl pw
    have : (Fin.ofNat 26 j.val : Tr).val = j.val := Nat.mod_eq_of_lt (by omega)
    rw [this, if_pos j.isLt, if_pos j.isLt, if_pos j.isLt]
  have e := e0 0; have e' := e0 1; have e'' := e0 2; have e''' := e0 3
  have ha : ∀ P : sProp 𝕄, iprop(P ∗ emp ∗ emp) = P := fun P => by
    rw [sep_emp_eq, sep_emp_eq]
  rw [ha]
  refine congrArg (fun P => iprop(P ∗ _)) ?_
  exact congrArg₂ _ e (congrArg₂ _ e' (congrArg₂ _ e'' e'''))

/-! ## The landing buffer -/

/-- The elements of a slot. -/
def slotSet (s : Fin 3) : Finset S3x1024x512.Idx := Finset.univ.filter fun i => (i 0).val = s.val

theorem slotM_set (s : Fin 3) : (slotM s).view.set = slotSet s := by
  show (((View.whole cc0_scratch0).slice (Rect.unit (s := S3x1024x512) ![s.val, 0, 0] S1x1024x512.size (slot_inb s))).reshape S1024x512 _).set = _
  rw [View.set_reshape, View.set_slice_whole]
  ext i
  rw [Rect.mem_set_unit, slotSet, Finset.mem_filter]
  have h1 : (i 1).val < 1024 := (i 1).isLt
  have h2 : (i 2).val < 512 := (i 2).isLt
  constructor
  · intro h; have := h 0; simp at this; exact ⟨Finset.mem_univ _, by omega⟩
  · rintro ⟨-, h⟩ a
    match a with
    | 0 => simp; omega
    | 1 => simp; omega
    | 2 => simp; omega

theorem slotPts_eq (c : Dev nD) (s : Fin 3) (f : Buf (Elt F) ((c : Thread nD τ).loc cc0_scratch0)) :
    slotPts (F := F) c s f = ((c : Thread nD τ).loc cc0_scratch0 ↦[slotSet s]{fullShare} f : sProp 𝕄) :=
  congrArg (fun S => ((c : Thread nD τ).loc cc0_scratch0 ↦[S]{fullShare} f : sProp 𝕄)) (slotM_set s)

theorem slots_disj : ∀ s ∈ (Finset.univ : Finset (Fin 3)), ∀ s' ∈ (Finset.univ : Finset (Fin 3)), s ≠ s' → Disjoint (slotSet s) (slotSet s') := by
  intro s _ s' _ h
  rw [Finset.disjoint_left]
  intro i hi hi'
  exact h (Fin.ext ((Finset.mem_filter.mp hi).2.symm.trans (Finset.mem_filter.mp hi').2))

theorem slots_union : (Finset.univ : Finset (Fin 3)).biUnion slotSet = (Finset.univ : Finset S3x1024x512.Idx) := by
  rw [Finset.eq_univ_iff_forall]
  intro i
  exact Finset.mem_biUnion.mpr ⟨⟨(i 0).val, (i 0).isLt⟩, Finset.mem_univ _, Finset.mem_filter.mpr ⟨Finset.mem_univ _, rfl⟩⟩

/-- The landing buffer, whole. -/
def landing (c : Dev nD) : sProp 𝕄 := iprop(∃ f, ((c : Thread nD τ).loc cc0_scratch0) ↦{fullShare} f)

/-- Elements of the landing buffer. -/
def lreg (c : Dev nD) (S : Finset S3x1024x512.Idx) (f : S3x1024x512.Idx → Elt F .f32) : sProp 𝕄 :=
  ((c : Thread nD τ).loc cc0_scratch0) ↦[S]{fullShare} (show Buf (Elt F) ((c : Thread nD τ).loc cc0_scratch0) from f)

theorem lreg_biUnion {T : Type} (c : Dev nD) (S : Finset T) (K : T → Finset S3x1024x512.Idx) (h : ∀ t ∈ S, ∀ t' ∈ S, t ≠ t' → Disjoint (K t) (K t')) (f) :
    lreg (F := F) c (S.biUnion K) f = bigSep S fun t => lreg c (K t) f := by
  unfold lreg; exact pointsTo_biUnion _ _ h

theorem lreg_join {T : Type} (c : Dev nD) (S : Finset T) (K : T → Finset S3x1024x512.Idx) (h : ∀ t ∈ S, ∀ t' ∈ S, t ≠ t' → Disjoint (K t) (K t')) (fs : T → S3x1024x512.Idx → Elt F .f32) (f₀ : S3x1024x512.Idx → Elt F .f32) :
    bigSep S (fun t => lreg (F := F) c (K t) (fs t)) ⊢ iprop(∃ g, lreg (F := F) c (S.biUnion K) g) := by
  refine (pointsTo_biUnion_join (ℓ := (c : Thread nD τ).loc cc0_scratch0) (q := fullShare) S K fs f₀ h).trans ?_
  iintro ⟨%g, -, H⟩
  iexists g; unfold lreg; iexact H

theorem slot_of_lreg (c : Dev nD) (s : Fin 3) (f) : lreg (F := F) c (slotSet s) f ⊢ iprop(∃ f, slotPts (F := F) c s f) := by
  iintro H; iexists f; rw [slotPts_eq]; unfold lreg; iexact H
theorem lreg_of_slot (c : Dev nD) (s : Fin 3) : iprop(∃ f, slotPts (F := F) c s f) ⊢ iprop(∃ f, lreg (F := F) c (slotSet s) f) := by
  iintro ⟨%f, H⟩; iexists f; unfold lreg; rw [← slotPts_eq]; iexact H

theorem slots_start (c : Dev nD) : landing (F := F) c ⊢ bigSep Finset.univ fun s : Fin 3 => iprop(∃ f, slotPts (F := F) c s f) := by
  have h : ∀ f, lreg (F := F) c Finset.univ f ⊢ bigSep Finset.univ fun s : Fin 3 => iprop(∃ f, slotPts (F := F) c s f) := fun f => by
    rw [← slots_union, lreg_biUnion c _ _ slots_disj]
    exact bigSep_mono fun s _ => slot_of_lreg c s f
  unfold landing
  iintro ⟨%f, H⟩
  iapply (h f)
  unfold lreg; iexact H

theorem slots_end (c : Dev nD) : (bigSep Finset.univ fun s : Fin 3 => iprop(∃ f, slotPts (F := F) c s f)) ⊢ landing (F := F) c := by
  haveI : Nonempty (S3x1024x512.Idx → Elt F .f32) := ⟨fun _ => zeroE⟩
  have h := bigSep_exists_pi (Finset.univ : Finset (Fin 3)) fun (s : Fin 3) (f : S3x1024x512.Idx → Elt F .f32) => lreg (F := F) c (slotSet s) f
  refine (bigSep_mono fun s _ => lreg_of_slot c s).trans (h.trans ?_)
  unfold landing
  iintro ⟨%fs, H⟩
  ihave H' := (lreg_join c (Finset.univ : Finset (Fin 3)) slotSet slots_disj fs (fs 0)) $$ H
  icases H' with ⟨%g, H⟩
  rw [slots_union]
  iexists g; unfold lreg; iexact H

theorem perm_of_reg (c : Dev nD) (S : Finset S4096x2048.Idx) (f : OutB F) : reg c S fullShare f ⊢ perm (F := F) c S := by
  unfold perm; iintro H; iexists f; iexact H

/-! ## Dealing out and putting together -/

/-- The neighbour that signal `j` of the barrier goes to. -/
def tgt (j : Fin 4) (c : Dev nD) : Dev nD := match j with | 0 => zs c 3 | 1 => zs c 1 | 2 => xn c | 3 => yn c

theorem by_back : ∀ (j : Fin 4) (c : Dev nD) (t : Tr), byBar j (tgt j c) t = true → back t c = tgt j c := by decide +kernel
theorem by_disj : ∀ (c : Dev nD) (j j' : Fin 4), j ≠ j' → ∀ t : Tr, byBar j c t = true → byBar j' c t = true → False := by decide +kernel
theorem by_disj' : ∀ (c : Dev nD) (j j' : Fin 4), j ≠ j' → ∀ t : Tr, byBar j (tgt j c) t = true → byBar j' (tgt j' c) t = true → False := by decide +kernel
theorem by_all : ∀ (c : Dev nD) (t : Tr), (∃ j : Fin 4, byBar j c t = true) ↔ (t.val < 3 ∨ 6 ≤ t.val) := by decide +kernel
theorem by_all' : ∀ (c : Dev nD) (t : Tr), (∃ j : Fin 4, byBar j (tgt j c) t = true) ↔ (t.val < 3 ∨ 6 ≤ t.val) := by decide +kernel

theorem deal (p : Fin 4 → Tr → Bool) (hd : ∀ j j' : Fin 4, j ≠ j' → ∀ t : Tr, p j t = true → p j' t = true → False)
    (ha : ∀ t : Tr, (∃ j : Fin 4, p j t = true) ↔ (t.val < 3 ∨ 6 ≤ t.val)) (Φ : Tr → sProp 𝕄) (h35 : ∀ t : Tr, 3 ≤ t.val → t.val < 6 → Φ t = iprop(emp)) :
    bigSep Finset.univ Φ = bigSep Finset.univ fun j : Fin 4 => bigSep (Finset.univ.filter fun t => p j t = true) Φ := by
  rw [bigSep_filter_split Finset.univ (fun t : Tr => t.val < 3 ∨ 6 ≤ t.val),
    show (bigSep (Finset.univ.filter fun t : Tr => ¬ (t.val < 3 ∨ 6 ≤ t.val)) Φ) = iprop(emp) from
      (bigSep_congr (Ψ := fun _ => iprop(emp)) fun t ht => by have := (Finset.mem_filter.mp ht).2; exact h35 t (by omega) (by omega)).trans (bigSep_emp_const _),
    show (Finset.univ.filter fun t : Tr => t.val < 3 ∨ 6 ≤ t.val) = (Finset.univ : Finset (Fin 4)).biUnion (fun j => Finset.univ.filter fun t => p j t = true) from by
      ext t; simp only [Finset.mem_filter, Finset.mem_univ, true_and, Finset.mem_biUnion]; exact (ha t).symm,
    BI.bigSep_biUnion_eq _ _ _ (fun j _ j' _ h => Finset.disjoint_filter.mpr fun t _ h1 h2 => hd j j' h t h1 h2)]
  exact sep_emp_eq _

/-- What the four signals of a device hand over: everything its neighbours fill. -/
theorem pays_out (c : Dev nD) : (bigSep Finset.univ fun t : Tr => dest (F := F) t (back t c)) = bigSep Finset.univ fun j : Fin 4 => barPay (F := F) j (tgt j c) := by
  rw [deal (fun j t => byBar j (tgt j c) t) (by_disj' c) (by_all' c) _ (fun t h3 h6 => by unfold dest; rw [dif_neg (by omega), if_pos h6])]
  refine bigSep_congr fun j _ => ?_
  unfold barPay
  exact bigSep_congr fun t ht => by rw [by_back j c t (Finset.mem_filter.mp ht).2]

/-- What the four signals to a device hand over: everything it fills. -/
theorem pays_in (c : Dev nD) : (bigSep Finset.univ fun j : Fin 4 => barPay (F := F) j c) = bigSep Finset.univ fun t : Tr => dest (F := F) t c :=
  (deal (fun j t => byBar j c t) (by_disj c) (by_all c) _ (fun t h3 h6 => by unfold dest; rw [dif_neg (by omega), if_pos h6])).symm

/-- At the start: the own chunks stay, the rest is handed over. -/
theorem start_split (c : Dev nD) (f : OutB F) : iprop(landing (F := F) c ∗ reg c Finset.univ fullShare f)
    ⊢ iprop((reg c (obox c 0) fullShare f ∗ reg c (obox c 1) fullShare f ∗ reg c (obox c 2) fullShare f ∗ reg c (obox c 3) fullShare f)
      ∗ bigSep Finset.univ fun j : Fin 4 => barPay (F := F) j (tgt j c)) := by
  rw [← pays_out, tr_split, reg_whole, show (bigSep (Finset.univ.filter fun t : Tr => 6 ≤ t.val) fun t => dest (F := F) t (back t c))
      = bigSep (Finset.univ.filter fun t : Tr => 6 ≤ t.val) fun t => perm (F := F) c (tbox t (back t c)) from bigSep_congr fun t ht => by
        have h6 : 6 ≤ t.val := (Finset.mem_filter.mp ht).2
        unfold dest; rw [dif_neg (by omega), if_neg (by omega), peer_back]]
  iintro ⟨Hl, Ho, Hi⟩
  isplitl [Ho]; · iexact Ho
  isplitl [Hl]
  · ihave Hs := (slots_start c) $$ Hl
    have e3 : (bigSep Finset.univ fun s : Fin 3 => iprop(∃ f, slotPts (F := F) c s f))
        = iprop((∃ f, slotPts (F := F) c 0 f) ∗ (∃ f, slotPts (F := F) c 1 f) ∗ ∃ f, slotPts (F := F) c 2 f) :=
      BI.bigSep_univ_eq_bigSepL [0, 1, 2] (by decide) (by decide) fun s : Fin 3 => iprop(∃ f, slotPts (F := F) c s f)
    ihave Hs' := (Entails.of_eq e3) $$ Hs
    icases Hs' with ⟨H0, H1, H2⟩
    have hz : zs (zs c 3) 1 = c := zs_forth c
    unfold dest back
    rw [dif_pos (by decide), dif_pos (by decide), dif_pos (by decide), dif_neg (by decide), dif_neg (by decide), dif_neg (by decide), if_pos (by decide), if_pos (by decide), if_pos (by decide),
      if_pos (by decide), if_pos (by decide), if_pos (by decide), hz]
    isplitl [H0]; · iexact H0
    isplitl [H1]; · iexact H1
    isplitl [H2]; · iexact H2
    isplitr; · iempintro
    isplitr <;> iempintro
  · have hm : (bigSep (Finset.univ.filter fun t : Tr => 6 ≤ t.val) fun t => reg c (tbox t (back t c)) fullShare f)
        ⊢ bigSep (Finset.univ.filter fun t : Tr => 6 ≤ t.val) fun t => perm (F := F) c (tbox t (back t c)) := bigSep_mono fun t _ => perm_of_reg c _ f
    iapply hm; iexact Hi

/-- What is read by an own chunk's three copies, put together. -/
theorem own_shares (c : Dev nD) (S : Finset S4096x2048.Idx) (f : OutB F) :
    reg c S fullShare f ⊣⊢ iprop(reg c S fullShare.left f ∗ reg c S fullShare.right.left f ∗ reg c S fullShare.right.right f) := by
  have h1 : reg c S fullShare f ⊣⊢ iprop(reg c S fullShare.left f ∗ reg c S fullShare.right f) := pointsTo_share (PosShare.mem_left_op_right _)
  have h2 : reg c S fullShare.right f ⊣⊢ iprop(reg c S fullShare.right.left f ∗ reg c S fullShare.right.right f) := pointsTo_share (PosShare.mem_left_op_right _)
  constructor
  · exact h1.1.trans (sep_mono_right h2.1)
  · exact (sep_mono_right h2.2).trans h1.2

end Cert.Lookup

end
-- ==== Proof.Local.lean ====
/-
# The steps of the body

The operations of the body as they are used there: waits, sends, loads and stores on whole chunks, the barrier, and
the two loops of a gather, each as one step on the state `Sx` and the chunks a device holds.
-/
module

public import proofs.«01_k».proof.Proof.Pieces

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- The records, the levels and the state of the transfers. -/
def Sx (c : Dev nD) (a b : ℕ) : sProp 𝕄 := iprop(recs m K ∗ levAts L lv ∗ St m c a b)

/-- What the copy of transfer `t` reads. -/
abbrev src (t : Tr) (c : Dev nD) : sProp 𝕄 := reg c (tbox t c) (shr t) (full m)

theorem credit_o {off size : Fin 2 → ℕ} {inb} {t : Tr} (hs : size = ![1024, wd t]) : (oSl off size inb).view.dmaCredit = amt t := by
  by_cases h14 : t.val < 14
  · obtain rfl : size = S1024x512.size := hs.trans (by rw [wd_own t h14])
    exact credit_512 h14
  by_cases h22 : t.val < 22
  · obtain rfl : size = S1024x128.size := hs.trans (by unfold wd; rw [if_neg h14, if_pos h22])
    exact credit_128 (by omega) h22
  · obtain rfl : size = S1024x256.size := hs.trans (by unfold wd; rw [if_neg h14, if_neg h22])
    exact credit_256 (by omega)

/-! ## Waits and sends -/

/-- A wait for a send. -/
theorem waitS {α : Type} {Φ : α → sProp 𝕄} {k : PUnit → Prog (TpuEff nD τ sig (Elt F) Λ₀ .tc) α} (c : Dev nD) (t : Tr) (a b : ℕ)
    (hb : b = 2 * wq t) (ha : ord t < a) {off size : Fin 2 → ℕ} {inb : ∀ a, off a + size a ≤ S4096x2048.size a} {sm : DmaSem sig} {s' : Shape}
    {sr : Memref sig .tc .vmem s' .f32} {hsrc : sr.view.WordExact} {hdst : (oSl off size inb).view.WordExact} (hs : size = ![1024, wd t]) (hsm : sm = sendSem t) :
    Sx m K c a b ⊢ iprop((Sx m K c a (b + 1) -∗ wpB c (k ⟨⟩) Φ) -∗ wpB c (.op (.waitDma2 sm sr (oSl off size inb) hsrc hdst) k) Φ) := by
  unfold Sx
  iintro ⟨#Hr, #Hl, HS⟩ Hk
  iapply (waitS_step m K c t a b hb ha (wpE_waitDma2_eq 𝒱₀ (c : Thread nD τ) none Set.univ) (congrArg _ hsm) (credit_o hs)) $$ [HS]
  · isplitr; · iexact Hr
    isplitr; · iexact Hl
    iexact HS
  iintro HS
  iapply Hk
  isplitr; · iexact Hr
  isplitr; · iexact Hl
  iexact HS

/-- A wait for an arrival. -/
theorem waitR {α : Type} {Φ : α → sProp 𝕄} {k : PUnit → Prog (TpuEff nD τ sig (Elt F) Λ₀ .tc) α} (c : Dev nD) (t : Tr) (a b : ℕ)
    (hb : b = 2 * wq t + 1) (ha : ord t < a) {sm : DmaSem sig} {s s' : Shape}
    {sr : Memref sig .tc .vmem s' .f32} {ds : Memref sig .tc .vmem s .f32} {hsrc : sr.view.WordExact} {hdst : ds.view.WordExact}
    (hc : ds.view.dmaCredit = amt t) (hsm : sm = recvSem t) :
    Sx m K c a b ⊢ iprop((iprop(Sx m K c a (b + 1) ∗ hand m t c) -∗ wpB c (k ⟨⟩) Φ) -∗ wpB c (.op (.waitDma2 sm sr ds hsrc hdst) k) Φ) := by
  unfold Sx
  iintro ⟨#Hr, #Hl, HS⟩ Hk
  iapply (waitR_step m K c t a b hb ha (wpE_waitDma2_eq 𝒱₀ (c : Thread nD τ) none Set.univ) (congrArg _ hsm) hc) $$ [HS]
  · isplitr; · iexact Hr
    isplitr; · iexact Hl
    iexact HS
  iintro ⟨HS, Hh⟩
  iapply Hk
  isplitr [Hh]
  · isplitr; · iexact Hr
    isplitr; · iexact Hl
    iexact HS
  iexact Hh

/-- A send after the reduce-scatter. -/
theorem send {α : Type} {Φ : α → sProp 𝕄} {k : PUnit → Prog (TpuEff nD τ sig (Elt F) Λ₀ .tc) α} (c : Dev nD) (t : Tr) (a b : ℕ) (h3 : 3 ≤ t.val)
    (ha : a = ord t) (hb : b ≤ 2 * wq t)
    {off size : Fin 2 → ℕ} {inb : ∀ a, off a + size a ≤ S4096x2048.size a} {dev : Dev nD} {sS sR : DmaSem sig}
    (hg : dev = peer t c ∧ off = ![1024 * chunk t c, lo t c]) (hs : size = ![1024, wd t]) (hS : sS = sendSem t) (hR : sR = recvSem t)
    {hsc : (oSl off size inb : Memref sig (Dev.tc dev : Thread nD τ).2.kind .vmem ⟨2, size⟩ .f32).view.ref.isScScratch = false}
    {hsrc hdst} {hsem : DmaTarget.Typed .vmem (.dma sR) (.remote (Dev.tc dev : Thread nD τ) (oSl off size inb) (.dma sS) hsc)} :
    iprop(Sx m K c a b ∗ src m t c ∗ extra (F := F) t c)
      ⊢ iprop((Sx m K c (a + 1) b -∗ wpB c (k ⟨⟩) Φ)
        -∗ wpB c (.op (.enqueueDma (oSl off size inb) (.remote (Dev.tc dev : Thread nD τ) (oSl off size inb) (.dma sS) hsc) (.dma sR) hsrc hdst hsem) k) Φ) := by
  unfold Sx
  iintro ⟨⟨#Hr, #Hl, HS⟩, Hsrc, Hex⟩ Hk
  iapply (send_step m K c t h3 a b ha hb hg.1 hg.2 hs (credit_o hs) hS hR) $$ [HS Hsrc Hex]
  · isplitr; · iexact Hr
    isplitl [HS]; · iexact HS
    isplitl [Hsrc]; · iexact Hsrc
    iexact Hex
  iintro HS
  iapply Hk
  isplitr; · iexact Hr
  isplitr; · iexact Hl
  iexact HS

/-- A send of the exchange with the neighbours. -/
theorem send' {α : Type} {Φ : α → sProp 𝕄} {k : PUnit → Prog (TpuEff nD τ sig (Elt F) Λ₀ .tc) α} (c : Dev nD) (t : Tr) (a b : ℕ) (h6 : 6 ≤ t.val)
    (ha : a = ord t) (hb : b ≤ 2 * wq t)
    {off size : Fin 2 → ℕ} {inb : ∀ a, off a + size a ≤ S4096x2048.size a} {dev : Dev nD} {sS sR : DmaSem sig}
    (hg : dev = peer t c ∧ off = ![1024 * chunk t c, lo t c]) (hs : size = ![1024, wd t]) (hS : sS = sendSem t) (hR : sR = recvSem t)
    {hsc : (oSl off size inb : Memref sig (Dev.tc dev : Thread nD τ).2.kind .vmem ⟨2, size⟩ .f32).view.ref.isScScratch = false}
    {hsrc hdst} {hsem : DmaTarget.Typed .vmem (.dma sR) (.remote (Dev.tc dev : Thread nD τ) (oSl off size inb) (.dma sS) hsc)} :
    iprop(Sx m K c a b ∗ src m t c)
      ⊢ iprop((Sx m K c (a + 1) b -∗ wpB c (k ⟨⟩) Φ)
        -∗ wpB c (.op (.enqueueDma (oSl off size inb) (.remote (Dev.tc dev : Thread nD τ) (oSl off size inb) (.dma sS) hsc) (.dma sR) hsrc hdst hsem) k) Φ) := by
  iintro ⟨HS, Hsrc⟩ Hk
  iapply (send m K c t a b (by omega) ha hb hg hs hS hR) $$ [HS Hsrc]
  · isplitl [HS]; · iexact HS
    isplitl [Hsrc]; · iexact Hsrc
    unfold extra; rw [if_neg (by omega)]; iempintro
  iexact Hk

/-- A send of the reduce-scatter. -/
theorem sendR {α : Type} {Φ : α → sProp 𝕄} {k : PUnit → Prog (TpuEff nD τ sig (Elt F) Λ₀ .tc) α} (c : Dev nD) (t : Tr) (a b : ℕ) (h3 : t.val < 3)
    (ha : a = ord t) (hb : b ≤ 2 * wq t)
    {off : Fin 2 → ℕ} {inb : ∀ a, off a + S1024x512.size a ≤ S4096x2048.size a} {off' : Fin 3 → ℕ} {inb'} {dev : Dev nD} {sS sR : DmaSem sig}
    (hg : dev = peer t c ∧ off = ![1024 * chunk t c, 512 * bcol c]) (hoff' : off' = ![t.val, 0, 0]) (hS : sS = sendSem t) (hR : sR = recvSem t)
    {hsc : (rSl off' inb' : Memref sig (Dev.tc dev : Thread nD τ).2.kind .vmem S1024x512 .f32).view.ref.isScScratch = false}
    {hsrc hdst} {hsem : DmaTarget.Typed .vmem (.dma sR) (.remote (Dev.tc dev : Thread nD τ) (rSl off' inb') (.dma sS) hsc)} :
    iprop(Sx m K c a b ∗ reg c (box (chunk t c) (512 * bcol c) 512) fullShare (acc m t.val) ∗ permsDn (F := F) t.val c (chunk t c))
      ⊢ iprop((Sx m K c (a + 1) b -∗ wpB c (k ⟨⟩) Φ)
        -∗ wpB c (.op (.enqueueDma (oSl off S1024x512.size inb) (.remote (Dev.tc dev : Thread nD τ) (rSl off' inb') (.dma sS) hsc) (.dma sR) hsrc hdst hsem) k) Φ) := by
  unfold Sx
  iintro ⟨⟨#Hr, #Hl, HS⟩, Hsrc, Hex⟩ Hk
  iapply (sendR_step m K c t h3 a b ha hb hg.1 hg.2 hoff' hS hR) $$ [HS Hsrc Hex]
  · isplitr; · iexact Hr
    isplitl [HS]; · iexact HS
    isplitl [Hsrc]; · iexact Hsrc
    iexact Hex
  iintro HS
  iapply Hk
  isplitr; · iexact Hr
  isplitr; · iexact Hl
  iexact HS

/-! ## Loads and stores -/

/-- A load of an own chunk. -/
theorem load_o {α : Type} {Φ : α → sProp 𝕄} {k : (S1024x512.Idx → Elt F .f32) → Prog (TpuEff nD τ sig (Elt F) Λ₀ .tc) α} (c : Dev nD) {n : ℕ}
    {off : Fin 2 → ℕ} {inb : ∀ a, off a + S1024x512.size a ≤ S4096x2048.size a} (h : off = ![1024 * n, 512 * bcol c]) (f : OutB F) {hl} :
    reg c (box n (512 * bcol c) 512) fullShare f
      ⊢ iprop((reg c (box n (512 * bcol c) 512) fullShare f -∗ wpB c (k ((oSl off S1024x512.size inb).view.read (Elt F) f)) Φ)
        -∗ wpB c (.op (.load oM (Rect.unit (s := S4096x2048) off S1024x512.size inb).toLoadRect hl) k) Φ) := by
  unfold reg
  exact wp_load_rect 𝒱₀ (c : Thread nD τ) none Set.univ (m := oM) (r := Rect.unit (s := S4096x2048) off S1024x512.size inb)
    (le_of_eq (access_set h rfl))

/-- A load of a landing slot. -/
theorem load_r {α : Type} {Φ : α → sProp 𝕄} {k : (S1x1024x512.Idx → Elt F .f32) → Prog (TpuEff nD τ sig (Elt F) Λ₀ .tc) α} (c : Dev nD) (s : Fin 3)
    {off : Fin 3 → ℕ} {inb : ∀ a, off a + S1x1024x512.size a ≤ S3x1024x512.size a} (h : off = ![s.val, 0, 0]) (f) {hl} :
    slotPts (F := F) c s f
      ⊢ iprop((slotPts (F := F) c s f -∗ wpB c (k ((rM.access (Rect.unit (s := S3x1024x512) off S1x1024x512.size inb)).read (Elt F) f)) Φ)
        -∗ wpB c (.op (.load rM (Rect.unit (s := S3x1024x512) off S1x1024x512.size inb).toLoadRect hl) k) Φ) := by
  subst h
  unfold slotPts
  exact wp_load_rect 𝒱₀ (c : Thread nD τ) none Set.univ (m := rM) (r := Rect.unit (s := S3x1024x512) ![s.val, 0, 0] S1x1024x512.size inb)
    (S := (slotM s).view.set) (q := fullShare) (f := f) (le_of_eq (View.set_reshape _ _).symm)

/-- A store to an own chunk. -/
theorem store_o {α : Type} {Φ : α → sProp 𝕄} {k : PUnit → Prog (TpuEff nD τ sig (Elt F) Λ₀ .tc) α} (c : Dev nD) {n : ℕ}
    {off : Fin 2 → ℕ} {inb : ∀ a, off a + S1024x512.size a ≤ S4096x2048.size a} (h : off = ![1024 * n, 512 * bcol c]) (f g : OutB F)
    {w : S1024x512.Idx → Elt F .f32} {hs hm}
    (hw : ∀ (j : S1024x512.Idx) (i : S4096x2048.Idx), i ∈ box n (512 * bcol c) 512 → (i 0).val = 1024 * n + (j 0).val → (i 1).val = 512 * bcol c + (j 1).val → w j = g i) :
    reg c (box n (512 * bcol c) 512) fullShare f
      ⊢ iprop((reg c (box n (512 * bcol c) 512) fullShare g -∗ wpB c (k ⟨⟩) Φ)
        -∗ wpB c (.op (.store oM (Rect.unit (s := S4096x2048) off S1024x512.size inb) w Finset.univ hs hm) k) Φ) := by
  have hset : (oM.access (Rect.unit (s := S4096x2048) off S1024x512.size inb)).set = box n (512 * bcol c) 512 := access_set h rfl
  iintro Hr Hk
  unfold reg
  iapply (wp_store 𝒱₀ (c : Thread nD τ) none Set.univ (m := oM) (r := Rect.unit (s := S4096x2048) off S1024x512.size inb) (Mk := Finset.univ)
    (le_of_eq (show (oM.access (Rect.unit (s := S4096x2048) off S1024x512.size inb)).setOn Finset.univ = _ from by rw [View.setOn_univ]; exact hset))) $$ Hr
  iintro Hr
  iapply Hk
  have e : (((c : Thread nD τ).loc cc0_stg1_0) ↦[box n (512 * bcol c) 512]{fullShare}
      ((oM.access (Rect.unit (s := S4096x2048) off S1024x512.size inb)).write (Elt F) f w Finset.univ) : sProp 𝕄)
      = (((c : Thread nD τ).loc cc0_stg1_0) ↦[box n (512 * bcol c) 512]{fullShare} g) := pointsTo_congr fun i hi => by
    rw [← hset] at hi
    obtain ⟨j, -, hj⟩ := Finset.mem_map.mp hi
    subst hj
    have hj0 := oSl_emb (inb := inb) j 0
    have hj1 := oSl_emb (inb := inb) j 1
    exact (View.write_emb_of_mem (v := oM.access (Rect.unit (s := S4096x2048) off S1024x512.size inb)) _ _ (Finset.mem_univ j)).trans (hw j _ (hset ▸ hi)
      (hj0.trans (congrArg (· + (j 0).val) (congrFun h 0))) (hj1.trans (congrArg (· + (j 1).val) (congrFun h 1))))
  iapply (Entails.of_eq e); iexact Hr

/-- Filling an own chunk with zeros. -/
theorem zero_step {α : Type} {Φ : α → sProp 𝕄} {k : PUnit → Prog (TpuEff nD τ sig (Elt F) Λ₀ .tc) α} (c : Dev nD) {n : ℕ}
    {off : Fin 2 → ℕ} {inb : ∀ a, off a + S1024x512.size a ≤ S4096x2048.size a} (h : off = ![1024 * n, 512 * bcol c]) (f : OutB F)
    {w : S1024x512.Idx → Elt F .f32} {hl hs hm} (hw : w = fun _ => zeroE) :
    reg c (box n (512 * bcol c) 512) fullShare f
      ⊢ iprop((reg c (box n (512 * bcol c) 512) fullShare zeroB -∗ wpB c (k ⟨⟩) Φ)
        -∗ wpB c (.op (.load oM (Rect.unit (s := S4096x2048) off S1024x512.size inb).toLoadRect hl)
          fun _ => .op (.store oM (Rect.unit (s := S4096x2048) off S1024x512.size inb) w Finset.univ hs hm) k) Φ) := by
  iintro Hr Hk
  iapply (load_o c h f) $$ Hr
  iintro Hr
  iapply (store_o c h f zeroB (fun j i _ _ _ => by rw [hw]; rfl)) $$ Hr
  iexact Hk

/-- The sum of a gathered chunk and an arrived one is the next running sum. -/
theorem add_tile (c : Dev nD) (s : ℕ) {n : ℕ} (hd : dv (bcol c) (n + (s + 1)) = c) {off : Fin 2 → ℕ} {inb : ∀ a, off a + S1024x512.size a ≤ S4096x2048.size a}
    (h : off = ![1024 * n, 512 * bcol c]) {w : S1024x512.Idx → Elt F .f32} (hw : Holds m s n (bcol c) w)
    (j : S1024x512.Idx) (i : S4096x2048.Idx) (hi : i ∈ box n (512 * bcol c) 512) (h0 : (i 0).val = 1024 * n + (j 0).val) (h1 : (i 1).val = 512 * bcol c + (j 1).val) :
    addf ((oSl off S1024x512.size inb).view.read (Elt F) (part m c) : FVec F S1024x512 .f32) w j = acc m (s + 1) i := by
  have e : ((oSl off S1024x512.size inb).view.emb j : S4096x2048.Idx) = i := by
    funext a; apply Fin.ext
    rw [oSl_emb]
    match a with
    | 0 => exact (congrArg (· + (j 0).val) (congrFun h 0)).trans h0.symm
    | 1 => exact (congrArg (· + (j 1).val) (congrFun h 1)).trans h1.symm
  have hk : (i 0).val / 1024 = n := by rw [mem_box] at hi; omega
  have hb : (i 1).val / 512 = bcol c := by rw [mem_box] at hi; omega
  have hl : ((oSl off S1024x512.size inb).view.read (Elt F) (part m c)) j = part m c i := by rw [← e]; rfl
  show FloatOps.addf _ _ = FloatOps.addf (part m (dv ((i 1).val / 512) ((i 0).val / 1024 + (s + 1))) i) (acc m s i)
  rw [hk, hb, hd, ← hw j i h0 h1, ← hl]

/-- What a device gathers for its own chunk is the start of the running sum. -/
theorem part_start (c : Dev nD) (n : ℕ) (hd : dv (bcol c) n = c) :
    reg c (box n (512 * bcol c) 512) fullShare (part m c) = reg c (box n (512 * bcol c) 512) fullShare (acc m 0) := by
  unfold reg
  refine pointsTo_congr fun i hi => ?_
  rw [mem_box] at hi
  show part m c i = part m (dv ((i 1).val / 512) ((i 0).val / 1024)) i
  rw [show (i 1).val / 512 = bcol c by omega, show (i 0).val / 1024 = n by omega, hd]

/-! ## The barrier -/

/-- A signal of the barrier. -/
theorem signal_step {α : Type} {Φ : α → sProp 𝕄} {k : PUnit → Prog (TpuEff nD τ sig (Elt F) Λ₀ .tc) α} (c : Dev nD) (j : Fin 4) (O₀ O : CellTallies nD τ sig Unit)
    (hO : O₀ = O + tallyAt (barCell (tgt j c)) () 1) {dev : Dev nD} (hdev : dev = tgt j c) :
    iprop(recs m K ∗ owesAny (F := F) c O₀ ∗ dutyTok ER (barCell (tgt j c)) 0 j ∗ barPay (F := F) j (tgt j c))
      ⊢ iprop((owesAny (F := F) c O -∗ wpB c (k ⟨⟩) Φ) -∗ wpB c (semSignalWord (dev : Dev nD) barS 1#32 >>= k) Φ) := by
  subst hdev
  iintro ⟨#Hrec, HO, Ht, Hp⟩ Hk
  unfold owesAny
  icases HO with ⟨%W, HO⟩
  ihave HI := (recs_bar m K (tgt j c)) $$ Hrec
  icases HI with ⟨#HI, #Hr⟩
  simp only [semSignalWord, Prog.lift, Prog.bind_op, Prog.bind_ret, Prog.pure_eq_ret]
  iapply (Rounds.wp_signal 𝒱₀ ER (sched m) (c : Thread nD τ) none (dst := (tgt j c : Thread nD τ)) (κ := K (tgt j c, .inl ())) (d := j)
    (by rw [duties_bar]; exact Finset.mem_univ _) ((amount_bar m (tgt j c) j).trans (by decide)) () O hO) $$ [HO Ht Hp]
  · isplitr; · iexact HI
    isplitl [HO]; · iexact HO
    isplitl [Ht]; · iexact Ht
    isplitl [Hp]; · rw [payload_bar]; iexact Hp
    iexact Hr
  iintro HO
  iapply Hk
  iexists _; iexact HO

/-- What a device holds of transfer `t` from the start. -/
def base (c : Dev nD) (t : Tr) : sProp 𝕄 :=
  iprop(dutyTok ER (sendCell t c) 0 0 ∗ dutyTok ER (recvCell t (peer t c)) 0 0 ∗ atPos ER (sendCell t c) 0 ∅ 0
    ∗ atPos ER (recvCell t c) 0 ∅ 0 ∗ cred (tallyAt (recvCell t c) () (amt t)))

theorem base_St (c : Dev nD) (t : Tr) : iprop(base (F := F) c t ∗ dest (F := F) t c) ⊢ StT m c 0 0 t := by
  unfold base StT StS sendRes
  rw [if_neg (Nat.not_lt_zero _), if_pos (Nat.zero_le _), if_pos (Nat.zero_le _), if_neg (Nat.not_lt_zero _)]
  iintro ⟨⟨H1, H2, H3, H4, H5⟩, H6⟩
  isplitl [H1 H2 H6]
  · isplitl [H1]; · iexact H1
    isplitl [H2]; · iexact H2
    iexact H6
  isplitl [H3]
  · isplitl [H3]; · iexact H3
    iempintro
  isplitl [H4]; · iexact H4
  iexact H5

/-- The wait of the barrier: every destination is handed over. -/
theorem barrier_step {α : Type} {Φ : α → sProp 𝕄} {k : PUnit → Prog (TpuEff nD τ sig (Elt F) Λ₀ .tc) α} (c : Dev nD) :
    iprop(recs m K ∗ levAts L lv ∗ owesAny (F := F) c (owe c 0) ∗ atPos ER (barCell c) 0 ∅ 0 ∗ cred (tallyAt (barCell c) () 4)
        ∗ bigSep Finset.univ (base (F := F) c))
      ⊢ iprop((iprop(Sx m K c 0 0 ∗ semVal (barCell c) 0) -∗ wpB c (k ⟨⟩) Φ) -∗ wpB c (semWaitWord barS 4#32 >>= k) Φ) := by
  iintro ⟨#Hrec, #Hlev, HO, Hat, Hc, HB⟩ Hk
  unfold owesAny
  icases HO with ⟨%W, HO⟩
  ihave HI := (recs_bar m K c) $$ Hrec
  icases HI with ⟨#HI, -⟩
  simp only [semWaitWord, Prog.lift, Prog.bind_op, Prog.bind_ret, Prog.pure_eq_ret]
  iapply (Rounds.wp_wait_rest_token 𝒱₀ ER (sched m) (c : Thread nD τ) none (κ := K (c, .inl ()))
      (wpE_semWait_eq 𝒱₀ (c : Thread nD τ) none Set.univ) (Set.mem_univ _) () (O := owe c 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait_owe c (.reg barS) 0 (by rw [role_bar]; decide)); iexact Hlev
    iexact Hat
  iintro ⟨HO, Hat, -, Hpay⟩
  ihave Hp := (Entails.of_eq ((rest_bar m c).trans (pays_in c))) $$ Hpay
  imod (Rounds.cell_close ER (sched m) (Set.mem_univ (K (c, .inl ()))) (fun h => h) (R := 0 + 1) (duties_later m (barCell c))) $$ [Hat] with Hz
  · isplitr; · iexact HI
    iexact Hat
  iapply Hk
  isplitr [Hz]
  · unfold Sx St
    isplitr; · iexact Hrec
    isplitr; · iexact Hlev
    isplitl [HO]; · unfold owesAny; iexists _; iexact HO
    have hm : iprop(bigSep Finset.univ (base (F := F) c) ∗ bigSep Finset.univ (fun t : Tr => dest (F := F) t c)) ⊢ bigSep Finset.univ (StT m c 0 0) :=
      (Entails.of_eq (bigSep_sep _ _ _).symm).trans (bigSep_mono fun t _ => base_St m c t)
    iapply hm
    isplitl [HB]; · iexact HB
    iexact Hp
  iexact Hz

/-! ## The gather -/

/-- The second loop of a gather while transfers are under way. -/
theorem gather_waitS {β : Type} {Φ : β → sProp 𝕄} {kk : BitVec 32 → Prog (TpuEff nD τ sig (Elt F) Λ₀ .tc) β} (c : Dev nD) (n : ℕ) (a b : ℕ) (v : BitVec 32)
    (hv : v = BitVec.ofNat 32 (copies m c n)) {body} {init : BitVec 32} (oe ie ol il)
    (hbody : body = waitBody (F := F) oe ie ol il) {hok : (k0_t2_loop v).OK} :
    iprop(gathering m c n ∗ Sx m K c a b)
      ⊢ iprop((∀ n', iprop(reg c (box n (512 * bcol c) 512) fullShare (part m c) ∗ tabPts m c Finset.univ fullShare
            ∗ semVal ((c : Thread nD τ), .dma gatherSem) 0 ∗ Sx m K c a b) -∗ wpB c (kk n') Φ)
        -∗ wpB c (Scf.Loop.for (k0_t2_loop v) hok init body >>= kk) Φ) := by
  unfold Sx St
  iintro ⟨HG, #Hr, #Hl, HO, HB⟩ Hk
  iapply (gather_wait m c n v hv (owe c a) (mayWait_owe c (.dma gatherSem) a (by show lvR (roleDma 2) < _; show 0 < a + 2; omega)) oe ie ol il hbody) $$ [HG HO]
  · isplitl [HG]; · iexact HG
    isplitl [HO]; · iexact HO
    iexact Hl
  iintro %n' ⟨H1, H2, H3, HO⟩
  iapply Hk
  isplitl [H1]; · iexact H1
  isplitl [H2]; · iexact H2
  isplitl [H3]; · iexact H3
  isplitr; · iexact Hr
  isplitr; · iexact Hl
  isplitl [HO]; · iexact HO
  iexact HB

end Cert.Lookup

end
-- ==== Proof.Hands.lean ====
/-
# What is handed on, and what is left at the end

What arrives with a transfer is what later transfers read; at the end, all that was read and all that was kept makes
up the whole result.
-/
module

public import proofs.«01_k».proof.Proof.Local

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev tr (n : ℕ) : Tr := Fin.ofNat 26 n

/-! ## The own chunks -/

theorem kk_chunk (c : Dev nD) : kk 1 c = chunk 0 c ∧ kk 2 c = chunk 1 c ∧ kk 3 c = chunk 2 c := by revert c; decide +kernel
theorem chunk_next (c : Dev nD) : chunk 0 (zs c 3) = chunk 1 c ∧ chunk 1 (zs c 3) = chunk 2 c ∧ chunk 2 (zs c 3) = kk 0 c := by revert c; decide +kernel
theorem dv_chunk (c : Dev nD) : dv (bcol c) (chunk 0 c) = c ∧ dv (bcol c) (chunk 1 c + (0 + 1)) = c ∧ dv (bcol c) (chunk 2 c + (1 + 1)) = c ∧ dv (bcol c) (kk 0 c + (2 + 1)) = c := by
  revert c; decide +kernel

/-- The own chunks in the order they are gathered. -/
theorem own_start (c : Dev nD) (f : OutB F) : iprop(landing (F := F) c ∗ reg c Finset.univ fullShare f)
    ⊢ iprop((reg c (box (chunk 0 c) (512 * bcol c) 512) fullShare f ∗ reg c (box (chunk 1 c) (512 * bcol c) 512) fullShare f
        ∗ reg c (box (chunk 2 c) (512 * bcol c) 512) fullShare f ∗ reg c (box (kk 0 c) (512 * bcol c) 512) fullShare f)
      ∗ (barPay (F := F) 0 (tgt 0 c) ∗ barPay (F := F) 1 (tgt 1 c) ∗ barPay (F := F) 2 (tgt 2 c) ∗ barPay (F := F) 3 (tgt 3 c))) := by
  refine (start_split c f).trans ?_
  have e4 : (bigSep Finset.univ fun j : Fin 4 => barPay (F := F) j (tgt j c))
      = iprop(barPay (F := F) 0 (tgt 0 c) ∗ barPay (F := F) 1 (tgt 1 c) ∗ barPay (F := F) 2 (tgt 2 c) ∗ barPay (F := F) 3 (tgt 3 c)) :=
    BI.bigSep_univ_eq_bigSepL [0, 1, 2, 3] (by decide) (by decide) fun j : Fin 4 => barPay (F := F) j (tgt j c)
  rw [e4, ← (kk_chunk c).1, ← (kk_chunk c).2.1, ← (kk_chunk c).2.2]
  iintro ⟨⟨H0, H1, H2, H3⟩, HB⟩
  isplitr [HB]
  · isplitl [H1]; · iexact H1
    isplitl [H2]; · iexact H2
    isplitl [H3]; · iexact H3
    iexact H0
  iexact HB

theorem own_chunk (j : Fin 4) (c : Dev nD) : chunk (tr (6 + j.val)) c = kk j.val c ∧ chunk (tr (10 + j.val)) c = kk j.val c := by revert j c; decide +kernel
theorem ag_chunk (j : Fin 3) (c : Dev nD) : chunk (tr (3 + j.val)) c = kk j.val c ∧ chunk (tr (3 + j.val)) (zs c 3) = kk (j.val + 1) c ∧ bcol (zs c 3) = bcol c := by revert j c; decide +kernel
theorem own_lt (j : Fin 4) : (tr (6 + j.val)).val < 14 ∧ (tr (10 + j.val)).val < 14 ∧ shr (tr (6 + j.val)) = fullShare.right.left ∧ shr (tr (10 + j.val)) = fullShare.right.right := by
  revert j
  have h : ∀ j : Fin 4, (tr (6 + j.val)).val < 14 ∧ (tr (10 + j.val)).val < 14 ∧ ¬ (tr (6 + j.val)).val < 6 ∧ ¬ (tr (10 + j.val)).val < 6 ∧ (tr (6 + j.val)).val < 10 ∧ ¬ (tr (10 + j.val)).val < 10 := by decide
  intro j
  obtain ⟨h1, h2, h3, h4, h5, h6⟩ := h j
  exact ⟨h1, h2, by unfold shr; rw [if_neg h3, if_pos h5], by unfold shr; rw [if_neg h4, if_neg h6, if_pos h2]⟩
theorem ag_lt (j : Fin 3) : (tr (3 + j.val)).val = 3 + j.val := Nat.mod_eq_of_lt (by omega)

theorem src_x (j : Fin 4) (c : Dev nD) : src m (tr (6 + j.val)) c = reg c (obox c j.val) fullShare.right.left (full m) := by
  obtain ⟨h1, h2, h3, h4⟩ := own_lt j
  unfold src tbox obox; rw [lo_own _ _ h1, wd_own _ h1, h3, (own_chunk j c).1]
theorem src_y (j : Fin 4) (c : Dev nD) : src m (tr (10 + j.val)) c = reg c (obox c j.val) fullShare.right.right (full m) := by
  obtain ⟨h1, h2, h3, h4⟩ := own_lt j
  unfold src tbox obox; rw [lo_own _ _ h2, wd_own _ h2, h4, (own_chunk j c).2]
theorem src_ag (j : Fin 3) (c : Dev nD) : src m (tr (3 + j.val)) c = reg c (obox c j.val) fullShare.left (full m) := by
  have h := ag_lt j
  unfold src tbox obox shr
  rw [lo_own _ _ (by omega), wd_own _ (by omega), if_pos (by omega), (ag_chunk j c).1]

/-- A finished own chunk is read by three copies. -/
theorem own_src (j : Fin 4) (c : Dev nD) : reg c (obox c j.val) fullShare (full m)
    ⊣⊢ iprop(reg c (obox c j.val) fullShare.left (full m) ∗ src m (tr (6 + j.val)) c ∗ src m (tr (10 + j.val)) c) := by
  rw [src_x, src_y]; exact own_shares c _ _

/-! ## What arrives -/

/-- What arrives in the reduce-scatter. -/
theorem hand_rs (s : Fin 3) (c : Dev nD) (n : ℕ) (hn : chunk (tr s.val) (zs c 3) = n) :
    hand m (tr s.val) c ⊢ iprop(∃ f, ⌜Holds m s.val n (bcol c) ((slotM s).view.read (Elt F) f)⌝ ∗ slotPts c s f ∗ permsDn (F := F) (s.val + 1) c n) := by
  have hs : (tr s.val).val = s.val := Nat.mod_eq_of_lt (by omega)
  have h3 : Fin.ofNat 3 s.val = s := Fin.ext (Nat.mod_eq_of_lt s.isLt)
  unfold hand recvPay slotPay back
  rw [if_pos (by omega), if_pos (by omega), if_pos (by omega), hs, h3, hn]
  iintro ⟨⟨%f, %H, Hs⟩, HP⟩
  iexists f
  isplitr; · ipureintro; exact H
  isplitl [Hs]; · iexact Hs
  iexact HP

/-- What arrives in the all-gather. -/
theorem hand_ag (j : Fin 3) (c : Dev nD) :
    hand m (tr (3 + j.val)) c ⊢ iprop(reg c (obox c (j.val + 1)) fullShare (full m) ∗ permsUp (F := F) (2 - j.val) c (kk (j.val + 1) c)) := by
  have h := ag_lt j
  obtain ⟨-, h1, h2⟩ := ag_chunk j c
  unfold hand recvPay back tbox
  rw [if_pos (by omega), if_neg (by omega), if_pos (by omega), if_pos (by omega), lo_own _ _ (by omega), wd_own _ (by omega), h1, h2,
    show 5 - (tr (3 + j.val)).val = 2 - j.val by omega]

/-- What the next start of the all-gather hands on. -/
theorem extra_ag (j : Fin 3) (c : Dev nD) : extra (F := F) (tr (3 + j.val)) c = permsUp (F := F) (3 - j.val) c (kk j.val c) := by
  have h := ag_lt j
  unfold extra
  rw [if_pos (by omega), (ag_chunk j c).1, show 6 - (tr (3 + j.val)).val = 3 - j.val by omega]

omit [FloatOps F] in
theorem turn (c : Dev nD) (k : ℕ) : permsDn (F := F) 3 c k ⊢ permsUp (F := F) 3 c k := by
  have h : zs c 1 = zs (zs (zs c 3) 3) 3 ∧ zs (zs c 1) 1 = zs (zs c 3) 3 ∧ zs (zs (zs c 1) 1) 1 = zs c 3 := by revert c; decide +kernel
  rw [permsDn_succ, permsDn_succ, permsDn_succ, permsUp_succ, permsUp_succ, permsUp_succ, h.2.2, h.2.1, h.1]
  unfold permsDn permsUp
  iintro ⟨H1, H2, H3, H4⟩
  isplitl [H3]; · iexact H3
  isplitl [H2]; · iexact H2
  isplitl [H1]; · iexact H1
  iexact H4

/-- What arrives from a neighbour is in part passed on. -/
theorem hand_pass (t : Tr) (c : Dev nD) (h6 : 6 ≤ t.val) (h14 : t.val < 14) : hand m t c ⊢ src m (fwd t) c := by
  have h : shr (fwd t) = fullShare := by
    have : 14 ≤ (fwd t).val := by revert t; decide
    unfold shr; rw [if_neg (by omega), if_neg (by omega), if_neg (by omega)]
  unfold hand src
  rw [if_neg (by omega), if_pos h14, h]

theorem pair_box (j : Fin 4) (c : Dev nD) :
    chunk (tr (14 + j.val)) (back (tr (14 + j.val)) c) = chunk (tr (22 + j.val)) c ∧ chunk (tr (18 + j.val)) (back (tr (18 + j.val)) c) = chunk (tr (22 + j.val)) c
    ∧ lo (tr (14 + j.val)) (back (tr (14 + j.val)) c) = lo (tr (22 + j.val)) c ∧ lo (tr (18 + j.val)) (back (tr (18 + j.val)) c) = lo (tr (22 + j.val)) c + 128 := by
  revert j c; decide +kernel
theorem pair_wd (j : Fin 4) : wd (tr (14 + j.val)) = 128 ∧ wd (tr (18 + j.val)) = 128 ∧ wd (tr (22 + j.val)) = 256 := by revert j; decide
theorem tr_val (j : Fin 4) : (tr (6 + j.val)).val = 6 + j.val ∧ (tr (10 + j.val)).val = 10 + j.val ∧ (tr (14 + j.val)).val = 14 + j.val ∧ (tr (18 + j.val)).val = 18 + j.val ∧ (tr (22 + j.val)).val = 22 + j.val := by
  revert j; decide

/-- What arrives with a transfer, as a region. -/
abbrev inc (t : Tr) (c : Dev nD) : sProp 𝕄 := reg c (tbox t (back t c)) fullShare (full m)

theorem recvPay_inc (t : Tr) (c : Dev nD) (h : 6 ≤ t.val) : recvPay m t c = inc m t c := by
  unfold recvPay; rw [if_neg (by omega), if_neg (by omega)]

/-- The two narrow arrivals make up a later copy's source. -/
theorem pair_src (j : Fin 4) (c : Dev nD) : src m (tr (22 + j.val)) c ⊣⊢ iprop(inc m (tr (14 + j.val)) c ∗ inc m (tr (18 + j.val)) c) := by
  obtain ⟨h1, h2, h3, h4⟩ := pair_box j c
  obtain ⟨w1, w2, w3⟩ := pair_wd j
  have hs : shr (tr (22 + j.val)) = fullShare := by
    have := (tr_val j).2.2.2.2
    unfold shr; rw [if_neg (by omega), if_neg (by omega), if_neg (by omega)]
  unfold src inc tbox
  rw [h1, h2, h3, h4, w1, w2, w3, hs]
  have hsub : box (chunk (tr (22 + j.val)) c) (lo (tr (22 + j.val)) c) 128 ⊆ box (chunk (tr (22 + j.val)) c) (lo (tr (22 + j.val)) c) 256 := by
    intro i hi; rw [mem_box] at hi ⊢; omega
  have hdiff : box (chunk (tr (22 + j.val)) c) (lo (tr (22 + j.val)) c) 256 \ box (chunk (tr (22 + j.val)) c) (lo (tr (22 + j.val)) c) 128
      = box (chunk (tr (22 + j.val)) c) (lo (tr (22 + j.val)) c + 128) 128 := by
    ext i; rw [Finset.mem_sdiff, mem_box, mem_box, mem_box]; omega
  rw [← hdiff]
  unfold reg
  exact pointsTo_split_subset hsub

theorem hand_pair (j : Fin 4) (c : Dev nD) : iprop(hand m (tr (14 + j.val)) c ∗ hand m (tr (18 + j.val)) c) ⊢ src m (tr (22 + j.val)) c := by
  obtain ⟨-, -, v1, v2, -⟩ := tr_val j
  unfold hand
  rw [if_neg (by omega), if_neg (by omega), if_pos (by omega), if_neg (by omega), if_neg (by omega), if_pos (by omega),
    recvPay_inc m _ _ (by omega), recvPay_inc m _ _ (by omega)]
  exact (pair_src m j c).2

/-! ## The end -/

theorem sendPay_src (t : Tr) (c : Dev nD) (h : 3 ≤ t.val) : sendPay m t c = src m t c := by unfold sendPay; rw [if_neg (by omega)]

theorem fwd_tr (j : Fin 4) : fwd (tr (6 + j.val)) = tr (18 + j.val) ∧ fwd (tr (10 + j.val)) = tr (14 + j.val) := by revert j; decide

/-- What arrived from a neighbour, put together from what was passed on and what was kept. -/
theorem join_pass (t : Tr) (c : Dev nD) (h6 : 6 ≤ t.val) (h14 : t.val < 14) : iprop(sendPay m (fwd t) c ∗ keep m t c) ⊢ inc m t c := by
  have hf : 14 ≤ (fwd t).val := by revert t; decide
  have h : shr (fwd t) = fullShare := by unfold shr; rw [if_neg (by omega), if_neg (by omega), if_neg (by omega)]
  rw [sendPay_src m _ _ (by omega)]
  unfold keep inc src
  rw [if_neg (by omega), if_pos h14, h]
  unfold reg
  exact (pointsTo_split_subset (fwd_subset t c h6 h14)).2

theorem join_turn (j : Fin 4) (c : Dev nD) :
    iprop(reg c (obox c j.val) fullShare.left (full m) ∗ (sendPay m (tr (6 + j.val)) c ∗ keep m (tr (6 + j.val)) c) ∗ (sendPay m (tr (10 + j.val)) c ∗ keep m (tr (10 + j.val)) c)
        ∗ (sendPay m (tr (14 + j.val)) c ∗ keep m (tr (14 + j.val)) c) ∗ (sendPay m (tr (18 + j.val)) c ∗ keep m (tr (18 + j.val)) c)
        ∗ (sendPay m (tr (22 + j.val)) c ∗ keep m (tr (22 + j.val)) c))
      ⊢ iprop(reg c (obox c j.val) fullShare (full m) ∗ inc m (tr (6 + j.val)) c ∗ inc m (tr (10 + j.val)) c ∗ inc m (tr (14 + j.val)) c
        ∗ inc m (tr (18 + j.val)) c ∗ inc m (tr (22 + j.val)) c) := by
  obtain ⟨v0, v1, v2, v3, v4⟩ := tr_val j
  iintro ⟨HL, ⟨Hx, Kx⟩, ⟨Hy, Ky⟩, ⟨Hfx, -⟩, ⟨Hfy, -⟩, ⟨Hp, Kp⟩⟩
  isplitl [HL Hx Hy]
  · iapply (own_src m j c).2
    isplitl [HL]; · iexact HL
    isplitl [Hx]
    · iapply (Entails.of_eq (sendPay_src m _ _ (by omega))); iexact Hx
    iapply (Entails.of_eq (sendPay_src m _ _ (by omega))); iexact Hy
  isplitl [Hfy Kx]
  · iapply (join_pass m (tr (6 + j.val)) c (by omega) (by omega))
    rw [(fwd_tr j).1]
    isplitl [Hfy]; · iexact Hfy
    iexact Kx
  isplitl [Hfx Ky]
  · iapply (join_pass m (tr (10 + j.val)) c (by omega) (by omega))
    rw [(fwd_tr j).2]
    isplitl [Hfx]; · iexact Hfx
    iexact Ky
  ihave Hq := ((Entails.of_eq (sendPay_src m (tr (22 + j.val)) c (by omega))).trans (pair_src m j c).1) $$ Hp
  icases Hq with ⟨H1, H2⟩
  isplitl [H1]; · iexact H1
  isplitl [H2]; · iexact H2
  have ek : keep m (tr (22 + j.val)) c = inc m (tr (22 + j.val)) c := by
    unfold keep; rw [if_neg (by omega), if_neg (by omega), if_neg (by omega), recvPay_inc m _ _ (by omega)]
  iapply (Entails.of_eq ek); iexact Kp

/-- What the copies read and what was kept of the arrivals of turn `j`. -/
abbrev given (j : Fin 4) (c : Dev nD) : sProp 𝕄 :=
  iprop((sendPay m (tr (6 + j.val)) c ∗ keep m (tr (6 + j.val)) c) ∗ (sendPay m (tr (10 + j.val)) c ∗ keep m (tr (10 + j.val)) c)
    ∗ (sendPay m (tr (14 + j.val)) c ∗ keep m (tr (14 + j.val)) c) ∗ (sendPay m (tr (18 + j.val)) c ∗ keep m (tr (18 + j.val)) c)
    ∗ (sendPay m (tr (22 + j.val)) c ∗ keep m (tr (22 + j.val)) c))

theorem join_turns (c : Dev nD) :
    iprop((bigSep Finset.univ fun j : Fin 4 => reg c (obox c j.val) fullShare.left (full m)) ∗ bigSep Finset.univ fun j : Fin 4 => given m j c)
      ⊢ iprop((bigSep Finset.univ fun j : Fin 4 => reg c (obox c j.val) fullShare (full m))
        ∗ bigSep Finset.univ fun j : Fin 4 => iprop(inc m (tr (6 + j.val)) c ∗ inc m (tr (10 + j.val)) c ∗ inc m (tr (14 + j.val)) c
          ∗ inc m (tr (18 + j.val)) c ∗ inc m (tr (22 + j.val)) c)) :=
  (Entails.of_eq (bigSep_sep _ _ _).symm).trans ((bigSep_mono fun j _ => join_turn m j c).trans (Entails.of_eq (bigSep_sep _ _ _)))

theorem done_tr (c : Dev nD) (t : Tr) :
    StT m c 26 52 t ⊢ iprop((semVal (sendCell t c) 0 ∗ semVal (recvCell t c) 0) ∗ (sendPay m t c ∗ keep m t c)) := by
  have ho : ord t < 26 := by revert t; decide
  have hw : wq t < 26 := by revert t; decide
  unfold StT
  rw [if_pos ho, if_neg (by omega), if_neg (by omega)]
  iintro ⟨-, ⟨H1, H2⟩, ⟨H3, H4⟩⟩
  isplitl [H1 H3]
  · isplitl [H1]; · iexact H1
    iexact H3
  isplitl [H2]; · iexact H2
  iexact H4

/-- At the end the whole result is there, and every semaphore of a transfer is at zero. -/
theorem finish (c : Dev nD) : iprop(St m c 26 52 ∗ reg c (obox c 3) fullShare.left (full m))
    ⊢ iprop(owesAny (F := F) c 0 ∗ reg c Finset.univ fullShare (full m)
      ∗ bigSep Finset.univ fun t : Tr => iprop(semVal (sendCell t c) 0 ∗ semVal (recvCell t c) 0)) := by
  unfold St
  rw [owe_end]
  iintro ⟨⟨HO, HB⟩, HL⟩
  isplitl [HO]; · iexact HO
  have hm : bigSep Finset.univ (StT m c 26 52) ⊢ iprop(bigSep Finset.univ (fun t : Tr => iprop(semVal (sendCell t c) 0 ∗ semVal (recvCell t c) 0))
      ∗ bigSep Finset.univ fun t : Tr => iprop(sendPay m t c ∗ keep m t c)) :=
    (bigSep_mono fun t _ => done_tr m c t).trans (Entails.of_eq (bigSep_sep _ _ _))
  ihave H := hm $$ HB
  icases H with ⟨Hz, HB⟩
  isplitr [Hz]
  · have es : (bigSep Finset.univ fun t : Tr => iprop(sendPay m t c ∗ keep m t c)) = _ := (tr_split _).trans (congrArg (fun P => iprop(_ ∗ P)) (tr_quint _))
    ihave HB := (Entails.of_eq es) $$ HB
    icases HB with ⟨⟨-, -, -, ⟨H3, -⟩, ⟨H4, -⟩, ⟨H5, -⟩⟩, HB⟩
    have e3 : ∀ j : Fin 3, sendPay m (tr (3 + j.val)) c ⊢ reg c (obox c j.val) fullShare.left (full m) := fun j => by
      rw [sendPay_src m _ _ (by have := ag_lt j; omega), src_ag]
    ihave L0 := (e3 0) $$ H3
    ihave L1 := (e3 1) $$ H4
    ihave L2 := (e3 2) $$ H5
    have e4 : (bigSep Finset.univ fun j : Fin 4 => reg c (obox c j.val) fullShare.left (full m) : sProp 𝕄)
        = iprop(reg c (obox c 0) fullShare.left (full m) ∗ reg c (obox c 1) fullShare.left (full m) ∗ reg c (obox c 2) fullShare.left (full m) ∗ reg c (obox c 3) fullShare.left (full m)) :=
      BI.bigSep_univ_eq_bigSepL [0, 1, 2, 3] (by decide) (by decide) fun j : Fin 4 => (reg c (obox c j.val) fullShare.left (full m) : sProp 𝕄)
    have e5 : (bigSep Finset.univ fun j : Fin 4 => reg c (obox c j.val) fullShare (full m) : sProp 𝕄)
        = iprop(reg c (obox c 0) fullShare (full m) ∗ reg c (obox c 1) fullShare (full m) ∗ reg c (obox c 2) fullShare (full m) ∗ reg c (obox c 3) fullShare (full m)) :=
      BI.bigSep_univ_eq_bigSepL [0, 1, 2, 3] (by decide) (by decide) fun j : Fin 4 => (reg c (obox c j.val) fullShare (full m) : sProp 𝕄)
    rw [reg_whole, ← e5, tr_quint]
    iapply (join_turns m c)
    isplitr [HB]
    · rw [e4]
      isplitl [L0]; · iexact L0
      isplitl [L1]; · iexact L1
      isplitl [L2]; · iexact L2
      iexact HL
    iexact HB
  iexact Hz

end Cert.Lookup

end
-- ==== Proof.Places.lean ====
/-
# The places of the transfers

The kernel computes the device and the slice of every transfer with machine words. Here those words are read as the
places of the plan: the peer of the transfer, and the chunk and the columns that it carries.
-/
module

public import proofs.«01_k».proof.Proof.Hands

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem place_chunks (c : Dev nD) : chunk 0 c = c.val % 4 ∧ chunk 1 c = (c.val % 4 + 3) % 4 ∧ chunk 2 c = (c.val % 4 + 2) % 4 ∧ kk 0 c = (c.val % 4 + 1) % 4
    ∧ 512 * bcol c = 1024 * (c.val / 8) + 512 * (c.val / 4 % 2) := by revert c; decide +kernel

/-! ## The devices of the barrier -/

theorem bar_dev1 (c : Dev nD) : (⟨k0_dev1 c, k0_dev1_lt c⟩ : Dev nD) = tgt 0 c := by revert c; decide +kernel
theorem bar_dev2 (c : Dev nD) : (⟨k0_dev2 c, k0_dev2_lt c⟩ : Dev nD) = tgt 1 c := by revert c; decide +kernel
theorem bar_dev3 (c : Dev nD) : (⟨k0_dev3 c, k0_dev3_lt c⟩ : Dev nD) = tgt 2 c := by revert c; decide +kernel
theorem bar_dev4 (c : Dev nD) : (⟨k0_dev4 c, k0_dev4_lt c⟩ : Dev nD) = tgt 3 c := by revert c; decide +kernel

/-! ## The chunks of the gathers -/

theorem own_off1 (c : Dev nD) : k0_off1 c = ![1024 * chunk 0 c, 512 * bcol c] := by revert c; decide +kernel
theorem own_off10 (c : Dev nD) : k0_off10 c = ![1024 * chunk 1 c, 512 * bcol c] := by revert c; decide +kernel
theorem own_off19 (c : Dev nD) : k0_off19 c 0#32 = ![1024 * chunk 1 c, 512 * bcol c] := by revert c; decide +kernel
theorem own_off19' (c : Dev nD) : k0_off19 c 1#32 = ![1024 * chunk 2 c, 512 * bcol c] := by revert c; decide +kernel
theorem own_off28 (c : Dev nD) : k0_off28 c 1#32 = ![1024 * chunk 2 c, 512 * bcol c] := by revert c; decide +kernel
theorem own_off28' (c : Dev nD) : k0_off28 c 2#32 = ![1024 * kk 0 c, 512 * bcol c] := by revert c; decide +kernel
theorem own_off37 (c : Dev nD) : k0_off37 c = ![1024 * kk 0 c, 512 * bcol c] := by revert c; decide +kernel

/-! ## The rows of the gathers -/

theorem pair_eq {a b a' b' : ℕ} (h : a = a') (h' : b = b') : (![a, b] : Fin 2 → ℕ) = ![a', b'] := by rw [h, h']
theorem one_eq {a a' : ℕ} (h : a = a') : (![a] : Fin 1 → ℕ) = ![a'] := by rw [h]

theorem ids_off2 (c : Dev nD) (i : Fin k0_t1_loop.trips) : k0_off2 c i = ![1024 * chunk 0 c + i.val] :=
  (k0_off2_eq c i).trans (one_eq (by rw [(place_chunks c).1]))
theorem row_off3 (c : Dev nD) (i : Fin k0_t1_loop.trips) : k0_off3 c i = ![1024 * chunk 0 c + i.val, 512 * bcol c] :=
  (k0_off3_eq c i).trans (pair_eq (by rw [(place_chunks c).1]) (place_chunks c).2.2.2.2.symm)
theorem ids_off11 (c : Dev nD) (i : Fin k0_t4_loop.trips) : k0_off11 c i = ![1024 * chunk 1 c + i.val] :=
  (k0_off11_eq c i).trans (one_eq (by rw [(place_chunks c).2.1]))
theorem row_off12 (c : Dev nD) (i : Fin k0_t4_loop.trips) : k0_off12 c i = ![1024 * chunk 1 c + i.val, 512 * bcol c] :=
  (k0_off12_eq c i).trans (pair_eq (by rw [(place_chunks c).2.1]) (place_chunks c).2.2.2.2.symm)
theorem ids_off20 (c : Dev nD) (i : Fin k0_t7_loop.trips) : k0_off20 c i = ![1024 * chunk 2 c + i.val] :=
  (k0_off20_eq c i).trans (one_eq (by rw [(place_chunks c).2.2.1]))
theorem row_off21 (c : Dev nD) (i : Fin k0_t7_loop.trips) : k0_off21 c i = ![1024 * chunk 2 c + i.val, 512 * bcol c] :=
  (k0_off21_eq c i).trans (pair_eq (by rw [(place_chunks c).2.2.1]) (place_chunks c).2.2.2.2.symm)
theorem ids_off29 (c : Dev nD) (i : Fin k0_t10_loop.trips) : k0_off29 c i = ![1024 * kk 0 c + i.val] :=
  (k0_off29_eq c i).trans (one_eq (by rw [(place_chunks c).2.2.2.1]))
theorem row_off30 (c : Dev nD) (i : Fin k0_t10_loop.trips) : k0_off30 c i = ![1024 * kk 0 c + i.val, 512 * bcol c] :=
  (k0_off30_eq c i).trans (pair_eq (by rw [(place_chunks c).2.2.2.1]) (place_chunks c).2.2.2.2.symm)

/-! ## The transfers -/

theorem go0 (c : Dev nD) : (⟨k0_dev5 c, k0_dev5_lt c⟩ : Dev nD) = peer 0 c ∧ k0_off9 c = ![1024 * chunk 0 c, 512 * bcol c] := by revert c; decide +kernel
theorem go1 (c : Dev nD) : (⟨k0_dev6 c, k0_dev6_lt c⟩ : Dev nD) = peer 1 c ∧ k0_off18 c 1#32 = ![1024 * chunk 1 c, 512 * bcol c] := by revert c; decide +kernel
theorem go2 (c : Dev nD) : (⟨k0_dev7 c, k0_dev7_lt c⟩ : Dev nD) = peer 2 c ∧ k0_off27 c 2#32 = ![1024 * chunk 2 c, 512 * bcol c] := by revert c; decide +kernel
theorem go3 (c : Dev nD) : (⟨k0_dev10 c, k0_dev10_lt c⟩ : Dev nD) = peer 3 c ∧ k0_off39 c 0#32 = ![1024 * chunk 3 c, lo 3 c] := by revert c; decide +kernel
theorem go4 (c : Dev nD) : (⟨k0_dev11 c, k0_dev11_lt c⟩ : Dev nD) = peer 4 c ∧ k0_off39 c 1#32 = ![1024 * chunk 4 c, lo 4 c] := by revert c; decide +kernel
theorem go5 (c : Dev nD) : (⟨k0_dev16 c, k0_dev16_lt c⟩ : Dev nD) = peer 5 c ∧ k0_off39 c 2#32 = ![1024 * chunk 5 c, lo 5 c] := by revert c; decide +kernel
theorem go6 (c : Dev nD) : (⟨k0_dev8 c, k0_dev8_lt c⟩ : Dev nD) = peer 6 c ∧ k0_off38 c = ![1024 * chunk 6 c, lo 6 c] := by revert c; decide +kernel
theorem go7 (c : Dev nD) : (⟨k0_dev12 c, k0_dev12_lt c⟩ : Dev nD) = peer 7 c ∧ k0_off36 c 0#32 = ![1024 * chunk 7 c, lo 7 c] := by revert c; decide +kernel
theorem go8 (c : Dev nD) : (⟨k0_dev17 c, k0_dev17_lt c⟩ : Dev nD) = peer 8 c ∧ k0_off36 c 1#32 = ![1024 * chunk 8 c, lo 8 c] := by revert c; decide +kernel
theorem go9 (c : Dev nD) : (⟨k0_dev22 c, k0_dev22_lt c⟩ : Dev nD) = peer 9 c ∧ k0_off36 c 2#32 = ![1024 * chunk 9 c, lo 9 c] := by revert c; decide +kernel
theorem go10 (c : Dev nD) : (⟨k0_dev9 c, k0_dev9_lt c⟩ : Dev nD) = peer 10 c ∧ k0_off38 c = ![1024 * chunk 10 c, lo 10 c] := by revert c; decide +kernel
theorem go11 (c : Dev nD) : (⟨k0_dev13 c, k0_dev13_lt c⟩ : Dev nD) = peer 11 c ∧ k0_off36 c 0#32 = ![1024 * chunk 11 c, lo 11 c] := by revert c; decide +kernel
theorem go12 (c : Dev nD) : (⟨k0_dev18 c, k0_dev18_lt c⟩ : Dev nD) = peer 12 c ∧ k0_off36 c 1#32 = ![1024 * chunk 12 c, lo 12 c] := by revert c; decide +kernel
theorem go13 (c : Dev nD) : (⟨k0_dev23 c, k0_dev23_lt c⟩ : Dev nD) = peer 13 c ∧ k0_off36 c 2#32 = ![1024 * chunk 13 c, lo 13 c] := by revert c; decide +kernel
theorem go14 (c : Dev nD) : (⟨k0_dev14 c, k0_dev14_lt c⟩ : Dev nD) = peer 14 c ∧ k0_off40 c 0#32 = ![1024 * chunk 14 c, lo 14 c] := by revert c; decide +kernel
theorem go15 (c : Dev nD) : (⟨k0_dev19 c, k0_dev19_lt c⟩ : Dev nD) = peer 15 c ∧ k0_off40 c 1#32 = ![1024 * chunk 15 c, lo 15 c] := by revert c; decide +kernel
theorem go16 (c : Dev nD) : (⟨k0_dev24 c, k0_dev24_lt c⟩ : Dev nD) = peer 16 c ∧ k0_off40 c 2#32 = ![1024 * chunk 16 c, lo 16 c] := by revert c; decide +kernel
theorem go17 (c : Dev nD) : (⟨k0_dev27 c, k0_dev27_lt c⟩ : Dev nD) = peer 17 c ∧ k0_off43 c = ![1024 * chunk 17 c, lo 17 c] := by revert c; decide +kernel
theorem go18 (c : Dev nD) : (⟨k0_dev15 c, k0_dev15_lt c⟩ : Dev nD) = peer 18 c ∧ k0_off41 c 0#32 = ![1024 * chunk 18 c, lo 18 c] := by revert c; decide +kernel
theorem go19 (c : Dev nD) : (⟨k0_dev20 c, k0_dev20_lt c⟩ : Dev nD) = peer 19 c ∧ k0_off41 c 1#32 = ![1024 * chunk 19 c, lo 19 c] := by revert c; decide +kernel
theorem go20 (c : Dev nD) : (⟨k0_dev25 c, k0_dev25_lt c⟩ : Dev nD) = peer 20 c ∧ k0_off41 c 2#32 = ![1024 * chunk 20 c, lo 20 c] := by revert c; decide +kernel
theorem go21 (c : Dev nD) : (⟨k0_dev28 c, k0_dev28_lt c⟩ : Dev nD) = peer 21 c ∧ k0_off44 c = ![1024 * chunk 21 c, lo 21 c] := by revert c; decide +kernel
theorem go22 (c : Dev nD) : (⟨k0_dev21 c, k0_dev21_lt c⟩ : Dev nD) = peer 22 c ∧ k0_off42 c 0#32 = ![1024 * chunk 22 c, lo 22 c] := by revert c; decide +kernel
theorem go23 (c : Dev nD) : (⟨k0_dev26 c, k0_dev26_lt c⟩ : Dev nD) = peer 23 c ∧ k0_off42 c 1#32 = ![1024 * chunk 23 c, lo 23 c] := by revert c; decide +kernel
theorem go24 (c : Dev nD) : (⟨k0_dev29 c, k0_dev29_lt c⟩ : Dev nD) = peer 24 c ∧ k0_off42 c 2#32 = ![1024 * chunk 24 c, lo 24 c] := by revert c; decide +kernel
theorem go25 (c : Dev nD) : (⟨k0_dev30 c, k0_dev30_lt c⟩ : Dev nD) = peer 25 c ∧ k0_off45 c = ![1024 * chunk 25 c, lo 25 c] := by revert c; decide +kernel

end Cert.Lookup

end
-- ==== Proof.Parts.lean ====
/-
# The parts of the body, transfers only

From its tenth part on the body only sends and waits. Each part takes the state of the transfers from one pair of
counts to the next, uses the chunks it sends from, and gives the chunks that have arrived.
-/
module

public import proofs.«01_k».proof.Proof.Places

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- A part of the body at the buffers and semaphores of the launch. -/
abbrev at_ {β : Type 1} (p : (arg0 : Memref sig .tc .smem S4096 .i32) → arg0.IsWhole → (arg1 : Memref sig .tc .hbm S8192x2048 .f32) → arg1.IsWhole
    → (arg2 : Memref sig .tc .vmem S4096x2048 .f32) → arg2.IsWhole → (arg3 : Memref sig .tc .vmem S3x1024x512 .f32) → arg3.IsWhole
    → DmaSems sig S_ → DmaSems sig S6 → DmaSems sig S3 → DmaSems sig S3 → DmaSems sig S20 → DmaSems sig S20 → β) : β :=
  p idM (Memref.isWhole_whole _) eM (Memref.isWhole_whole _) oM (Memref.isWhole_whole _) rM (Memref.isWhole_whole _)
    cc0_scratch1 cc0_scratch2 cc0_scratch3 cc0_scratch4 cc0_scratch5 cc0_scratch6

/-! ## The parts -/

/-- The arrival of the all-gather's chunk: its shares, and what the next send hands on. -/
theorem hand_next (j : Fin 3) (c : Dev nD) : hand m (tr (3 + j.val)) c
    ⊢ iprop(reg c (obox c (j.val + 1)) fullShare.left (full m) ∗ src m (tr (6 + (j.val + 1))) c ∗ src m (tr (10 + (j.val + 1))) c ∗ permsUp (F := F) (2 - j.val) c (kk (j.val + 1) c)) := by
  iintro H
  ihave H := (hand_ag m j c) $$ H
  icases H with ⟨H, Hp⟩
  ihave H := (show reg c (obox c (j.val + 1)) fullShare (full m) ⊢ iprop(reg c (obox c (j.val + 1)) fullShare.left (full m) ∗ src m (tr (6 + (j.val + 1))) c ∗ src m (tr (10 + (j.val + 1))) c)
    from (own_src m ⟨j.val + 1, by omega⟩ c).1) $$ H
  icases H with ⟨Ha, Hx, Hy⟩
  isplitl [Ha]; · iexact Ha
  isplitl [Hx]; · iexact Hx
  isplitl [Hy]; · iexact Hy
  iexact Hp

theorem part10 (c : Dev nD) (v2 v5 v8 v13 v288 : BitVec 32) {Q : _ → sProp 𝕄} :
    iprop(Sx m K c 5 6 ∗ src m 3 c ∗ extra (F := F) 3 c) ⊢ iprop((∀ r, iprop(Sx m K c 6 8 ∗ hand m 3 c) -∗ Q r) -∗ wpB c (at_ (k0_part10 (F := F)) c v2 v5 v8 v13 v288) Q) := by
  rw [k0_part10_eq_skeleton]; unfold k0_part10_skel
  simp only [Prog.lift, Prog.bind_op, Prog.bind_ret, Prog.pure_eq_ret]
  iintro ⟨H, G3, E3⟩ Hk
  iapply (send m K c 3 5 6 (by decide) (by decide) (by decide) (go3 c) rfl rfl rfl) $$ [H G3 E3]
  · isplitl [H]; · iexact H
    isplitl [G3]; · iexact G3
    iexact E3
  iintro H
  iapply (waitS m K c 3 6 6 (by decide) (by decide) rfl rfl) $$ H
  iintro H
  iapply (waitR m K c 3 6 7 (by decide) (by decide) (credit_o rfl) rfl) $$ H
  iintro ⟨H, G3⟩
  unfold wpB; rw [wp_ret]; imodintro
  iapply Hk
  isplitl [H]; · iexact H
  iexact G3

theorem part11 (c : Dev nD) (v2 v5 v8 v13 : BitVec 32) {Q : _ → sProp 𝕄} :
    iprop(Sx m K c 6 8 ∗ src m 4 c ∗ extra (F := F) 4 c ∗ src m 7 c) ⊢ iprop((∀ r, iprop(Sx m K c 8 8) -∗ Q r) -∗ wpB c (at_ (k0_part11 (F := F)) c v2 v5 v8 v13) Q) := by
  rw [k0_part11_eq_skeleton]; unfold k0_part11_skel
  simp only [Prog.lift, Prog.bind_op, Prog.bind_ret, Prog.pure_eq_ret]
  iintro ⟨H, G4, E4, G7⟩ Hk
  iapply (send m K c 4 6 8 (by decide) (by decide) (by decide) (go4 c) rfl rfl rfl) $$ [H G4 E4]
  · isplitl [H]; · iexact H
    isplitl [G4]; · iexact G4
    iexact E4
  iintro H
  iapply (send' m K c 7 7 8 (by decide) (by decide) (by decide) (go7 c) rfl rfl rfl) $$ [H G7]
  · isplitl [H]; · iexact H
    iexact G7
  iintro H
  unfold wpB; rw [wp_ret]; imodintro
  iapply Hk
  iexact H

theorem part12 (c : Dev nD) (v2 v5 v8 v261 v262 v356 c1_i32_255 : BitVec 32) {Q : _ → sProp 𝕄} :
    iprop(Sx m K c 8 8 ∗ src m 11 c) ⊢ iprop((∀ r, iprop(Sx m K c 9 11 ∗ hand m 6 c) -∗ Q r) -∗ wpB c (at_ (k0_part12 (F := F)) c v2 v5 v8 v261 v262 v356 c1_i32_255) Q) := by
  rw [k0_part12_eq_skeleton]; unfold k0_part12_skel
  simp only [Prog.lift, Prog.bind_op, Prog.bind_ret, Prog.pure_eq_ret]
  iintro ⟨H, G11⟩ Hk
  iapply (send' m K c 11 8 8 (by decide) (by decide) (by decide) (go11 c) rfl rfl rfl) $$ [H G11]
  · isplitl [H]; · iexact H
    iexact G11
  iintro H
  iapply (waitS m K c 6 9 8 (by decide) (by decide) rfl rfl) $$ H
  iintro H
  iapply (waitR m K c 6 9 9 (by decide) (by decide) (credit_o rfl) rfl) $$ H
  iintro ⟨H, G6⟩
  iapply (waitS m K c 10 9 10 (by decide) (by decide) rfl rfl) $$ H
  iintro H
  unfold wpB; rw [wp_ret]; imodintro
  iapply Hk
  isplitl [H]; · iexact H
  iexact G6

theorem part13 (c : Dev nD) (v2 v5 v8 v18 v21 v257 v368 v390 c1_i32_277 : BitVec 32) {Q : _ → sProp 𝕄} :
    iprop(Sx m K c 9 11) ⊢ iprop((∀ r, iprop(Sx m K c 10 12) -∗ Q r) -∗ wpB c (at_ (k0_part13 (F := F)) c v2 v5 v8 v18 v21 v257 v368 v390 c1_i32_277) Q) := by
  rw [k0_part13_eq_skeleton]; unfold k0_part13_skel
  simp only [Prog.lift, Prog.bind_op, Prog.bind_ret, Prog.pure_eq_ret]
  iintro H Hk
  iapply (waitR m K c 10 9 11 (by decide) (by decide) (credit_o rfl) rfl) $$ H
  iintro ⟨H, G10⟩
  ihave G14 := (hand_pass m 10 c (by decide) (by decide)) $$ G10
  iapply (send' m K c 14 9 12 (by decide) (by decide) (by decide) (go14 c) rfl rfl rfl) $$ [H G14]
  · isplitl [H]; · iexact H
    iexact G14
  iintro H
  unfold wpB; rw [wp_ret]; imodintro
  iapply Hk
  iexact H

theorem part14 (c : Dev nD) (v2 v5 v8 v13 : BitVec 32) {Q : _ → sProp 𝕄} :
    iprop(Sx m K c 10 12 ∗ hand m 6 c) ⊢ iprop((∀ r, iprop(Sx m K c 12 14 ∗ src m 8 c ∗ src m 12 c) -∗ Q r) -∗ wpB c (at_ (k0_part14 (F := F)) c v2 v5 v8 v13) Q) := by
  rw [k0_part14_eq_skeleton]; unfold k0_part14_skel
  simp only [Prog.lift, Prog.bind_op, Prog.bind_ret, Prog.pure_eq_ret]
  iintro ⟨H, G6⟩ Hk
  ihave G18 := (hand_pass m 6 c (by decide) (by decide)) $$ G6
  iapply (send' m K c 18 10 12 (by decide) (by decide) (by decide) (go18 c) rfl rfl rfl) $$ [H G18]
  · isplitl [H]; · iexact H
    iexact G18
  iintro H
  iapply (waitS m K c 4 11 12 (by decide) (by decide) rfl rfl) $$ H
  iintro H
  iapply (waitR m K c 4 11 13 (by decide) (by decide) (credit_o rfl) rfl) $$ H
  iintro ⟨H, G4⟩
  ihave G4 := (show hand m 4 c ⊢ _ from hand_next m 1 c) $$ G4
  icases G4 with ⟨G5, X2, Y2, E5⟩
  ihave E5 := (show permsUp (F := F) (2 - (1 : Fin 3).val) c (kk ((1 : Fin 3).val + 1) c) ⊢ extra (F := F) 5 c from Entails.of_eq (extra_ag (F := F) 2 c).symm) $$ E5
  iapply (send m K c 5 11 14 (by decide) (by decide) (by decide) (go5 c) rfl rfl rfl) $$ [H G5 E5]
  · isplitl [H]; · iexact H
    isplitl [G5]; · iexact G5
    iexact E5
  iintro H
  unfold wpB; rw [wp_ret]; imodintro
  iapply Hk
  isplitl [H]; · iexact H
  isplitl [X2]; · iexact X2
  iexact Y2

theorem part15 (c : Dev nD) (v2 v5 v8 c4_i32_316 : BitVec 32) {Q : _ → sProp 𝕄} :
    iprop(Sx m K c 12 14 ∗ src m 8 c ∗ src m 12 c) ⊢ iprop((∀ r, iprop(Sx m K c 14 14) -∗ Q r) -∗ wpB c (at_ (k0_part15 (F := F)) c v2 v5 v8 c4_i32_316) Q) := by
  rw [k0_part15_eq_skeleton]; unfold k0_part15_skel
  simp only [Prog.lift, Prog.bind_op, Prog.bind_ret, Prog.pure_eq_ret]
  iintro ⟨H, G8, G12⟩ Hk
  iapply (send' m K c 8 12 14 (by decide) (by decide) (by decide) (go8 c) rfl rfl rfl) $$ [H G8]
  · isplitl [H]; · iexact H
    iexact G8
  iintro H
  iapply (send' m K c 12 13 14 (by decide) (by decide) (by decide) (go12 c) rfl rfl rfl) $$ [H G12]
  · isplitl [H]; · iexact H
    iexact G12
  iintro H
  unfold wpB; rw [wp_ret]; imodintro
  iapply Hk
  iexact H

theorem part16 (c : Dev nD) (v2 v5 v8 v18 v21 v257 v339 v340 v496 : BitVec 32) {Q : _ → sProp 𝕄} :
    iprop(Sx m K c 14 14) ⊢ iprop((∀ r, iprop(Sx m K c 14 18 ∗ hand m 7 c ∗ hand m 11 c) -∗ Q r) -∗ wpB c (at_ (k0_part16 (F := F)) c v2 v5 v8 v18 v21 v257 v339 v340 v496) Q) := by
  rw [k0_part16_eq_skeleton]; unfold k0_part16_skel
  simp only [Prog.lift, Prog.bind_op, Prog.bind_ret, Prog.pure_eq_ret]
  iintro H Hk
  iapply (waitS m K c 7 14 14 (by decide) (by decide) rfl rfl) $$ H
  iintro H
  iapply (waitR m K c 7 14 15 (by decide) (by decide) (credit_o rfl) rfl) $$ H
  iintro ⟨H, G7⟩
  iapply (waitS m K c 11 14 16 (by decide) (by decide) rfl rfl) $$ H
  iintro H
  iapply (waitR m K c 11 14 17 (by decide) (by decide) (credit_o rfl) rfl) $$ H
  iintro ⟨H, G11⟩
  unfold wpB; rw [wp_ret]; imodintro
  iapply Hk
  isplitl [H]; · iexact H
  isplitl [G7]; · iexact G7
  iexact G11

theorem part17 (c : Dev nD) (v2 v5 v8 v406 v530 v531 : BitVec 32) {Q : _ → sProp 𝕄} :
    iprop(Sx m K c 14 18 ∗ hand m 11 c ∗ hand m 7 c) ⊢ iprop((∀ r, iprop(Sx m K c 16 19) -∗ Q r) -∗ wpB c (at_ (k0_part17 (F := F)) c v2 v5 v8 v406 v530 v531) Q) := by
  rw [k0_part17_eq_skeleton]; unfold k0_part17_skel
  simp only [Prog.lift, Prog.bind_op, Prog.bind_ret, Prog.pure_eq_ret]
  iintro ⟨H, G11, G7⟩ Hk
  ihave G15 := (hand_pass m 11 c (by decide) (by decide)) $$ G11
  iapply (send' m K c 15 14 18 (by decide) (by decide) (by decide) (go15 c) rfl rfl rfl) $$ [H G15]
  · isplitl [H]; · iexact H
    iexact G15
  iintro H
  ihave G19 := (hand_pass m 7 c (by decide) (by decide)) $$ G7
  iapply (send' m K c 19 15 18 (by decide) (by decide) (by decide) (go19 c) rfl rfl rfl) $$ [H G19]
  · isplitl [H]; · iexact H
    iexact G19
  iintro H
  iapply (waitS m K c 14 16 18 (by decide) (by decide) rfl rfl) $$ H
  iintro H
  unfold wpB; rw [wp_ret]; imodintro
  iapply Hk
  iexact H

theorem part18 (c : Dev nD) (v2 v5 v8 v25 v257 v368 v407 v565 c4_i32_381 : BitVec 32) {Q : _ → sProp 𝕄} :
    iprop(Sx m K c 16 19) ⊢ iprop((∀ r, iprop(Sx m K c 16 22 ∗ hand m 14 c ∗ hand m 18 c) -∗ Q r) -∗ wpB c (at_ (k0_part18 (F := F)) c v2 v5 v8 v25 v257 v368 v407 v565 c4_i32_381) Q) := by
  rw [k0_part18_eq_skeleton]; unfold k0_part18_skel
  simp only [Prog.lift, Prog.bind_op, Prog.bind_ret, Prog.pure_eq_ret]
  iintro H Hk
  iapply (waitR m K c 14 16 19 (by decide) (by decide) (credit_o rfl) rfl) $$ H
  iintro ⟨H, G14⟩
  iapply (waitS m K c 18 16 20 (by decide) (by decide) rfl rfl) $$ H
  iintro H
  iapply (waitR m K c 18 16 21 (by decide) (by decide) (credit_o rfl) rfl) $$ H
  iintro ⟨H, G18⟩
  unfold wpB; rw [wp_ret]; imodintro
  iapply Hk
  isplitl [H]; · iexact H
  isplitl [G14]; · iexact G14
  iexact G18

theorem part19 (c : Dev nD) (v2 v5 v8 v13 : BitVec 32) {Q : _ → sProp 𝕄} :
    iprop(Sx m K c 16 22 ∗ hand m 14 c ∗ hand m 18 c) ⊢ iprop((∀ r, iprop(Sx m K c 17 24 ∗ hand m 5 c) -∗ Q r) -∗ wpB c (at_ (k0_part19 (F := F)) c v2 v5 v8 v13) Q) := by
  rw [k0_part19_eq_skeleton]; unfold k0_part19_skel
  simp only [Prog.lift, Prog.bind_op, Prog.bind_ret, Prog.pure_eq_ret]
  iintro ⟨H, G14, G18⟩ Hk
  ihave G22 := (hand_pair m 0 c) $$ [G14 G18]
  · isplitl [G14]; · iexact G14
    iexact G18
  iapply (send' m K c 22 16 22 (by decide) (by decide) (by decide) (go22 c) rfl rfl rfl) $$ [H G22]
  · isplitl [H]; · iexact H
    iexact G22
  iintro H
  iapply (waitS m K c 5 17 22 (by decide) (by decide) rfl rfl) $$ H
  iintro H
  iapply (waitR m K c 5 17 23 (by decide) (by decide) (credit_o rfl) rfl) $$ H
  iintro ⟨H, G5⟩
  unfold wpB; rw [wp_ret]; imodintro
  iapply Hk
  isplitl [H]; · iexact H
  iexact G5

theorem part20 (c : Dev nD) (v2 v5 v8 v467 v626 : BitVec 32) {Q : _ → sProp 𝕄} :
    iprop(Sx m K c 17 24 ∗ src m 9 c ∗ src m 13 c) ⊢ iprop((∀ r, iprop(Sx m K c 19 26 ∗ hand m 8 c) -∗ Q r) -∗ wpB c (at_ (k0_part20 (F := F)) c v2 v5 v8 v467 v626) Q) := by
  rw [k0_part20_eq_skeleton]; unfold k0_part20_skel
  simp only [Prog.lift, Prog.bind_op, Prog.bind_ret, Prog.pure_eq_ret]
  iintro ⟨H, G9, G13⟩ Hk
  iapply (send' m K c 9 17 24 (by decide) (by decide) (by decide) (go9 c) rfl rfl rfl) $$ [H G9]
  · isplitl [H]; · iexact H
    iexact G9
  iintro H
  iapply (send' m K c 13 18 24 (by decide) (by decide) (by decide) (go13 c) rfl rfl rfl) $$ [H G13]
  · isplitl [H]; · iexact H
    iexact G13
  iintro H
  iapply (waitS m K c 8 19 24 (by decide) (by decide) rfl rfl) $$ H
  iintro H
  iapply (waitR m K c 8 19 25 (by decide) (by decide) (credit_o rfl) rfl) $$ H
  iintro ⟨H, G8⟩
  unfold wpB; rw [wp_ret]; imodintro
  iapply Hk
  isplitl [H]; · iexact H
  iexact G8

theorem part21 (c : Dev nD) (v2 v5 v8 v18 v21 v257 v468 v654 : BitVec 32) {Q : _ → sProp 𝕄} :
    iprop(Sx m K c 19 26) ⊢ iprop((∀ r, iprop(Sx m K c 20 28) -∗ Q r) -∗ wpB c (at_ (k0_part21 (F := F)) c v2 v5 v8 v18 v21 v257 v468 v654) Q) := by
  rw [k0_part21_eq_skeleton]; unfold k0_part21_skel
  simp only [Prog.lift, Prog.bind_op, Prog.bind_ret, Prog.pure_eq_ret]
  iintro H Hk
  iapply (waitS m K c 12 19 26 (by decide) (by decide) rfl rfl) $$ H
  iintro H
  iapply (waitR m K c 12 19 27 (by decide) (by decide) (credit_o rfl) rfl) $$ H
  iintro ⟨H, G12⟩
  ihave G16 := (hand_pass m 12 c (by decide) (by decide)) $$ G12
  iapply (send' m K c 16 19 28 (by decide) (by decide) (by decide) (go16 c) rfl rfl rfl) $$ [H G16]
  · isplitl [H]; · iexact H
    iexact G16
  iintro H
  unfold wpB; rw [wp_ret]; imodintro
  iapply Hk
  iexact H

theorem part22 (c : Dev nD) (v2 v5 v8 v534 v535 v693 : BitVec 32) {Q : _ → sProp 𝕄} :
    iprop(Sx m K c 20 28 ∗ hand m 8 c) ⊢ iprop((∀ r, iprop(Sx m K c 21 31 ∗ hand m 15 c) -∗ Q r) -∗ wpB c (at_ (k0_part22 (F := F)) c v2 v5 v8 v534 v535 v693) Q) := by
  rw [k0_part22_eq_skeleton]; unfold k0_part22_skel
  simp only [Prog.lift, Prog.bind_op, Prog.bind_ret, Prog.pure_eq_ret]
  iintro ⟨H, G8⟩ Hk
  ihave G20 := (hand_pass m 8 c (by decide) (by decide)) $$ G8
  iapply (send' m K c 20 20 28 (by decide) (by decide) (by decide) (go20 c) rfl rfl rfl) $$ [H G20]
  · isplitl [H]; · iexact H
    iexact G20
  iintro H
  iapply (waitS m K c 15 21 28 (by decide) (by decide) rfl rfl) $$ H
  iintro H
  iapply (waitR m K c 15 21 29 (by decide) (by decide) (credit_o rfl) rfl) $$ H
  iintro ⟨H, G15⟩
  iapply (waitS m K c 19 21 30 (by decide) (by decide) rfl rfl) $$ H
  iintro H
  unfold wpB; rw [wp_ret]; imodintro
  iapply Hk
  isplitl [H]; · iexact H
  iexact G15

theorem part23 (c : Dev nD) (v2 v5 v8 v25 v257 v496 v625 v739 c1_i32_486 : BitVec 32) {Q : _ → sProp 𝕄} :
    iprop(Sx m K c 21 31 ∗ hand m 15 c) ⊢ iprop((∀ r, iprop(Sx m K c 22 33) -∗ Q r) -∗ wpB c (at_ (k0_part23 (F := F)) c v2 v5 v8 v25 v257 v496 v625 v739 c1_i32_486) Q) := by
  rw [k0_part23_eq_skeleton]; unfold k0_part23_skel
  simp only [Prog.lift, Prog.bind_op, Prog.bind_ret, Prog.pure_eq_ret]
  iintro ⟨H, G15⟩ Hk
  iapply (waitR m K c 19 21 31 (by decide) (by decide) (credit_o rfl) rfl) $$ H
  iintro ⟨H, G19⟩
  ihave G23 := (hand_pair m 1 c) $$ [G15 G19]
  · isplitl [G15]; · iexact G15
    iexact G19
  iapply (send' m K c 23 21 32 (by decide) (by decide) (by decide) (go23 c) rfl rfl rfl) $$ [H G23]
  · isplitl [H]; · iexact H
    iexact G23
  iintro H
  iapply (waitS m K c 9 22 32 (by decide) (by decide) rfl rfl) $$ H
  iintro H
  unfold wpB; rw [wp_ret]; imodintro
  iapply Hk
  iexact H

theorem part24 (c : Dev nD) (v2 v5 v8 v18 v21 v257 v626 : BitVec 32) {Q : _ → sProp 𝕄} :
    iprop(Sx m K c 22 33) ⊢ iprop((∀ r, iprop(Sx m K c 22 36 ∗ hand m 9 c ∗ hand m 13 c) -∗ Q r) -∗ wpB c (at_ (k0_part24 (F := F)) c v2 v5 v8 v18 v21 v257 v626) Q) := by
  rw [k0_part24_eq_skeleton]; unfold k0_part24_skel
  simp only [Prog.lift, Prog.bind_op, Prog.bind_ret, Prog.pure_eq_ret]
  iintro H Hk
  iapply (waitR m K c 9 22 33 (by decide) (by decide) (credit_o rfl) rfl) $$ H
  iintro ⟨H, G9⟩
  iapply (waitS m K c 13 22 34 (by decide) (by decide) rfl rfl) $$ H
  iintro H
  iapply (waitR m K c 13 22 35 (by decide) (by decide) (credit_o rfl) rfl) $$ H
  iintro ⟨H, G13⟩
  unfold wpB; rw [wp_ret]; imodintro
  iapply Hk
  isplitl [H]; · iexact H
  isplitl [G9]; · iexact G9
  iexact G13

theorem part25 (c : Dev nD) (v2 v5 v8 v692 v805 v807 v808 : BitVec 32) {Q : _ → sProp 𝕄} :
    iprop(Sx m K c 22 36 ∗ hand m 13 c ∗ hand m 9 c) ⊢ iprop((∀ r, iprop(Sx m K c 24 38 ∗ hand m 16 c) -∗ Q r) -∗ wpB c (at_ (k0_part25 (F := F)) c v2 v5 v8 v692 v805 v807 v808) Q) := by
  rw [k0_part25_eq_skeleton]; unfold k0_part25_skel
  simp only [Prog.lift, Prog.bind_op, Prog.bind_ret, Prog.pure_eq_ret]
  iintro ⟨H, G13, G9⟩ Hk
  ihave G17 := (hand_pass m 13 c (by decide) (by decide)) $$ G13
  iapply (send' m K c 17 22 36 (by decide) (by decide) (by decide) (go17 c) rfl rfl rfl) $$ [H G17]
  · isplitl [H]; · iexact H
    iexact G17
  iintro H
  ihave G21 := (hand_pass m 9 c (by decide) (by decide)) $$ G9
  iapply (send' m K c 21 23 36 (by decide) (by decide) (by decide) (go21 c) rfl rfl rfl) $$ [H G21]
  · isplitl [H]; · iexact H
    iexact G21
  iintro H
  iapply (waitS m K c 16 24 36 (by decide) (by decide) rfl rfl) $$ H
  iintro H
  iapply (waitR m K c 16 24 37 (by decide) (by decide) (credit_o rfl) rfl) $$ H
  iintro ⟨H, G16⟩
  unfold wpB; rw [wp_ret]; imodintro
  iapply Hk
  isplitl [H]; · iexact H
  iexact G16

theorem part26 (c : Dev nD) (v2 v5 v8 v25 v257 v654 v693 : BitVec 32) {Q : _ → sProp 𝕄} :
    iprop(Sx m K c 24 38 ∗ hand m 16 c) ⊢ iprop((∀ r, iprop(Sx m K c 25 41) -∗ Q r) -∗ wpB c (at_ (k0_part26 (F := F)) c v2 v5 v8 v25 v257 v654 v693) Q) := by
  rw [k0_part26_eq_skeleton]; unfold k0_part26_skel
  simp only [Prog.lift, Prog.bind_op, Prog.bind_ret, Prog.pure_eq_ret]
  iintro ⟨H, G16⟩ Hk
  iapply (waitS m K c 20 24 38 (by decide) (by decide) rfl rfl) $$ H
  iintro H
  iapply (waitR m K c 20 24 39 (by decide) (by decide) (credit_o rfl) rfl) $$ H
  iintro ⟨H, G20⟩
  ihave G24 := (hand_pair m 2 c) $$ [G16 G20]
  · isplitl [G16]; · iexact G16
    iexact G20
  iapply (send' m K c 24 24 40 (by decide) (by decide) (by decide) (go24 c) rfl rfl rfl) $$ [H G24]
  · isplitl [H]; · iexact H
    iexact G24
  iintro H
  iapply (waitS m K c 17 25 40 (by decide) (by decide) rfl rfl) $$ H
  iintro H
  unfold wpB; rw [wp_ret]; imodintro
  iapply Hk
  iexact H

theorem part27 (c : Dev nD) (v2 v5 v8 v25 v257 v794 v804 v805 : BitVec 32) {Q : _ → sProp 𝕄} :
    iprop(Sx m K c 25 41) ⊢ iprop((∀ r, iprop(Sx m K c 25 44 ∗ hand m 17 c ∗ hand m 21 c) -∗ Q r) -∗ wpB c (at_ (k0_part27 (F := F)) c v2 v5 v8 v25 v257 v794 v804 v805) Q) := by
  rw [k0_part27_eq_skeleton]; unfold k0_part27_skel
  simp only [Prog.lift, Prog.bind_op, Prog.bind_ret, Prog.pure_eq_ret]
  iintro H Hk
  iapply (waitR m K c 17 25 41 (by decide) (by decide) (credit_o rfl) rfl) $$ H
  iintro ⟨H, G17⟩
  iapply (waitS m K c 21 25 42 (by decide) (by decide) rfl rfl) $$ H
  iintro H
  iapply (waitR m K c 21 25 43 (by decide) (by decide) (credit_o rfl) rfl) $$ H
  iintro ⟨H, G21⟩
  unfold wpB; rw [wp_ret]; imodintro
  iapply Hk
  isplitl [H]; · iexact H
  isplitl [G17]; · iexact G17
  iexact G21

theorem part28 (c : Dev nD) (v2 v5 v594 v752 v911 v913 c4_i32_590 : BitVec 32) {Q : _ → sProp 𝕄} :
    iprop(Sx m K c 25 44 ∗ hand m 17 c ∗ hand m 21 c) ⊢ iprop((∀ r, iprop(Sx m K c 26 47) -∗ Q r) -∗ wpB c (at_ (k0_part28 (F := F)) c v2 v5 v594 v752 v911 v913 c4_i32_590) Q) := by
  rw [k0_part28_eq_skeleton]; unfold k0_part28_skel
  simp only [Prog.lift, Prog.bind_op, Prog.bind_ret, Prog.pure_eq_ret]
  iintro ⟨H, G17, G21⟩ Hk
  ihave G25 := (hand_pair m 3 c) $$ [G17 G21]
  · isplitl [G17]; · iexact G17
    iexact G21
  iapply (send' m K c 25 25 44 (by decide) (by decide) (by decide) (go25 c) rfl rfl rfl) $$ [H G25]
  · isplitl [H]; · iexact H
    iexact G25
  iintro H
  iapply (waitS m K c 22 26 44 (by decide) (by decide) rfl rfl) $$ H
  iintro H
  iapply (waitR m K c 22 26 45 (by decide) (by decide) (credit_o rfl) rfl) $$ H
  iintro ⟨H, -⟩
  iapply (waitS m K c 23 26 46 (by decide) (by decide) rfl rfl) $$ H
  iintro H
  unfold wpB; rw [wp_ret]; imodintro
  iapply Hk
  iexact H

end Cert.Lookup

end
-- ==== Proof.Sums.lean ====
/-
# The parts of the body that gather and sum

The first nine parts: the barrier is paid, the device gathers its rows for each chunk, and the running sum of a chunk
goes along the last axis. Each part is stated on the state of the transfers and the chunks it works on.
-/
module

public import proofs.«01_k».proof.Proof.Parts
public import Idealize.ShloMosaic.Lib.Pipeline.Value

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- The place of a device along the last axis, as the kernel computes it. -/
abbrev zWord (c : Dev nD) : BitVec 32 := Scalar.remsi (Scalar.divsi (Dev.word c) 1#32) 4#32

/-- A tile to be stored holds chunk `n` after `s` steps. -/
def Sums (c : Dev nD) (s n : ℕ) (w : S1024x512.Idx → Elt F .f32) : Prop :=
  ∀ (j : S1024x512.Idx) (i : S4096x2048.Idx), i ∈ box n (512 * bcol c) 512 → (i 0).val = 1024 * n + (j 0).val → (i 1).val = 512 * bcol c + (j 1).val → w j = acc m s i

/-- The gather semaphore at rest. -/
abbrev gIdle (c : Dev nD) : sProp 𝕄 := semVal ((c : Thread nD τ), .dma gatherSem) 0

/-- What a gather needs besides the chunk. -/
abbrev idle (c : Dev nD) : sProp 𝕄 := iprop(idsPts m c ∗ tabPts m c Finset.univ fullShare ∗ gIdle (F := F) c)

/-- The own columns of chunk `n`. -/
abbrev own (c : Dev nD) (n : ℕ) (f : OutB F) : sProp 𝕄 := reg c (box n (512 * bcol c) 512) fullShare f

theorem sum_pay (c : Dev nD) (s : Fin 3) {n : ℕ} (hd : dv (bcol c) (n + (s.val + 1)) = c) {off : Fin 2 → ℕ} {inb : ∀ a, off a + S1024x512.size a ≤ S4096x2048.size a}
    (h : off = ![1024 * n, 512 * bcol c]) {inb' : ∀ a, (![s.val, 0, 0] : Fin 3 → ℕ) a + S1x1024x512.size a ≤ S3x1024x512.size a} {f}
    (hw : Holds m s.val n (bcol c) ((slotM s).view.read (Elt F) f)) :
    Sums m c (s.val + 1) n (k0_pay4 (F := F) (k0_pay3 (F := F) ((oSl off S1024x512.size inb).view.read (Elt F) (part m c)))
      ((rM.access (Rect.unit (s := S3x1024x512) ![s.val, 0, 0] S1x1024x512.size inb')).read (Elt F) f)) := by
  intro j i hi h0 h1
  refine Eq.trans ?_ (add_tile m c s.val hd (inb := inb) h hw j i hi h0 h1)
  unfold k0_pay4 k0_pay3
  rw [shapeCast_self]
  rfl

/-! ## The barrier is paid and the first gather starts -/

/-- What a device owes at the start: the barrier's payments, and its sends. -/
def oweBar (c : Dev nD) : CellTallies nD τ sig Unit :=
  (((owe c 0 + tallyAt (barCell (tgt 3 c)) () 1) + tallyAt (barCell (tgt 2 c)) () 1) + tallyAt (barCell (tgt 1 c)) () 1) + tallyAt (barCell (tgt 0 c)) () 1

/-- One payment of the barrier. -/
abbrev due (c : Dev nD) (j : Fin 4) : sProp 𝕄 := iprop(dutyTok ER (barCell (tgt j c)) 0 j ∗ barPay (F := F) j (tgt j c))

theorem part2 (c : Dev nD) (v2 v5 v8 v11 v13 v26 v28 v29 v31 v32 : BitVec 32) (hv8 : v8 = zWord c) (f : OutB F) {Q : _ → sProp 𝕄} :
    iprop(recs m K ∗ owesAny (F := F) c (oweBar c) ∗ due (F := F) c 0 ∗ due (F := F) c 1 ∗ due (F := F) c 2 ∗ due (F := F) c 3 ∗ own c (chunk 0 c) f ∗ idle m c)
      ⊢ iprop((∀ w, iprop(owesAny (F := F) c (owe c 0) ∗ idsPts m c ∗ gathering m c (chunk 0 c)) -∗ Q ⟨BitVec.ofNat 32 (copies m c (chunk 0 c)), k0_chk2_all _, 0#32, 0#32, w⟩)
        -∗ wpB c (at_ (k0_part2 (F := F)) c v2 v5 v8 v11 v13 v26 (SemArray.scalar (sig.barrier 0 rfl)) v28 v29 v31 v32) Q) := by
  rw [k0_part2_eq_skeleton]; unfold k0_part2_skel
  simp only [Prog.lift, Prog.bind_op, Prog.bind_ret, Prog.pure_eq_ret]
  iintro ⟨#Hrec, HO, ⟨Ht0, Hp0⟩, ⟨Ht1, Hp1⟩, ⟨Ht2, Hp2⟩, ⟨Ht3, Hp3⟩, Hr, Hid, Htab, Hg⟩ Hk
  iapply (signal_step m K c 0 (oweBar c) _ rfl (bar_dev1 c)) $$ [HO Ht0 Hp0]
  · isplitr; · iexact Hrec
    isplitl [HO]; · iexact HO
    isplitl [Ht0] <;> iassumption
  iintro HO
  iapply (signal_step m K c 1 _ _ rfl (bar_dev2 c)) $$ [HO Ht1 Hp1]
  · isplitr; · iexact Hrec
    isplitl [HO]; · iexact HO
    isplitl [Ht1] <;> iassumption
  iintro HO
  iapply (signal_step m K c 2 _ _ rfl (bar_dev3 c)) $$ [HO Ht2 Hp2]
  · isplitr; · iexact Hrec
    isplitl [HO]; · iexact HO
    isplitl [Ht2] <;> iassumption
  iintro HO
  iapply (signal_step m K c 3 _ _ rfl (bar_dev4 c)) $$ [HO Ht3 Hp3]
  · isplitr; · iexact Hrec
    isplitl [HO]; · iexact HO
    isplitl [Ht3] <;> iassumption
  iintro HO
  iapply (zero_step c (own_off1 c) f rfl) $$ Hr
  iintro Hr
  iapply (gather_start m c (chunk 0 c) v8 hv8 (k0_off2 c) (k0_off2_inb c) (k0_off3 c) (k0_off3_inb c) (ids_off2 c) (row_off3 c) rfl) $$ [Hid Htab Hr Hg]
  · isplitl [Hid]; · iexact Hid
    isplitl [Htab]; · iexact Htab
    isplitl [Hr] <;> iassumption
  iintro ⟨Hid, HG⟩
  iapply (wp_assume 𝒱₀ (c : Thread nD τ) none Set.univ (k0_chk2_all _))
  rw [wp_ret]; imodintro
  iapply Hk
  isplitl [HO]; · iexact HO
  isplitl [Hid] <;> iassumption

theorem part1 (c : Dev nD) {Q : (Σ' (d0 : Dev nD) (v2 : BitVec 32) (v5 : BitVec 32) (v8 : BitVec 32) (v11 : BitVec 32) (v13 : BitVec 32) (v18 : BitVec 32) (v21 : BitVec 32) (v25 : BitVec 32) (v26 : BitVec 32) (v27 : Sems sig S_) (v28 : BitVec 32) (v29 : BitVec 32) (v31 : BitVec 32), BitVec 32) → sProp 𝕄} :
    iprop(∀ v2 v5 v11 v13 v18 v21 v25 v26 v28 v29 v31 v32, Q ⟨c, v2, v5, zWord c, v11, v13, v18, v21, v25, v26, SemArray.scalar (sig.barrier 0 rfl), v28, v29, v31, v32⟩)
      ⊢ wpB c (at_ (k0_part1 (F := F))) Q := by
  rw [k0_part1_eq_skeleton]; unfold k0_part1_skel
  simp only [Prog.lift, Prog.bind_op, Prog.bind_ret, Prog.pure_eq_ret, wp_deviceId]
  iintro H
  rw [wp_ret]; imodintro
  iapply H

/-! ## The barrier, and the chunk that a device starts -/

theorem part3 (c : Dev nD) (v2 v5 v8 v13 v26 w0 w1 w2 : BitVec 32) (h2 : k0_chk2 (BitVec.ofNat 32 (copies m c (chunk 0 c)))) (f : OutB F) {Q : _ → sProp 𝕄} :
    iprop((recs m K ∗ levAts L lv ∗ owesAny (F := F) c (owe c 0) ∗ atPos ER (barCell c) 0 ∅ 0 ∗ cred (tallyAt (barCell c) () 4) ∗ bigSep Finset.univ (base (F := F) c))
        ∗ gathering m c (chunk 0 c) ∗ own c (chunk 1 c) f)
      ⊢ iprop((∀ w, iprop(Sx m K c 1 0 ∗ semVal (barCell c) 0 ∗ tabPts m c Finset.univ fullShare ∗ gIdle (F := F) c ∗ own c (chunk 1 c) zeroB) -∗ Q ⟨w, 0#32⟩)
        -∗ wpB c (at_ (k0_part3 (F := F)) c v2 v5 v8 v13 v26 (SemArray.scalar (sig.barrier 0 rfl)) (BitVec.ofNat 32 (copies m c (chunk 0 c))) h2 w0 w1 w2) Q) := by
  rw [k0_part3_eq_skeleton]; unfold k0_part3_skel
  simp only [Prog.lift, Prog.bind_op, Prog.bind_ret, Prog.pure_eq_ret]
  iintro ⟨⟨#Hrec, #Hlev, HO, Hat, Hc, HB⟩, HG, Hr1⟩ Hk
  iapply (gather_wait m c (chunk 0 c) _ rfl (owe c 0) (mayWait_owe c (.dma gatherSem) 0 (by decide)) (k0_off6 c) (k0_off6_inb c) (k0_off5 c) (k0_off5_inb c) rfl) $$ [HG HO]
  · isplitl [HG]; · iexact HG
    isplitl [HO]; · iexact HO
    iexact Hlev
  iintro %n ⟨Hr, Htab, Hg, HO⟩
  iapply (no_trip c)
  iapply (barrier_step m K c) $$ [HO Hat Hc HB]
  · isplitr; · iexact Hrec
    isplitr; · iexact Hlev
    isplitl [HO]; · iexact HO
    isplitl [Hat]; · iexact Hat
    isplitl [Hc] <;> iassumption
  iintro ⟨H, Hz⟩
  ihave Hr := (Entails.of_eq (part_start m c (chunk 0 c) (dv_chunk c).1)) $$ Hr
  iapply (sendR m K c 0 0 0 (by decide) (by decide) (by decide) (go0 c) rfl rfl rfl) $$ [H Hr]
  · isplitl [H]; · iexact H
    isplitl [Hr]; · iexact Hr
    iempintro
  iintro H
  iapply (zero_step c (own_off10 c) f rfl) $$ Hr1
  iintro Hr1
  unfold wpB; rw [wp_ret]; imodintro
  iapply Hk
  isplitl [H]; · iexact H
  isplitl [Hz]; · iexact Hz
  isplitl [Htab]; · iexact Htab
  isplitl [Hg] <;> iassumption

/-! ## The first sum -/

theorem part4 (c : Dev nD) (v2 v5 v8 v13 v26 v74 : BitVec 32) (hv8 : v8 = zWord c) {Q : _ → sProp 𝕄} :
    iprop(Sx m K c 1 0 ∗ idle m c ∗ own c (chunk 1 c) zeroB)
      ⊢ iprop((iprop(Sx m K c 1 2 ∗ hand m 0 c ∗ idle m c ∗ own c (chunk 1 c) (part m c))
          -∗ Q (k0_pay3 (F := F) ((oSl (k0_off19 c 0#32) S1024x512.size (k0_off19_inb c 0)).view.read (Elt F) (part m c))))
        -∗ wpB c (at_ (k0_part4 (F := F)) c v2 v5 v8 v13 v26 v74 0#32) Q) := by
  rw [k0_part4_eq_skeleton]; unfold k0_part4_skel
  simp only [Prog.lift, Prog.bind_op, Prog.bind_ret, Prog.pure_eq_ret]
  iintro ⟨H, ⟨Hid, Htab, Hg⟩, Hr⟩ Hk
  iapply (gather_start m c (chunk 1 c) v8 hv8 (k0_off11 c) (k0_off11_inb c) (k0_off12 c) (k0_off12_inb c) (ids_off11 c) (row_off12 c) rfl) $$ [Hid Htab Hr Hg]
  · isplitl [Hid]; · iexact Hid
    isplitl [Htab]; · iexact Htab
    isplitl [Hr] <;> iassumption
  iintro ⟨Hid, HG⟩
  iapply (wp_assume 𝒱₀ (c : Thread nD τ) none Set.univ (k0_chk4_all _))
  iapply (gather_waitS m K c (chunk 1 c) 1 0 _ rfl (k0_off15 c) (k0_off15_inb c) (k0_off14 c) (k0_off14_inb c) rfl) $$ [HG H]
  · isplitl [HG] <;> iassumption
  iintro %n ⟨Hr, Htab, Hg, H⟩
  iapply (no_trip c)
  iapply (waitS m K c 0 1 0 (by decide) (by decide) rfl rfl) $$ H
  iintro H
  iapply (waitR m K c 0 1 1 (by decide) (by decide) (credit_slot 0 (by decide)) rfl) $$ H
  iintro ⟨H, G⟩
  iapply (load_o c (own_off19 c) (part m c)) $$ Hr
  iintro Hr
  unfold wpB; rw [wp_ret]; imodintro
  iapply Hk
  isplitl [H]; · iexact H
  isplitl [G]; · iexact G
  isplitl [Hid Htab Hg]
  · isplitl [Hid]; · iexact Hid
    isplitl [Htab] <;> iassumption
  iexact Hr

theorem part5 (c : Dev nD) (v2 v5 v8 v13 v26 v74 : BitVec 32) (f : OutB F) {Q : _ → sProp 𝕄} :
    iprop(Sx m K c 1 2 ∗ hand m 0 c ∗ own c (chunk 1 c) (part m c) ∗ own c (chunk 2 c) f)
      ⊢ iprop((∀ w, iprop(Sx m K c 2 2 ∗ (∃ g, slotPts c 0 g) ∗ own c (chunk 2 c) zeroB) -∗ Q ⟨w, 0#32, 0#32, 1024#32⟩)
        -∗ wpB c (at_ (k0_part5 (F := F)) c v2 v5 v8 v13 v26 v74 (k0_pay3 (F := F) ((oSl (k0_off19 c 0#32) S1024x512.size (k0_off19_inb c 0)).view.read (Elt F) (part m c)))) Q) := by
  rw [k0_part5_eq_skeleton]; unfold k0_part5_skel
  simp only [Prog.lift, Prog.bind_op, Prog.bind_ret, Prog.pure_eq_ret]
  iintro ⟨H, G, Hr, Hr2⟩ Hk
  ihave G := (show hand m (0 : Tr) c ⊢ _ from hand_rs m 0 c (chunk 1 c) (chunk_next c).1) $$ G
  icases G with ⟨%g, %hg, Hs, Hp⟩
  iapply (load_r c 0 rfl g) $$ Hs
  iintro Hs
  iapply (load_o c (own_off19 c) (part m c)) $$ Hr
  iintro Hr
  iapply (store_o c (own_off19 c) (part m c) (acc m 1) (sum_pay m c 0 (dv_chunk c).2.1 (own_off19 c) hg)) $$ Hr
  iintro Hr
  iapply (sendR m K c 1 1 2 (by decide) (by decide) (by decide) (go1 c) rfl rfl rfl) $$ [H Hr Hp]
  · isplitl [H]; · iexact H
    isplitl [Hr]; · iexact Hr
    iexact Hp
  iintro H
  iapply (zero_step c (own_off19' c) f rfl) $$ Hr2
  iintro Hr2
  unfold wpB; rw [wp_ret]; imodintro
  iapply Hk
  isplitl [H]; · iexact H
  isplitl [Hs]; · iexists _; iexact Hs
  iexact Hr2

/-! ## The second sum -/

theorem part6 (c : Dev nD) (v2 v5 v8 v13 v26 v137 w0 w1 : BitVec 32) (hv8 : v8 = zWord c) {Q : _ → sProp 𝕄} :
    iprop(Sx m K c 2 2 ∗ idle m c ∗ own c (chunk 2 c) zeroB)
      ⊢ iprop((∀ v w, iprop(⌜Sums m c 2 (chunk 2 c) (k0_pay7 (F := F) v w)⌝ ∗ Sx m K c 2 4 ∗ idle m c ∗ own c (chunk 2 c) (part m c) ∗ (∃ g, slotPts c 1 g)
          ∗ permsDn (F := F) 2 c (chunk 2 c)) -∗ Q ⟨v, w⟩)
        -∗ wpB c (at_ (k0_part6 (F := F)) c v2 v5 v8 v13 v26 v137 0#32 w0 w1) Q) := by
  rw [k0_part6_eq_skeleton]; unfold k0_part6_skel
  simp only [Prog.lift, Prog.bind_op, Prog.bind_ret, Prog.pure_eq_ret]
  iintro ⟨H, ⟨Hid, Htab, Hg⟩, Hr⟩ Hk
  iapply (gather_start m c (chunk 2 c) v8 hv8 (k0_off20 c) (k0_off20_inb c) (k0_off21 c) (k0_off21_inb c) (ids_off20 c) (row_off21 c) rfl) $$ [Hid Htab Hr Hg]
  · isplitl [Hid]; · iexact Hid
    isplitl [Htab]; · iexact Htab
    isplitl [Hr] <;> iassumption
  iintro ⟨Hid, HG⟩
  iapply (wp_assume 𝒱₀ (c : Thread nD τ) none Set.univ (k0_chk6_all _))
  iapply (gather_waitS m K c (chunk 2 c) 2 2 _ rfl (k0_off24 c) (k0_off24_inb c) (k0_off23 c) (k0_off23_inb c) rfl) $$ [HG H]
  · isplitl [HG] <;> iassumption
  iintro %n ⟨Hr, Htab, Hg, H⟩
  iapply (no_trip c)
  iapply (waitS m K c 1 2 2 (by decide) (by decide) rfl rfl) $$ H
  iintro H
  iapply (waitR m K c 1 2 3 (by decide) (by decide) (credit_slot 1 (by decide)) rfl) $$ H
  iintro ⟨H, G⟩
  ihave G := (show hand m (1 : Tr) c ⊢ _ from hand_rs m 1 c (chunk 2 c) (chunk_next c).2.1) $$ G
  icases G with ⟨%g, %hg, Hs, Hp⟩
  iapply (load_o c (own_off28 c) (part m c)) $$ Hr
  iintro Hr
  iapply (load_r c 1 rfl g) $$ Hs
  iintro Hs
  unfold wpB; rw [wp_ret]; imodintro
  iapply Hk
  isplitr
  · ipureintro; exact sum_pay m c 1 (dv_chunk c).2.2.1 (own_off28 c) hg
  isplitl [H]; · iexact H
  isplitl [Hid Htab Hg]
  · isplitl [Hid]; · iexact Hid
    isplitl [Htab] <;> iassumption
  isplitl [Hr]; · iexact Hr
  isplitl [Hs]; · iexists _; iexact Hs
  iexact Hp

theorem part7 (c : Dev nD) (v2 v5 v8 v13 v26 v137 : BitVec 32) {v w} (hvw : Sums m c 2 (chunk 2 c) (k0_pay7 (F := F) v w)) (f : OutB F) {Q : _ → sProp 𝕄} :
    iprop(Sx m K c 2 4 ∗ own c (chunk 2 c) (part m c) ∗ permsDn (F := F) 2 c (chunk 2 c) ∗ own c (kk 0 c) f)
      ⊢ iprop((∀ u, iprop(Sx m K c 3 4 ∗ own c (kk 0 c) zeroB) -∗ Q ⟨u, 0#32, 0#32, 1#32⟩)
        -∗ wpB c (at_ (k0_part7 (F := F)) c v2 v5 v8 v13 v26 v137 v w) Q) := by
  rw [k0_part7_eq_skeleton]; unfold k0_part7_skel
  simp only [Prog.lift, Prog.bind_op, Prog.bind_ret, Prog.pure_eq_ret]
  iintro ⟨H, Hr, Hp, Hr2⟩ Hk
  iapply (load_o c (own_off28 c) (part m c)) $$ Hr
  iintro Hr
  iapply (store_o c (own_off28 c) (part m c) (acc m 2) hvw) $$ Hr
  iintro Hr
  iapply (sendR m K c 2 2 4 (by decide) (by decide) (by decide) (go2 c) rfl rfl rfl) $$ [H Hr Hp]
  · isplitl [H]; · iexact H
    isplitl [Hr]; · iexact Hr
    iexact Hp
  iintro H
  iapply (zero_step c (own_off28' c) f rfl) $$ Hr2
  iintro Hr2
  unfold wpB; rw [wp_ret]; imodintro
  iapply Hk
  isplitl [H] <;> iassumption

/-! ## The last sum, and the first sends of the finished chunk -/

theorem part8 (c : Dev nD) (v2 v5 v8 v13 v26 v200 w0 w1 : BitVec 32) (hv8 : v8 = zWord c) {Q : _ → sProp 𝕄} :
    iprop(Sx m K c 3 4 ∗ idle m c ∗ own c (kk 0 c) zeroB)
      ⊢ iprop((∀ v, iprop(⌜Sums m c 3 (kk 0 c) v⌝ ∗ Sx m K c 3 6 ∗ idle m c ∗ own c (kk 0 c) (part m c) ∗ (∃ g, slotPts c 2 g)
          ∗ permsDn (F := F) 3 c (kk 0 c)) -∗ Q v)
        -∗ wpB c (at_ (k0_part8 (F := F)) c v2 v5 v8 v13 v26 v200 0#32 w0 w1) Q) := by
  rw [k0_part8_eq_skeleton]; unfold k0_part8_skel
  simp only [Prog.lift, Prog.bind_op, Prog.bind_ret, Prog.pure_eq_ret]
  iintro ⟨H, ⟨Hid, Htab, Hg⟩, Hr⟩ Hk
  iapply (gather_start m c (kk 0 c) v8 hv8 (k0_off29 c) (k0_off29_inb c) (k0_off30 c) (k0_off30_inb c) (ids_off29 c) (row_off30 c) rfl) $$ [Hid Htab Hr Hg]
  · isplitl [Hid]; · iexact Hid
    isplitl [Htab]; · iexact Htab
    isplitl [Hr] <;> iassumption
  iintro ⟨Hid, HG⟩
  iapply (wp_assume 𝒱₀ (c : Thread nD τ) none Set.univ (k0_chk8_all _))
  iapply (gather_waitS m K c (kk 0 c) 3 4 _ rfl (k0_off33 c) (k0_off33_inb c) (k0_off32 c) (k0_off32_inb c) rfl) $$ [HG H]
  · isplitl [HG] <;> iassumption
  iintro %n ⟨Hr, Htab, Hg, H⟩
  iapply (no_trip c)
  iapply (waitS m K c 2 3 4 (by decide) (by decide) rfl rfl) $$ H
  iintro H
  iapply (waitR m K c 2 3 5 (by decide) (by decide) (credit_slot 2 (by decide)) rfl) $$ H
  iintro ⟨H, G⟩
  ihave G := (show hand m (2 : Tr) c ⊢ _ from hand_rs m 2 c (kk 0 c) (chunk_next c).2.2) $$ G
  icases G with ⟨%g, %hg, Hs, Hp⟩
  iapply (load_o c (own_off37 c) (part m c)) $$ Hr
  iintro Hr
  iapply (load_r c 2 rfl g) $$ Hs
  iintro Hs
  unfold wpB; rw [wp_ret]; imodintro
  iapply Hk
  isplitr
  · ipureintro; exact sum_pay m c 2 (dv_chunk c).2.2.2 (own_off37 c) hg
  isplitl [H]; · iexact H
  isplitl [Hid Htab Hg]
  · isplitl [Hid]; · iexact Hid
    isplitl [Htab] <;> iassumption
  isplitl [Hr]; · iexact Hr
  isplitl [Hs]; · iexists _; iexact Hs
  iexact Hp

theorem part9 (c : Dev nD) (v2 v5 v8 v26 v200 : BitVec 32) {v} (hv : Sums m c 3 (kk 0 c) v) {Q : _ → sProp 𝕄} :
    iprop(Sx m K c 3 6 ∗ own c (kk 0 c) (part m c) ∗ permsDn (F := F) 3 c (kk 0 c))
      ⊢ iprop((∀ r, iprop(Sx m K c 5 6 ∗ src m 3 c ∗ extra (F := F) 3 c) -∗ Q r)
        -∗ wpB c (at_ (k0_part9 (F := F)) c v2 v5 v8 v26 v200 v) Q) := by
  rw [k0_part9_eq_skeleton]; unfold k0_part9_skel
  simp only [Prog.lift, Prog.bind_op, Prog.bind_ret, Prog.pure_eq_ret]
  iintro ⟨H, Hr, Hp⟩ Hk
  iapply (load_o c (own_off37 c) (part m c)) $$ Hr
  iintro Hr
  iapply (store_o c (own_off37 c) (part m c) (full m) hv) $$ Hr
  iintro Hr
  ihave Hs := (show own c (kk 0 c) (full m) ⊢ _ from (own_src m 0 c).1) $$ Hr
  icases Hs with ⟨Ha, Hx, Hy⟩
  iapply (send' m K c 6 3 6 (by decide) (by decide) (by decide) (go6 c) rfl rfl rfl) $$ [H Hx]
  · isplitl [H]; · iexact H
    iassumption
  iintro H
  iapply (send' m K c 10 4 6 (by decide) (by decide) (by decide) (go10 c) rfl rfl rfl) $$ [H Hy]
  · isplitl [H]; · iexact H
    iassumption
  iintro H
  unfold wpB; rw [wp_ret]; imodintro
  iapply Hk
  isplitl [H]; · iexact H
  isplitl [Ha]
  · iapply (Entails.of_eq (src_ag m 0 c).symm); iexact Ha
  iapply (Entails.of_eq (extra_ag (F := F) 0 c).symm)
  iapply (turn (F := F) c (kk 0 c)); iexact Hp

end Cert.Lookup

end
-- ==== Proof.Body.lean ====
/-
# The body

The parts in order: from the payments of the barrier to the last wait, the body leaves the whole result in the result
buffer of its device, and every semaphore at zero.
-/
module

public import proofs.«01_k».proof.Proof.Sums

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- One program after another. -/
theorem seq {α β : Type} (c : Dev nD) {p : Prog (TpuEff nD τ sig (Elt F) Λ₀ .tc) β} {k : β → Prog (TpuEff nD τ sig (Elt F) Λ₀ .tc) α} {Q : α → sProp 𝕄} :
    wpB c p (fun a => wpB c (k a) Q) ⊢ wpB c (p >>= k) Q := Entails.of_eq (wp_bind _ _ _ p k Q).symm

/-- What a device runs its body from. -/
def begins (c : Dev nD) (f : OutB F) : sProp 𝕄 :=
  iprop(recs m K ∗ levAts L lv ∗ owesAny (F := F) c (oweBar c) ∗ (bigSep Finset.univ fun j : Fin 4 => dutyTok ER (barCell (tgt j c)) 0 j)
    ∗ atPos ER (barCell c) 0 ∅ 0 ∗ cred (tallyAt (barCell c) () 4) ∗ bigSep Finset.univ (base (F := F) c)
    ∗ landing (F := F) c ∗ reg c Finset.univ fullShare f ∗ idle m c)

/-- What a device is left with. -/
def ends (c : Dev nD) : sProp 𝕄 :=
  iprop(owesAny (F := F) c 0 ∗ reg c Finset.univ fullShare (full m) ∗ landing (F := F) c ∗ idle m c ∗ semVal (barCell c) 0
    ∗ bigSep Finset.univ fun t : Tr => iprop(semVal (sendCell t c) 0 ∗ semVal (recvCell t c) 0))

theorem four_duties (c : Dev nD) : (bigSep Finset.univ fun j : Fin 4 => (dutyTok ER (barCell (tgt j c)) 0 j : sProp 𝕄))
    = iprop(dutyTok ER (barCell (tgt 0 c)) 0 0 ∗ dutyTok ER (barCell (tgt 1 c)) 0 1 ∗ dutyTok ER (barCell (tgt 2 c)) 0 2 ∗ dutyTok ER (barCell (tgt 3 c)) 0 3) :=
  BI.bigSep_univ_eq_bigSepL ([0, 1, 2, 3] : List (Fin 4)) (by decide) (by decide) _

theorem three_slots (c : Dev nD) : iprop((∃ g, slotPts (F := F) c 0 g) ∗ (∃ g, slotPts (F := F) c 1 g) ∗ (∃ g, slotPts (F := F) c 2 g)) ⊢ landing (F := F) c := by
  have e : (bigSep Finset.univ fun s : Fin 3 => iprop(∃ f, slotPts (F := F) c s f))
      = iprop((∃ g, slotPts (F := F) c 0 g) ∗ (∃ g, slotPts (F := F) c 1 g) ∗ (∃ g, slotPts (F := F) c 2 g)) :=
    BI.bigSep_univ_eq_bigSepL ([0, 1, 2] : List (Fin 3)) (by decide) (by decide) _
  have h := slots_end (F := F) c
  rw [e] at h
  iintro ⟨H0, H1, H2⟩
  iapply h
  isplitl [H0]; · iexact H0
  isplitl [H1]; · iexact H1
  iexact H2

/-- The body up to its last two waits. -/
theorem part29 (c : Dev nD) (f : OutB F) {Q : _ → sProp 𝕄} :
    begins m K c f ⊢ iprop((∀ v2 v5 w, iprop(Sx m K c 26 50 ∗ reg c (obox c 3) fullShare.left (full m) ∗ landing (F := F) c ∗ idle m c ∗ semVal (barCell c) 0) -∗ Q ⟨c, v2, v5, w⟩)
      -∗ wpB c (at_ (k0_part29 (F := F))) Q) := by
  rw [k0_part29_eq_skeleton]; unfold k0_part29_skel begins
  simp only [Prog.lift, Prog.bind_op, Prog.bind_ret, Prog.pure_eq_ret]
  iintro ⟨#Hrec, #Hlev, HO, HT, Hat, Hc, HB, Hland, Hr, Hid, Htab, Hg⟩ Hk
  ihave HT := (Entails.of_eq (four_duties (F := F) c)) $$ HT
  icases HT with ⟨T0, T1, T2, T3⟩
  ihave Hown := (own_start c f) $$ [Hland Hr]
  · isplitl [Hland] <;> iassumption
  icases Hown with ⟨⟨R0, R1, R2, R3⟩, P0, P1, P2, P3⟩
  iapply (seq c); iapply (part1 c)
  iintro %v2 %v5 %v11 %v13 %v18 %v21 %v25 %v26 %v28 %v29 %v31 %v32
  iapply (seq c); iapply (part2 m K c v2 v5 _ v11 v13 v26 v28 v29 v31 v32 rfl f) $$ [HO T0 T1 T2 T3 P0 P1 P2 P3 R0 Hid Htab Hg]
  · isplitr; · iexact Hrec
    isplitl [HO]; · iexact HO
    isplitl [T0 P0]; · isplitl [T0] <;> iassumption
    isplitl [T1 P1]; · isplitl [T1] <;> iassumption
    isplitl [T2 P2]; · isplitl [T2] <;> iassumption
    isplitl [T3 P3]; · isplitl [T3] <;> iassumption
    isplitl [R0]; · iexact R0
    isplitl [Hid]; · iexact Hid
    isplitl [Htab] <;> iassumption
  iintro %w ⟨HO, Hid, HG⟩
  iapply (seq c); iapply (part3 m K c v2 v5 _ v13 v26 _ _ _ _ f) $$ [HO Hat Hc HB HG R1]
  · isplitl [HO Hat Hc HB]
    · isplitr; · iexact Hrec
      isplitr; · iexact Hlev
      isplitl [HO]; · iexact HO
      isplitl [Hat]; · iexact Hat
      isplitl [Hc] <;> iassumption
    isplitl [HG] <;> iassumption
  iintro %w ⟨H, Hz, Htab, Hg, R1⟩
  iapply (seq c); iapply (part4 m K c v2 v5 _ v13 v26 _ rfl) $$ [H Hid Htab Hg R1]
  · isplitl [H]; · iexact H
    isplitl [Hid Htab Hg]
    · isplitl [Hid]; · iexact Hid
      isplitl [Htab] <;> iassumption
    iexact R1
  iintro ⟨H, G, HI, R1⟩
  iapply (seq c); iapply (part5 m K c v2 v5 _ v13 v26 _ f) $$ [H G R1 R2]
  · isplitl [H]; · iexact H
    isplitl [G]; · iexact G
    isplitl [R1] <;> iassumption
  iintro %w ⟨H, S0, R2⟩
  iapply (seq c); iapply (part6 m K c v2 v5 _ v13 v26 _ _ _ rfl) $$ [H HI R2]
  · isplitl [H]; · iexact H
    isplitl [HI] <;> iassumption
  iintro %v %w ⟨%hvw, H, HI, R2, S1, P⟩
  iapply (seq c); iapply (part7 m K c v2 v5 _ v13 v26 _ hvw f) $$ [H R2 P R3]
  · isplitl [H]; · iexact H
    isplitl [R2]; · iexact R2
    isplitl [P] <;> iassumption
  iintro %w ⟨H, R3⟩
  iapply (seq c); iapply (part8 m K c v2 v5 _ v13 v26 _ _ _ rfl) $$ [H HI R3]
  · isplitl [H]; · iexact H
    isplitl [HI] <;> iassumption
  iintro %v ⟨%hv, H, HI, R3, S2, P⟩
  iapply (seq c); iapply (part9 m K c v2 v5 _ v26 _ hv) $$ [H R3 P]
  · isplitl [H]; · iexact H
    isplitl [R3] <;> iassumption
  iintro %w ⟨H, A, E⟩
  ihave Hland := (three_slots (F := F) c) $$ [S0 S1 S2]
  · isplitl [S0]; · iexact S0
    isplitl [S1] <;> iassumption
  iapply (seq c); iapply (part10 m K c _ _ _ _ _) $$ [H A E]
  · isplitl [H]; · iexact H
    isplitl [A]; · iexact A
    iexact E
  iintro %r ⟨H, G3⟩
  ihave G := (show hand m 3 c ⊢ _ from hand_next m 0 c) $$ G3
  icases G with ⟨A, X1, Y1, P⟩
  ihave E := (show permsUp (F := F) (2 - (0 : Fin 3).val) c (kk ((0 : Fin 3).val + 1) c) ⊢ extra (F := F) 4 c from Entails.of_eq (extra_ag (F := F) 1 c).symm) $$ P
  iapply (seq c); iapply (part11 m K c _ _ _ _) $$ [H A E X1]
  · isplitl [H]; · iexact H
    isplitl [A]; · iexact A
    isplitl [E]; · iexact E
    iexact X1
  iintro %r H
  iapply (seq c); iapply (part12 m K c _ _ _ _ _ _ _) $$ [H Y1]
  · isplitl [H]; · iexact H
    iexact Y1
  iintro %r ⟨H, G6⟩
  iapply (seq c); iapply (part13 m K c _ _ _ _ _ _ _ _ _) $$ H
  iintro %r H
  iapply (seq c); iapply (part14 m K c _ _ _ _) $$ [H G6]
  · isplitl [H]; · iexact H
    iexact G6
  iintro %r ⟨H, X2, Y2⟩
  iapply (seq c); iapply (part15 m K c _ _ _ _) $$ [H X2 Y2]
  · isplitl [H]; · iexact H
    isplitl [X2]; · iexact X2
    iexact Y2
  iintro %r H
  iapply (seq c); iapply (part16 m K c _ _ _ _ _ _ _ _ _) $$ H
  iintro %r ⟨H, G7, G11⟩
  iapply (seq c); iapply (part17 m K c _ _ _ _ _ _) $$ [H G11 G7]
  · isplitl [H]; · iexact H
    isplitl [G11]; · iexact G11
    iexact G7
  iintro %r H
  iapply (seq c); iapply (part18 m K c _ _ _ _ _ _ _ _ _) $$ H
  iintro %r ⟨H, G14, G18⟩
  iapply (seq c); iapply (part19 m K c _ _ _ _) $$ [H G14 G18]
  · isplitl [H]; · iexact H
    isplitl [G14]; · iexact G14
    iexact G18
  iintro %r ⟨H, G5⟩
  ihave G := (show hand m 5 c ⊢ _ from hand_next m 2 c) $$ G5
  icases G with ⟨A, X3, Y3, -⟩
  iapply (seq c); iapply (part20 m K c _ _ _ _ _) $$ [H X3 Y3]
  · isplitl [H]; · iexact H
    isplitl [X3]; · iexact X3
    iexact Y3
  iintro %r ⟨H, G8⟩
  iapply (seq c); iapply (part21 m K c _ _ _ _ _ _ _ _) $$ H
  iintro %r H
  iapply (seq c); iapply (part22 m K c _ _ _ _ _ _) $$ [H G8]
  · isplitl [H]; · iexact H
    iexact G8
  iintro %r ⟨H, G15⟩
  iapply (seq c); iapply (part23 m K c _ _ _ _ _ _ _ _ _) $$ [H G15]
  · isplitl [H]; · iexact H
    iexact G15
  iintro %r H
  iapply (seq c); iapply (part24 m K c _ _ _ _ _ _ _) $$ H
  iintro %r ⟨H, G9, G13⟩
  iapply (seq c); iapply (part25 m K c _ _ _ _ _ _ _) $$ [H G13 G9]
  · isplitl [H]; · iexact H
    isplitl [G13]; · iexact G13
    iexact G9
  iintro %r ⟨H, G16⟩
  iapply (seq c); iapply (part26 m K c _ _ _ _ _ _ _) $$ [H G16]
  · isplitl [H]; · iexact H
    iexact G16
  iintro %r H
  iapply (seq c); iapply (part27 m K c _ _ _ _ _ _ _ _) $$ H
  iintro %r ⟨H, G17, G21⟩
  iapply (seq c); iapply (part28 m K c _ _ _ _ _ _ _) $$ [H G17 G21]
  · isplitl [H]; · iexact H
    isplitl [G17]; · iexact G17
    iexact G21
  iintro %r H
  iapply (waitR m K c 23 26 47 (by decide) (by decide) (credit_o rfl) rfl) $$ H
  iintro ⟨H, -⟩
  iapply (waitS m K c 24 26 48 (by decide) (by decide) rfl rfl) $$ H
  iintro H
  iapply (waitR m K c 24 26 49 (by decide) (by decide) (credit_o rfl) rfl) $$ H
  iintro ⟨H, -⟩
  unfold wpB; rw [wp_ret]; imodintro
  iapply Hk
  isplitl [H]; · iexact H
  isplitl [A]; · iexact A
  isplitl [Hland]; · iexact Hland
  isplitl [HI]; · iexact HI
  iexact Hz

/-- The body of a device. -/
theorem body_run (c : Dev nD) (f : OutB F) {Q : PUnit → sProp 𝕄} :
    begins m K c f ⊢ iprop((ends m c -∗ Q ⟨⟩) -∗ wpB c (at_ (cc0_body (F := F))) Q) := by
  rw [cc0_body_eq_skeleton]; unfold cc0_body_skel
  simp only [Prog.lift, Prog.bind_op, Prog.bind_ret, Prog.pure_eq_ret]
  iintro H Hk
  iapply (seq c); iapply (part29 m K c f) $$ H
  iintro %v2 %v5 %w ⟨H, A, Hland, HI, Hz⟩
  iapply (waitS m K c 25 26 50 (by decide) (by decide) rfl rfl) $$ H
  iintro H
  iapply (waitR m K c 25 26 51 (by decide) (by decide) (credit_o rfl) rfl) $$ H
  iintro ⟨H, -⟩
  unfold wpB; rw [wp_ret]; imodintro
  iapply Hk
  unfold Sx ends
  icases H with ⟨-, -, H⟩
  ihave H := (finish m c) $$ [H A]
  · isplitl [H] <;> iassumption
  icases H with ⟨HO, Hr, HS⟩
  isplitl [HO]; · iexact HO
  isplitl [Hr]; · iexact Hr
  isplitl [Hland]; · iexact Hland
  isplitl [HI]; · iexact HI
  isplitl [Hz]; · iexact Hz
  iexact HS

end Cert.Lookup

end
-- ==== Proof.Fund.lean ====
/-
# The launch's ghost state

The semaphores at zero become the transfers' cells, for all devices at once; the tokens are dealt to the devices that
pay with them (the barrier's to the neighbours, an arrival's to the sender), and what the devices owe each other at
launch becomes each device's credit.
-/
module

public import proofs.«01_k».proof.Proof.Body

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Semaphores, cells, tokens -/

/-- The kernel's own semaphores: the row copies', the sends', the arrivals'. -/
def osem : CI → SemLoc sig
  | .inl _ => .dma gatherSem | .inr (.inl t) => .dma (sendSem t) | .inr (.inr t) => .dma (recvSem t)

/-- A cell from its role. -/
def ofRole : Role → CI
  | .send t => .inr (.inl t) | .recv t => .inr (.inr t) | _ => .inl ()

theorem role_csem (i : CI) : ofRole (role (csem i)) = i := by
  rcases i with u | t | t
  · show ofRole (role (.reg barS)) = _; rw [role_bar]; rfl
  · show ofRole (role (.dma (sendSem t))) = _; rw [role_send]; rfl
  · show ofRole (role (.dma (recvSem t))) = _; rw [role_recv]; rfl

theorem cell_inj : Function.Injective fun ck : Dev nD × CI => cell ck.1 ck.2 := by
  rintro ⟨c, i⟩ ⟨c', i'⟩ h
  have h1 : c = c' := congrArg (fun g : GSem nD τ sig => g.1.1) h
  have h2 : csem i = csem i' := congrArg Prod.snd h
  rw [h1, ← role_csem i, h2, role_csem]

theorem role_osem (i : CI) : ofRole (role (osem i)) = i := by
  rcases i with u | t | t
  · rfl
  · exact role_csem (.inr (.inl t))
  · exact role_csem (.inr (.inr t))

theorem ownSemFacts : Pipeline.OwnSemFacts cfg0.spec osem where
  isScoped := by decide +kernel
  inj i i' h := by rw [← role_osem i, h, role_osem]
  disj := by decide +kernel

/-- The tokens of a device's cells: four at the barrier, one at every other cell. -/
abbrev TI := Fin 4 ⊕ (Tr ⊕ Tr)
def tokCell : TI → CI | .inl _ => .inl () | .inr i => .inr i
def tokDuty : TI → Fin 4 | .inl j => j | .inr _ => 0
abbrev tokOf (ck : Dev nD × TI) : GSem nD τ sig × ℕ × Fin 4 := (cell ck.1 (tokCell ck.2), 0, tokDuty ck.2)

theorem tok_inj : Function.Injective tokOf := by
  rintro ⟨c, i⟩ ⟨c', i'⟩ h
  have h1 : (c, tokCell i) = (c', tokCell i') := cell_inj (congrArg Prod.fst h)
  have h2 : tokDuty i = tokDuty i' := congrArg (fun x : GSem nD τ sig × ℕ × Fin 4 => x.2.2) h
  obtain ⟨rfl, h3⟩ := Prod.mk.inj h1
  rcases i with j | i <;> rcases i' with j' | i'
  · cases (show j = j' from h2); rfl
  · exact absurd (show (Sum.inl () : CI) = Sum.inr i' from h3) (by simp)
  · exact absurd (show (Sum.inr i : CI) = Sum.inl () from h3) (by simp)
  · cases Sum.inr.inj (show (Sum.inr i : CI) = Sum.inr i' from h3); rfl

def allCells : Finset (GSem nD τ sig) := Finset.univ.map ⟨fun ck : Dev nD × CI => cell ck.1 ck.2, cell_inj⟩
def allToks : Finset (GSem nD τ sig × ℕ × Fin 4) := Finset.univ.map ⟨tokOf, tok_inj⟩

def u₀ : UU :=
  (initOf (Pipeline.cells cfgs cellOf_inj) (Pipeline.launchToks cfgs cellOf_inj), (initOf allCells allToks, 1))

/-- The tokens of device `c`'s cells, -/
def toks (c : Dev nD) : sProp 𝕄 :=
  iprop((bigSep Finset.univ fun j : Fin 4 => dutyTok ER (barCell c) 0 j) ∗ (bigSep Finset.univ fun t : Tr => dutyTok ER (sendCell t c) 0 0)
    ∗ bigSep Finset.univ fun t : Tr => dutyTok ER (recvCell t c) 0 0)
/-- and those it pays with. -/
def pays (c : Dev nD) : sProp 𝕄 :=
  iprop((bigSep Finset.univ fun j : Fin 4 => dutyTok ER (barCell (tgt j c)) 0 j) ∗ (bigSep Finset.univ fun t : Tr => dutyTok ER (sendCell t c) 0 0)
    ∗ bigSep Finset.univ fun t : Tr => dutyTok ER (recvCell t (peer t c)) 0 0)
/-- Its positions. -/
def poss (c : Dev nD) : sProp 𝕄 := bigSep Finset.univ fun i : CI => atPos ER (cell c i) 0 ∅ 0

/-- What the launch deals device `c`, -/
def G (c : Dev nD) : sProp 𝕄 :=
  iprop((bigSep Finset.univ fun i : CI => roundState ER (sched m) (cell c i) 0)
    ∗ ((bigSep Finset.univ fun i : CI => atPos ER (cell c i) 0 ∅ 0) ∗ (bigSep Finset.univ fun i : CI => reached ER (cell c i) 0)) ∗ toks c)
/-- and what becomes of it. -/
def G' (c : Dev nD) : sProp 𝕄 := iprop((∃ K, recs m K) ∗ poss (F := F) c ∗ pays (F := F) c ∗ gIdle (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (cell c i) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [BI.bigSep_univ_sum, BI.bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

theorem one_unit (Φ : Unit → sProp 𝕄) : bigSep Finset.univ Φ = Φ () := bigSep_singleton

theorem unscoped_eq (c : Dev nD) : (unscopedSems0 c : sProp 𝕄) = semVal (barCell c) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄)
    = iprop(gIdle (F := F) c ∗ (bigSep Finset.univ fun t : Tr => semVal (sendCell t c) 0) ∗ bigSep Finset.univ fun t : Tr => semVal (recvCell t c) 0) := by
  unfold Pipeline.ownSems0; rw [BI.bigSep_univ_sum, BI.bigSep_univ_sum, one_unit]; rfl

theorem cells_eq (c : Dev nD) (Φ : GSem nD τ sig → sProp 𝕄) : (bigSep Finset.univ fun i : CI => Φ (cell c i))
    = iprop(Φ (barCell c) ∗ (bigSep Finset.univ fun t : Tr => Φ (sendCell t c)) ∗ bigSep Finset.univ fun t : Tr => Φ (recvCell t c)) := by
  rw [BI.bigSep_univ_sum, BI.bigSep_univ_sum, one_unit]; rfl

theorem sems_zero (c : Dev nD) :
    iprop(Pipeline.ownSems0 (Ix := Unit) (Name := ℕ) (U := UU) (Lvl := ℕ) (Val := Elt F) (τ := τ) osem c ∗ unscopedSems0 c)
      ⊢ iprop((bigSep Finset.univ fun i : CI => semVal (cell c i) 0) ∗ gIdle (F := F) c : sProp 𝕄) := by
  rw [own_eq, unscoped_eq, cells_eq c fun g => semVal g 0]
  iintro ⟨⟨HG, HS, HR⟩, HB⟩
  isplitr [HG]
  · isplitl [HB]; · iexact HB
    isplitl [HS] <;> iassumption
  iexact HG

theorem alloc_cells (c : Dev nD) :
    iprop((bigSep Finset.univ fun i : CI => semVal (cell c i) 0) ∗ bigSep Finset.univ fun i : CI => roundState ER (sched m) (cell c i) 0)
      ⊢ (|={Set.univ}=> bigSep Finset.univ fun i : CI => iprop(∃ κ : ℕ, cellInv ER (sched m) κ (cell c i)) : sProp 𝕄) := by
  rw [← bigSep_sep']
  exact (bigSep_mono fun i _ => (Rounds.body_intro ER (sched m) (cell c i)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (cell c i)))
          ∗ (bigSep Finset.univ fun i : CI => reached ER (cell c i) 0) ∗ poss (F := F) c ∗ toks (F := F) c ∗ gIdle (F := F) c) := by
  unfold G
  iintro ⟨Hos, Hus, Hst, ⟨Hat, Hr⟩, Htok⟩
  ihave Hv := (sems_zero (F := F) c) $$ [Hos Hus]
  · isplitl [Hos] <;> iassumption
  icases Hv with ⟨Hv, HG⟩
  imod (alloc_cells m c) $$ [Hv Hst] with Hinv
  · isplitl [Hv] <;> iassumption
  imodintro
  isplitl [Hinv]; · iexact Hinv
  isplitl [Hr]; · iexact Hr
  isplitl [Hat]; · unfold poss; iexact Hat
  isplitl [Htok] <;> iassumption

/-- The device whose barrier signal `j` reaches device `c`. -/
def tgtB (j : Fin 4) (c : Dev nD) : Dev nD := match j with | 0 => zs c 1 | 1 => zs c 3 | 2 => xn c | 3 => yn c
theorem tgt_tgtB : ∀ (j : Fin 4) (c : Dev nD), tgt j (tgtB j c) = c := by decide +kernel
theorem tgtB_tgt : ∀ (j : Fin 4) (c : Dev nD), tgtB j (tgt j c) = c := by decide +kernel

theorem both_ways {I J : Type} [Fintype I] [Fintype J] (Φ : I → J → sProp 𝕄) : (bigSep Finset.univ fun j : J => bigSep Finset.univ fun i : I => Φ i j)
    = bigSep Finset.univ fun i : I => bigSep Finset.univ fun j : J => Φ i j := by
  rw [← BI.bigSep_univ_prod (fun x : J × I => Φ x.2 x.1), ← BI.bigSep_univ_prod (fun x : I × J => Φ x.1 x.2)]
  exact (BI.bigSep_univ_equiv (Equiv.prodComm I J) fun x : J × I => Φ x.2 x.1)

/-- A family over devices, each member dealt one step along its own permutation. -/
theorem deal_along {I : Type} [Fintype I] (f g : I → Dev nD → Dev nD) (h1 : ∀ i c, f i (g i c) = c) (h2 : ∀ i c, g i (f i c) = c)
    (Φ : I → Dev nD → sProp 𝕄) : (bigSep Finset.univ fun c : Dev nD => bigSep Finset.univ fun i : I => Φ i c)
      = bigSep Finset.univ fun c : Dev nD => bigSep Finset.univ fun i : I => Φ i (f i c) := by
  rw [both_ways, both_ways fun i c => Φ i (f i c)]
  exact bigSep_congr fun i _ => BI.bigSep_univ_equiv ⟨f i, g i, h2 i, h1 i⟩ (Φ i)

theorem toks_dealt : (bigSep Finset.univ fun c : Dev nD => toks (F := F) c) = bigSep Finset.univ fun c : Dev nD => pays (F := F) c := by
  unfold toks pays
  rw [bigSep_sep', bigSep_sep', bigSep_sep', bigSep_sep',
    deal_along tgt tgtB tgt_tgtB tgtB_tgt fun j c => (dutyTok ER (barCell c) 0 j : sProp 𝕄),
    deal_along peer back peer_back back_peer fun t c => (dutyTok ER (recvCell t c) 0 0 : sProp 𝕄)]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CI → ℕ) (c : Dev nD) : iprop(recs m K ∗ poss (F := F) c ∗ pays (F := F) c ∗ gIdle (F := F) c) ⊢ G' m c := by
  unfold G'
  iintro ⟨HR, H⟩
  isplitl [HR]; · iexists K; iexact HR
  iexact H

theorem recs_intro (K : Dev nD × CI → ℕ) : iprop((bigSep Finset.univ fun c : Dev nD => bigSep Finset.univ fun i : CI => cellInv ER (sched m) (K (c, i)) (cell c i))
    ∗ bigSep Finset.univ fun c : Dev nD => bigSep Finset.univ fun i : CI => reached ER (cell c i) 0) ⊢ recs m K := by
  unfold recs
  rw [← bigSep_sep']
  exact bigSep_mono fun c _ => by rw [← bigSep_sep']; exact BI.Entails.refl _

theorem names (K : Dev nD × CI → ℕ) : (bigSep Finset.univ fun ck : Dev nD × CI => (cellInv ER (sched m) (K ck) (cell ck.1 ck.2) : sProp 𝕄))
    = bigSep Finset.univ fun c : Dev nD => bigSep Finset.univ fun i : CI => cellInv ER (sched m) (K (c, i)) (cell c i) := BI.bigSep_univ_prod _

theorem regroup :
    (bigSep Finset.univ fun c : Dev nD => iprop((bigSep Finset.univ fun i : CI => iprop(∃ κ : ℕ, cellInv ER (sched m) κ (cell c i)))
          ∗ (bigSep Finset.univ fun i : CI => reached ER (cell c i) 0) ∗ poss (F := F) c ∗ toks (F := F) c ∗ gIdle (F := F) c) : sProp 𝕄)
      ⊢ bigSep Finset.univ (G' m) := by
  rw [bigSep_sep', bigSep_sep', bigSep_sep', bigSep_sep', toks_dealt,
    ← BI.bigSep_univ_prod (fun ck : Dev nD × CI => iprop(∃ κ : ℕ, cellInv ER (sched m) κ (cell ck.1 ck.2)))]
  iintro ⟨HI, HR, Hp, Ht, Hg⟩
  ihave HK := (BI.bigSep_exists_pi Finset.univ (fun (ck : Dev nD × CI) (κ : ℕ) => (cellInv ER (sched m) κ (cell ck.1 ck.2) : sProp 𝕄))) $$ HI
  icases HK with ⟨%K, HI⟩
  ihave HI := (Entails.of_eq (names m K)) $$ HI
  ihave Hrec := (recs_intro m K) $$ [HI HR]
  · isplitl [HI] <;> iassumption
  iapply (with_persistent (R := recs m K) fun c _ => G'_intro m K c)
  isplitl [Hrec]; · iexact Hrec
  iapply (Entails.of_eq (bigSep_sep' Finset.univ (fun c : Dev nD => poss (F := F) c) (fun c => iprop(pays (F := F) c ∗ gIdle (F := F) c))).symm)
  isplitl [Hp]; · iexact Hp
  iapply (Entails.of_eq (bigSep_sep' Finset.univ (fun c : Dev nD => pays (F := F) c) (fun c => gIdle (F := F) c)).symm)
  isplitl [Ht] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem fund_all : (ownU u₀ : sProp 𝕄) ⊢ |={Set.univ}=>
    iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  icases H with ⟨HX, -⟩
  imod (fund_cells m) $$ HX with HG
  imodintro
  isplitl [HP] <;> iassumption

/-! ## The credits -/

theorem cred_bar (c : Dev nD) (j : Fin 4) : (Pipeline.launchCred (fun d => tallyAt (barCell (tgt j d)) () 1) c : sProp 𝕄) ⊢ cred (tallyAt (barCell c) () 1) :=
  Pipeline.launchCred_tallyAt (.reg barS) (tgt j) (tgtB j) (tgt_tgtB j) (tgtB_tgt j) () 1 c

theorem cred_recv (c : Dev nD) (t : Tr) : (Pipeline.launchCred (fun d => tallyAt (recvCell t (peer t d)) () (amt t)) c : sProp 𝕄) ⊢ cred (tallyAt (recvCell t c) () (amt t)) :=
  Pipeline.launchCred_tallyAt (.dma (recvSem t)) (peer t) (back t) (peer_back t) (back_peer t) () (amt t) c

theorem bar_four (c : Dev nD) : (tallyAt (barCell c) () 4 : CellTallies nD τ sig Unit)
    = (((tallyAt (barCell c) () 1 + tallyAt (barCell c) () 1) + tallyAt (barCell c) () 1) + tallyAt (barCell c) () 1) := by
  simp only [tallyAt_add]

theorem creds (c : Dev nD) :
    (Pipeline.launchCred oweBar c : sProp 𝕄) ⊢ iprop(cred (tallyAt (barCell c) () 4) ∗ bigSep Finset.univ fun t : Tr => cred (tallyAt (recvCell t c) () (amt t))) := by
  have h0 : (Pipeline.launchCred (fun d => owe d 0) c : sProp 𝕄) ⊢ bigSep Finset.univ fun t : Tr => cred (tallyAt (recvCell t c) () (amt t)) := by
    unfold owe
    rw [show (Finset.univ.filter fun t : Tr => 0 ≤ ord t) = Finset.univ from Finset.filter_true_of_mem fun _ _ => Nat.zero_le _, Pipeline.launchCred_sum]
    exact bigSep_mono fun t _ => cred_recv c t
  unfold oweBar
  rw [Pipeline.launchCred_add, Pipeline.launchCred_add, Pipeline.launchCred_add, Pipeline.launchCred_add, bar_four]
  iintro ⟨⟨⟨⟨H, H3⟩, H2⟩, H1⟩, H0⟩
  ihave H := h0 $$ H
  ihave H0 := (cred_bar (F := F) c 0) $$ H0
  ihave H1 := (cred_bar (F := F) c 1) $$ H1
  ihave H2 := (cred_bar (F := F) c 2) $$ H2
  ihave H3 := (cred_bar (F := F) c 3) $$ H3
  isplitr [H]
  · iapply (cred_add _ _).2
    isplitr [H3]
    · iapply (cred_add _ _).2
      isplitr [H2]
      · iapply (cred_add _ _).2
        isplitl [H0] <;> iassumption
      iexact H2
    iexact H3
  iexact H

end Cert.Lookup

end
-- ==== Proof.Launch.lean ====
/-
# The run

The program's one call, run on every device from the launch's ghost state: `run_main`, for any float values, ends with
every device's result `full m`, its arguments unchanged and every semaphore at zero.
-/
module

public import proofs.«01_k».proof.Proof.Fund
public import Idealize.ShloMosaic.Lib.Pipeline.CollectiveSegs

@[expose] public section

noncomputable section

namespace Cert.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- The memory at launch: any contents, semaphores at zero. -/
abbrev s₀ : MemSt nD τ sig (Elt F) := ⟨m, fun _ => 0, ρ⟩

/-! ## The call's data -/

/-- What a device's body starts from, beside its staging buffers and landing slots. -/
def start (c : Dev nD) : sProp 𝕄 :=
  iprop(levAts L lv ∗ G' m c ∗ cred (tallyAt (barCell c) () 4) ∗ (bigSep Finset.univ fun t : Tr => cred (tallyAt (recvCell t c) () (amt t)))
    ∗ tabPts m c Finset.univ fullShare)

def Φ₀ (c : Dev nD) : sProp 𝕄 := iprop(start m c ∗ landing (F := F) c)
/-- What it leaves. -/
def Φ₁ (c : Dev nD) : sProp 𝕄 :=
  iprop(landing (F := F) c ∗ tabPts m c Finset.univ fullShare ∗ gIdle (F := F) c ∗ semVal (barCell c) 0
    ∗ bigSep Finset.univ fun t : Tr => iprop(semVal (sendCell t c) 0 ∗ semVal (recvCell t c) 0))

/-- The row numbers as staged. -/
def idsIn (c : Dev nD) : (cc0_stg0_0 : Ref sig .tc).ty.Contents (Elt F) :=
  (win0_0.blk (0 : Fin 1)).view.read (Elt F) (m ((c : Thread nD τ).loc main_arg0))

theorem idsIn_eq (c : Dev nD) : idsIn m c = idsOf m c := by
  funext i
  show m ((c : Thread nD τ).loc main_arg0) _ = m ((c : Thread nD τ).loc main_arg0) _
  congr 1
  funext a
  refine Fin.ext ?_
  show 0 * _ + 1 * (i a).val = (i a).val
  omega

def dats (_ : Fin 1) (c : Dev nD) : Pipeline.Dat τ (Elt F) Unit ℕ UU ℕ cfg0 c where
  A w := m ((cfg0.win w).arr.view.loc (c : Thread nD τ))
  after w _ := match w with
    | ⟨0, _⟩ => idsIn m c
    | ⟨1, _⟩ => full m
  Φ t := match t with
    | ⟨0, _⟩ => Φ₀ m c
    | ⟨_ + 1, _⟩ => Φ₁ m c
  q _ := fullShare
  owed t := match t with
    | ⟨0, _⟩ => oweBar c
    | ⟨_ + 1, _⟩ => 0

/-! ## The body -/

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (idsIn m c) ∗ stg c cc0_stg1_0 (full m))

/-- The tokens, positions and credits of the transfers, one transfer at a time. -/
theorem base_intro (c : Dev nD) : iprop((bigSep Finset.univ fun t : Tr => dutyTok ER (sendCell t c) 0 0) ∗ (bigSep Finset.univ fun t : Tr => dutyTok ER (recvCell t (peer t c)) 0 0)
      ∗ (bigSep Finset.univ fun t : Tr => atPos ER (sendCell t c) 0 ∅ 0) ∗ (bigSep Finset.univ fun t : Tr => atPos ER (recvCell t c) 0 ∅ 0)
      ∗ bigSep Finset.univ fun t : Tr => cred (tallyAt (recvCell t c) () (amt t))) ⊢ (bigSep Finset.univ (base (F := F) c) : sProp 𝕄) := by
  rw [← bigSep_sep', ← bigSep_sep', ← bigSep_sep', ← bigSep_sep']
  exact bigSep_mono fun t _ => by unfold base; exact BI.Entails.refl _

theorem begins_intro (c : Dev nD) (f : OutB F) :
    iprop(start m c ∗ landing (F := F) c ∗ owesAny (F := F) c (oweBar c) ∗ idsPts m c ∗ reg c Finset.univ fullShare f) ⊢ iprop(∃ K, begins m K c f) := by
  unfold start G' poss pays begins idle
  rw [cells_eq c fun g => atPos ER g 0 ∅ 0]
  iintro ⟨⟨Hlev, ⟨⟨%K, Hrec⟩, ⟨PB, PS, PR⟩, ⟨TB, TS, TR⟩, Hg⟩, CB, CR, Htab⟩, Hland, HO, Hid, Hr⟩
  ihave HB := (base_intro (F := F) c) $$ [TS TR PS PR CR]
  · isplitl [TS]; · iexact TS
    isplitl [TR]; · iexact TR
    isplitl [PS]; · iexact PS
    isplitl [PR] <;> iassumption
  iexists K
  isplitl [Hrec]; · iexact Hrec
  isplitl [Hlev]; · iexact Hlev
  isplitl [HO]; · iexact HO
  isplitl [TB]; · iexact TB
  isplitl [PB]; · iexact PB
  isplitl [CB]; · iexact CB
  isplitl [HB]; · iexact HB
  isplitl [Hland]; · iexact Hland
  isplitl [Hr]; · iexact Hr
  isplitl [Hid]; · iexact Hid
  isplitl [Htab] <;> iassumption

theorem body_sound (c : Dev nD) : bodyPre m c ⊢ wpB c (at_ (cc0_body (F := F))) fun _ => bodyPost m c := by
  unfold bodyPre Φ₀
  iintro ⟨⟨Hs, Hland⟩, Ho, ⟨%d0, %g0, %hg0, Hx⟩, ⟨%d1, %g1, %hg1, Hout⟩⟩
  have hx : g0 = idsIn m c := by
    rw [hg0]; unfold Pipeline.Dat.before; rw [if_pos (fetch_0 t0_0)]; rfl
  subst hx
  unfold Pipeline.Dat.owesAt Pipeline.owesWithin
  icases Ho with ⟨%W, %hW, HO⟩
  ihave Hx := (show (((c : Thread nD τ).loc cc0_stg0_0) ↦{fullShare} idsIn m c : sProp 𝕄) ⊢ idsPts m c from by rw [idsIn_eq]; exact BI.Entails.refl _) $$ Hx
  ihave Hout := (show (((c : Thread nD τ).loc cc0_stg1_0) ↦{fullShare} g1 : sProp 𝕄) ⊢ reg c Finset.univ fullShare g1 from BI.Entails.refl _) $$ Hout
  ihave HO := (show (owes (c : Thread nD τ) ((dats m 0 c).owed t0_0.castSucc) W : sProp 𝕄) ⊢ owesAny (F := F) c (oweBar c) from by
    unfold owesAny; iintro H; iexists W; iexact H) $$ HO
  ihave H := (begins_intro m c g1) $$ [Hs Hland HO Hx Hout]
  · isplitl [Hs]; · iexact Hs
    isplitl [Hland]; · iexact Hland
    isplitl [HO]; · iexact HO
    isplitl [Hx] <;> iassumption
  icases H with ⟨%K, H⟩
  iapply (body_run m K c g1) $$ H
  unfold ends bodyPost Φ₁ idle owesAny
  iintro ⟨⟨%W', HO⟩, Hr, Hland, ⟨Hid, Htab, Hg⟩, HB, HT⟩
  isplitl [Hland Htab Hg HB HT]
  · isplitl [Hland]; · iexact Hland
    isplitl [Htab]; · iexact Htab
    isplitl [Hg]; · iexact Hg
    isplitl [HB] <;> iassumption
  isplitl [HO]
  · unfold Pipeline.Dat.owesAt Pipeline.owesWithin
    iexists W'
    isplitr; · ipureintro; exact fun _ _ => Or.inl trivial
    iexact HO
  isplitl [Hid]
  · iexists _
    isplitr; · ipureintro; rfl
    iapply (show idsPts m c ⊢ (((c : Thread nD τ).loc cc0_stg0_0) ↦{fullShare} idsIn m c : sProp 𝕄) from by rw [idsIn_eq]; exact BI.Entails.refl _)
    iexact Hid
  · iexists _
    isplitr; · ipureintro; rfl
    iapply (show reg c Finset.univ fullShare (full m) ⊢ (((c : Thread nD τ).loc cc0_stg1_0) ↦{fullShare} full m : sProp 𝕄) from BI.Entails.refl _)
    iexact Hr

set_option maxRecDepth 4000 in
theorem body_obligation (c : Dev nD) : Pipeline.BodyObligation (dats m 0 c) (defs₀ (F := F)) 𝒱₀ () Set.univ := fun t => by
  rw [fin_N0 t]
  rw [bigSep_W0, bigSep_W0]
  simp only [owns_whole_eq]
  exact body_sound m c

/-! ## The launch -/

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred oweBar c ∗ prngReg c (ρ c) ∗ G' m c)
      ⊢ |={Set.univ}=> iprop(start m c ∗ emp) := by
  rw [Pipeline.unscopedRestP_none, unscopedRest0_eq]
  iintro ⟨Htab, Hlev, Hcr, -, HG⟩
  ihave Hc := (creds (F := F) c) $$ Hcr
  icases Hc with ⟨CB, CR⟩
  imodintro
  unfold start
  isplitl
  · isplitl [Hlev]; · iexact Hlev
    isplitl [HG]; · iexact HG
    isplitl [CB]; · iexact CB
    isplitl [CR]; · iexact CR
    iapply (show (((c : Thread nD τ).loc main_arg1) ↦{fullShare} m ((c : Thread nD τ).loc main_arg1) : sProp 𝕄) ⊢ tabPts m c Finset.univ fullShare from BI.Entails.refl _)
    iexact Htab
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ landing
  iintro ⟨Hs, -, Hr⟩
  isplitl [Hs] <;> iassumption

theorem leave (c : Dev nD) :
    (dats m 0 c).Φ (Fin.last cfg0.N) ⊢ iprop((unscopedSems0 c ∗ tabPts m c Finset.univ fullShare) ∗ Pipeline.ownSems0 osem c ∗ Pipeline.scopedRest cfg0.spec c) := by
  rw [show (dats m 0 c).Φ (Fin.last cfg0.N) = Φ₁ m c from rfl, scopedRest0_eq, own_eq, unscoped_eq]
  unfold Φ₁ landing
  rw [bigSep_sep']
  iintro ⟨Hland, Htab, Hg, HB, HS, HR⟩
  isplitl [HB Htab]
  · isplitl [HB] <;> iassumption
  isplitl [Hg HS HR]
  · isplitl [Hg]; · iexact Hg
    isplitl [HS] <;> iassumption
  iexact Hland

/-- The staging's semaphores lie below everything that is owed. -/
theorem mayWait_stage (c : Dev nD) (sm : SemLoc sig) (hs : role sm = .other) (O : CellTallies nD τ sig Unit) (hO : O = oweBar c ∨ O = 0) :
    (levAts L lv : sProp 𝕄) ⊢ MayWait (c : Thread nD τ) sm () O :=
  mayWait_of c sm O fun g u hg => by
    rcases hO with rfl | rfl
    · have hb : ∀ j : Fin 4, 0 < tallyAt (barCell (tgt j c)) () 1 g u → g.1.2 = .tc ∧ lvR (role sm) < lv g u := fun j h => by
        rw [tally_pos h, hs]
        refine ⟨rfl, ?_⟩
        show 0 < lvR (role (.reg barS)); rw [role_bar]; exact Nat.one_pos
      unfold oweBar at hg
      simp only [Pi.add_apply, Finsupp.add_apply] at hg
      by_cases h0 : 0 < tallyAt (barCell (tgt 0 c)) () 1 g u; · exact hb 0 h0
      by_cases h1 : 0 < tallyAt (barCell (tgt 1 c)) () 1 g u; · exact hb 1 h1
      by_cases h2 : 0 < tallyAt (barCell (tgt 2 c)) () 1 g u; · exact hb 2 h2
      by_cases h3 : 0 < tallyAt (barCell (tgt 3 c)) () 1 g u; · exact hb 3 h3
      obtain ⟨t, -, rfl⟩ := owe_pos (c := c) (a := 0) (g := g) (u := u) (by omega)
      refine ⟨rfl, ?_⟩
      rw [hs]; show 0 < lvR (role (.dma (recvSem t))); rw [role_recv]; exact Nat.succ_pos _
    · exact absurd hg (Nat.lt_irrefl 0)

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run ends with. -/
def Ends (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = (show Buf (Elt F) ((c : Thread nD τ).loc main_v1) from full m)

theorem final_ids (c : Dev nD) : (dats m 0 c).arrAt (0 : Fin 2) cfg0.N = m (win0_0.arr.view.loc (c : Thread nD τ)) :=
  (dats m 0 c).arrAt_in (0 : Fin 2) rfl _

theorem final_out (c : Dev nD) : (dats m 0 c).arrAt (1 : Fin 2) cfg0.N = (show Buf (Elt F) ((c : Thread nD τ).loc main_v1) from full m) := by
  have h : (win0_1.blk (0 : Fin 1)).view.read (Elt F) ((dats m 0 c).arrAt (1 : Fin 2) cfg0.N) = full m := by
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  funext i
  have hi := congrFun h i
  refine Eq.trans ?_ hi
  show (dats m 0 c).arrAt (1 : Fin 2) cfg0.N i = (dats m 0 c).arrAt (1 : Fin 2) cfg0.N _
  congr 1
  funext a
  refine Fin.ext ?_
  show (i a).val = 0 * _ + 1 * (i a).val
  omega

set_option maxRecDepth 8000 in
/-- From any memory with semaphores at zero, every fair execution ends, with every device's result `full m`, the
    arguments unchanged and the semaphores at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := oweBar) (howed₀ := fun _ => rfl) (howedN := fun _ => rfl)
    (L := L) (lv := lv) (hL := L_of_ne) (hwaits := waits m)
    (G := G m) (G' := G' m) (u₀ := u₀) (hu₀ := fund_all m) (hglob := glob m)
    (hA := fun _ _ => rfl) (hpf := fun _ k => k.elim0)
    (X := start m) (Y := fun c => iprop(unscopedSems0 c ∗ tabPts m c Finset.univ fullShare)) (Z := fun _ => iprop(emp))
    (hX := start_intro m ρ) (hin := enter m) (hout := leave m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold tabPts
      iintro ⟨⟨Hu, Ht⟩, -, HSI⟩
      icombine HSI Ht gives %ht
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ ht, hz⟩
      iexact HSI)
    (hQ := fun _ h hs => ⟨fun c => ⟨((h c).1 (0 : Fin 2)).trans (final_ids m c), (h c).2.2.1, ((h c).1 (1 : Fin 2)).trans (final_out m c)⟩,
      sem_eq_zero hs fun c => (h c).2.2.2⟩)

end Cert.Lookup

end
-- ==== Proof.Frames.lean ====
/- The frames: each program ends, with its arguments as they were and every semaphore at zero. The run of
   `Launch.lean` holds for every kind of float value, so it gives the frame of the kernel as printed (floats
   as bit patterns) and of the same kernel over exact reals. The reference is a list of host operations. -/
module

public import proofs.«01_k».proof.Defs
public import proofs.«01_k».proof.Proof.Gen.Kernel
public import proofs.«01_k».proof.Proof.Gen.ReferenceIdeal.Run
public import proofs.«01_k».proof.Proof.Gen.Pre_ids_in_vocabulary_KernelIdeal
public import proofs.«01_k».proof.Proof.Gen.Pre_ids_in_vocabulary_ReferenceIdeal
public import proofs.«01_k».proof.Proof.Launch

@[expose] public section

noncomputable section

namespace Cert.Lookup

open Idealize.ShloMosaic Idealize.ShloMosaic.TcCoe Idealize.SL.Sem

/-- The kernel over exact reals, from any memory. -/
theorem frame_exact : Cert.quiescent_KernelIdeal := fun m g _ =>
  (θ_run Cert.KernelIdeal.defs _ _).mono (fun _ h => ⟨fun c => ⟨(h.1 c).1, (h.1 c).2.1⟩, h.2⟩) (run_main (F := Ideal) m g)

/-- The same, from the memories of the value claim. -/
theorem frame_exact_pre : Cert.quiescent_KernelIdeal_pre_ids_in_vocabulary_KernelIdeal := fun m g _ =>
  frame_exact m g trivial

/-- The kernel over bit patterns, read as its own text. -/
theorem frame_bits (m : (ℓ : Loc Cert.KernelIdeal.nD Cert.KernelIdeal.τ Cert.KernelIdeal.sig) → Buf (Elt Bits) ℓ)
    (g : Dev Cert.KernelIdeal.nD → PrngReg) :
    θ_run (Cert.KernelIdeal.defs (F := Bits)) (onTc (τ := Cert.KernelIdeal.τ) (Cert.KernelIdeal.main (F := Bits))) ⟨m, fun _ => 0, g⟩
      fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0 :=
  (θ_run Cert.KernelIdeal.defs _ _).mono (fun _ h => ⟨fun c => ⟨(h.1 c).1, (h.1 c).2.1⟩, h.2⟩) (run_main (F := Bits) m g)

/-! The two texts are the same, so the run of one is the run of the other. -/

theorem bodies_printed : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  match l, x with
  | ⟨0, _⟩, (t, s) => rfl

theorem defs_printed : Cert.Kernel.defs (F := Bits) = Cert.KernelIdeal.defs (F := Bits) := by
  unfold Cert.Kernel.defs Cert.KernelIdeal.defs
  rw [bodies_printed]
  rfl

/-- The kernel as printed. -/
theorem frame_printed : Cert.quiescent_Kernel := by
  intro m g _
  rw [defs_printed]
  exact frame_bits m g

/-- The reference: it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_ids_in_vocabulary_ReferenceIdeal := fun m g _ =>
  frame_reference m g trivial

end Cert.Lookup

end
-- ==== Proof.Value.lean ====
/- The result is the reference's, over exact reals. Device `dv b k` holds the rows `8192 (k % 4) ..
   8192 (k % 4) + 8192` of the whole table, so of the four terms of a sum all but one are zero, and the one
   left is the table's own row. -/
module

public import proofs.«01_k».proof.Proof.Frames
public import Idealize.ShloMosaic.Lib.WordCmp

@[expose] public section

noncomputable section

namespace Cert.Lookup

open Cert.KernelIdeal Cert.KernelIdeal.Gen
open Idealize.ShloMosaic Idealize.ShloMosaic.TcCoe Idealize.SL.Sem

/-- The whole table. -/
abbrev Table : Type := Cert.ReferenceIdeal.S32768x2048.Idx → EReal

/-- A place in the list of row numbers, in a device's slice and in the whole table. -/
def inIds (r : Fin 4096) : S4096.Idx := fun | 0 => r
def inSlice (r : Fin 8192) (j : Fin 2048) : S8192x2048.Idx := fun | 0 => r | 1 => j
def inTable (r : Fin 32768) (j : Fin 2048) : Cert.ReferenceIdeal.S32768x2048.Idx := fun | 0 => r | 1 => j

/-! ## Row numbers -/

/-- A row number that passes the two signed comparisons is below the table's length as a word. -/
theorem small_of_cmp (v : BitVec 32) (h0 : (0 : ℤ) ≤ v.toInt) (h1 : v.toInt < 32768) : v.toNat < 32768 := by
  rw [BitVec.toInt_eq_toNat_cond] at h0 h1
  split at h0 <;> omega

theorem toInt_small (v : BitVec 32) (h : v.toNat < 32768) : v.toInt = (v.toNat : ℤ) := by
  rw [BitVec.toInt_eq_toNat_cond]
  split <;> omega

/-- On the device of quarter `c % 4` the row number is in the slice just when the quarter is its own, and
    then it is the remainder. -/
theorem rowOf_small (c : Dev nD) (v : BitVec 32) (h : v.toNat < 32768) :
    (rowOf c v < 8192 ↔ v.toNat / 8192 = c.val % 4) ∧ (rowOf c v < 8192 → rowOf c v = v.toNat % 8192) := by
  have hc : c.val % 4 < 4 := Nat.mod_lt _ (by decide)
  unfold rowOf
  rw [BitVec.toNat_sub, BitVec.toNat_ofNat]
  generalize c.val % 4 = z at hc ⊢
  constructor
  · constructor <;> intro <;> omega
  · omega

/-! ## The pieces of the table -/

/-- A device's slice of the whole table. -/
def sliceOf (E : Table) (c : Dev nD) : S8192x2048.Idx → EReal :=
  Layout.blockN ⟨2, ![8192, 2048]⟩ ⟨2, ![32768, 2048]⟩ (Layout.meshBlock [2, 2, 4] ![[2], []] c) E

/-- An element of a device's slice is the whole table's, as many rows further as the slice starts. -/
theorem slice_apply (E : Table) (c : Dev nD) (r : Fin 8192) (j : Fin 2048) (k : Fin 32768)
    (hk : k.val = 8192 * (c.val % 4) + r.val) :
    sliceOf E c (inSlice r j) = E (inTable k j) := by
  unfold sliceOf
  rw [Layout.blockN_apply]
  congr 1
  funext a
  refine Fin.ext ?_
  rw [Layout.TilesN.idx_val]
  match a with
  | 0 =>
    show (c.val / 1 % 4 * 1 + 0) * 8192 + r.val = k.val
    omega
  | 1 =>
    show 0 * 2048 + j.val = j.val
    omega

section
variable (m : (ℓ : Loc nD τ sig) → Buf (Elt Ideal) ℓ) (ids : S4096.Idx → BitVec 32) (E : Table)

/-- What the reference holds at an element, its row number in range. -/
def look (h : ∀ j, (ids j).toNat < 32768) (i : S4096x2048.Idx) : EReal :=
  E (inTable ⟨(ids (inIds (i 0))).toNat, h _⟩ (i 1))

theorem zeroE_eq : (zeroE (F := Ideal) : EReal) = 0 := by
  show Ideal.ofBits .f32 0x00000000#32 = 0
  simp [Ideal.ofBits, Ideal.ieee]

theorem part_at (c : Dev nD) (i : S4096x2048.Idx) :
    (part m c i : EReal) = if h : rowOf c (idsOf m c (inIds (i 0))) < 8192 then tabOf m c (inSlice ⟨_, h⟩ (i 1)) else zeroE (F := Ideal) := by
  rfl

/-- What a device gathers: the table's row if the row is its own, else zero. -/
theorem part_eq (hi : ∀ c, idsOf m c = ids)
    (hE : ∀ c : Dev nD, tabOf m c = sliceOf E c)
    (h : ∀ j, (ids j).toNat < 32768) (c : Dev nD) (i : S4096x2048.Idx) :
    (part m c i : EReal) = if (ids (inIds (i 0))).toNat / 8192 = c.val % 4 then look ids E h i else 0 := by
  have hr := rowOf_small c (ids (inIds (i 0))) (h _)
  rw [part_at, hi c]
  by_cases hk : rowOf c (ids (inIds (i 0))) < 8192
  · rw [dif_pos hk, if_pos (hr.1.1 hk), hE c]
    refine slice_apply E c ⟨_, hk⟩ (i 1) ⟨(ids (inIds (i 0))).toNat, h _⟩ ?_
    show (ids (inIds (i 0))).toNat = 8192 * (c.val % 4) + rowOf c _
    have := hr.1.1 hk
    have := hr.2 hk
    omega
  · rw [dif_neg hk, if_neg fun e => hk (hr.1.2 e), zeroE_eq]

theorem dv_quarter (b k : ℕ) : (dv b k).val % 4 = k % 4 := by
  show (4 * b + k % 4) % 16 % 4 = k % 4
  omega

/-- The sum of the four devices is the table's row. -/
theorem full_eq (hi : ∀ c, idsOf m c = ids)
    (hE : ∀ c : Dev nD, tabOf m c = sliceOf E c)
    (h : ∀ j, (ids j).toNat < 32768) (i : S4096x2048.Idx) : (full m i : EReal) = look ids E h i := by
  have hp := fun k => part_eq m ids E hi hE h (dv ((i 1).val / 512) k) i
  simp only [dv_quarter] at hp
  show (part m (dv _ (_ + 3)) i + (part m (dv _ (_ + 2)) i + (part m (dv _ (_ + 1)) i + part m (dv _ _) i : EReal) : EReal) : EReal) = _
  rw [hp, hp, hp, hp]
  have hq : (ids (inIds (i 0))).toNat / 8192 < 4 := by have := h (inIds (i 0)); omega
  generalize (ids (inIds (i 0))).toNat / 8192 = q at hq
  generalize (i 0).val / 1024 = k
  have h4 : k % 4 < 4 := Nat.mod_lt _ (by decide)
  by_cases e0 : q = k % 4
  · rw [if_pos e0, if_neg (by omega), if_neg (by omega), if_neg (by omega)]; simp
  by_cases e1 : q = (k + 1) % 4
  · rw [if_neg e0, if_pos e1, if_neg (by omega), if_neg (by omega)]; simp
  by_cases e2 : q = (k + 2) % 4
  · rw [if_neg e0, if_neg e1, if_pos e2, if_neg (by omega)]; simp
  · rw [if_neg e0, if_neg e1, if_neg e2, if_pos (by omega)]; simp

end

/-! ## The reference -/

/-- Taking rows off a table by a column of row numbers, read at an element: the numbers in range, no
    clamping is done. -/
theorem take_apply (E : Table) (x : Cert.ReferenceIdeal.S4096x1.Idx → BitVec 32) (i : S4096x2048.Idx)
    (v : BitVec 32) (hx : x (fun | 0 => i 0 | 1 => (0 : Fin 1)) = v) (hv : v.toNat < 32768) :
    Host.gather Cert.ReferenceIdeal.gather_S32768x2048_S4096x1_S4096x2048_1_0_n_n_0_1_12048 E x i
      = E (inTable ⟨v.toNat, hv⟩ (i 1)) := by
  set d := Cert.ReferenceIdeal.gather_S32768x2048_S4096x1_S4096x2048_1_0_n_n_0_1_12048 with hd
  unfold Host.gather
  congr 1
  funext a
  refine Fin.ext ?_
  show d.start i x a + d.batchCoord i a + d.offCoord i a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    have hm : (0 : Fin 2) ∈ d.startIndexMap := List.mem_singleton.mpr rfl
    have hs : d.siIdx i ⟨List.idxOf (0 : Fin 2) d.startIndexMap, List.idxOf_lt_length_iff.2 hm⟩
        = fun | 0 => i 0 | 1 => (0 : Fin 1) := by
      funext b
      refine Fin.ext ?_
      match b with
      | 0 => rfl
      | 1 => rfl
    unfold GatherDims.start
    rw [dif_pos hm, hs, hx, toInt_small v hv]
    show min ((v.toNat : ℤ).toNat) (32768 - 1) + 0 + 0 = v.toNat
    omega
  | 1 =>
    unfold GatherDims.start
    rw [dif_neg (by rw [hd]; decide)]
    show 0 + 0 + d.offCoord i 1 = (i 1).val
    unfold GatherDims.offCoord
    rw [dif_pos (by rw [hd]; decide), Nat.zero_add]
    rfl

open Cert.ReferenceIdeal.Gen in
/-- The column the reference takes by: a row number below zero would count from the table's end; none is. -/
theorem column_apply (x : S4096.Idx → BitVec 32) (hx : ∀ j, (x j).toNat < 32768) (i : S4096x2048.Idx) :
    broadcastInDim Cert.ReferenceIdeal.S4096x1 ![0] bcast_S4096_S4096x1_0
        (select (cmpi .slt x (broadcastInDim S4096 ![] bcast_S_S4096 (constantI S_ 32 0#32)))
          (addi x (broadcastInDim S4096 ![] bcast_S_S4096 (constantI S_ 32 32768#32))) x)
        (fun | 0 => i 0 | 1 => (0 : Fin 1))
      = x (inIds (i 0)) := by
  refine (broadcastInDim_apply _ _ _ _ (inIds (i 0)) fun a => ?_).trans ?_
  · match a with
    | 0 => rfl
  have e : IntOp.cmpi .slt (x (inIds (i 0))) 0#32 = 0#1 := by
    have := toInt_small _ (hx (inIds (i 0)))
    rw [WordCmp.cmpi_slt_eq, WordCmp.ofBool_eq_zero_iff, decide_eq_false_iff_not]
    show ¬ (x (inIds (i 0))).toInt < 0
    omega
  show (if IntOp.cmpi .slt (x (inIds (i 0))) 0#32 = 1#1 then _ else x (inIds (i 0))) = _
  rw [e]
  rfl

/-! ## The precondition -/

theorem ids_small (m : (ℓ : Loc nD τ sig) → Buf (Elt Ideal) ℓ) (h : Cert.Pre_KernelIdeal_ids_in_vocabulary_KernelIdeal m)
    (c : Dev nD) (j : S4096.Idx) : (idsOf m c j).toNat < 32768 := by
  have e : IntOp.andi (IntOp.cmpi .sge (idsOf m c j) 0#32) (IntOp.cmpi .slt (idsOf m c j) 32768#32) = 1#1 :=
    congrFun (h c) j
  rw [WordCmp.cmpi_sge_eq, WordCmp.cmpi_slt_eq, WordCmp.andi_ofBool, WordCmp.ofBool_eq_one_iff, Bool.and_eq_true, decide_eq_true_iff, decide_eq_true_iff] at e
  exact small_of_cmp _ e.1 e.2

/-- The two programs leave the same result on every device. -/
theorem lookup_exact : Cert.algebraic_KernelIdeal_ReferenceIdeal_pre_ids_in_vocabulary_KernelIdeal := by
  intro m g m' g' hpre hag
  have hs := ids_small m hpre
  set ids : S4096.Idx → BitVec 32 := idsOf m 0 with hids
  have hi : ∀ c, idsOf m c = ids := fun c => (hag c).1.trans (hag 0).1.symm
  refine ⟨full m, (θ_run Cert.KernelIdeal.defs _ _).mono (fun _ h c => ⟨(h.1 c).2.2, (h.1 c).1, (h.1 c).2.1⟩) (run_main (F := Ideal) m g),
    (θ_run Cert.ReferenceIdeal.defs _ _).mono (fun _ h => ⟨(h 0).1.trans ?_, (h 0).2⟩) (Cert.ReferenceIdeal.Value.run (F := Ideal) m' g')⟩
  funext i
  rw [← (hag 0).1]
  refine (take_apply _ _ i (ids (inIds (i 0))) ?_ (hs 0 _)).trans (full_eq m ids _ hi (fun c => (hag c).2) (hs 0) i).symm
  exact column_apply _ (hs 0) i

end Cert.Lookup

end
-- ==== Proof.lean ====
/- The proof of the claims of the statement (Defs.lean): the frames of the kernel as printed and of the kernel
   over exact reals, the frame of the reference, and the equation between the kernel's result and the
   reference's. The run of the kernel is proved once for every kind of float value (Proof/Launch.lean), so
   both frames and the equation read it (Proof/Frames.lean, Proof/Value.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_vocabulary_KernelIdeal
public import proofs.«01_k».proof.Proof.Gen.Pre_ids_in_vocabulary_ReferenceIdeal
public import proofs.«01_k».proof.Proof.Frames
public import proofs.«01_k».proof.Proof.Value

@[expose] public section

noncomputable section

namespace Cert.Proof

open Cert.Lookup

theorem claim : Cert.Claim :=
  ⟨Cert.Kernel.Gen.facts, Cert.KernelIdeal.Gen.facts, Cert.ReferenceIdeal.Gen.facts,
    Cert.Pre_ids_in_vocabulary_KernelIdeal.Gen.facts, Cert.Pre_ids_in_vocabulary_ReferenceIdeal.Gen.facts,
    frame_printed, frame_exact, frame_exact_pre, frame_reference, frame_reference_pre, trivial, lookup_exact⟩

end Cert.Proof

end
